-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 24576]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![24576, 1536]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S1536x512 : Shape := ⟨2, ![1536, 512]⟩
abbrev S36 : Shape := ⟨1, ![36]⟩
abbrev S_ : Shape := ⟨0, ![]⟩
abbrev S768x768 : Shape := ⟨2, ![768, 768]⟩
abbrev S768x512 : Shape := ⟨2, ![768, 512]⟩
abbrev S1 : Shape := ⟨1, ![1]⟩
abbrev S384x512 : Shape := ⟨2, ![384, 512]⟩
abbrev S192x512 : Shape := ⟨2, ![192, 512]⟩
abbrev S48x512 : Shape := ⟨2, ![48, 512]⟩

abbrev nBuf : Space → Nat
  | .hbm => 3
  | .vmem => 13
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S1536x1536, .f32⟩
  | .local _ .vmem, ⟨0, _⟩ => ⟨S1536x768, .bf16⟩
  | .local _ .vmem, ⟨1, _⟩ => ⟨S768x1536, .bf16⟩
  | .local _ .vmem, ⟨2, _⟩ => ⟨S1536x1536, .f32⟩
  | .local _ .vmem, ⟨3, _⟩ => ⟨S1536x1536, .f32⟩
  | .local _ .vmem, ⟨4, _⟩ => ⟨S1536x512, .bf16⟩
  | .local _ .vmem, ⟨5, _⟩ => ⟨S1536x512, .bf16⟩
  | .local _ .vmem, ⟨6, _⟩ => ⟨S1536x512, .bf16⟩
  | .local _ .vmem, ⟨7, _⟩ => ⟨S1536x512, .bf16⟩
  | .local _ .vmem, ⟨8, _⟩ => ⟨S1536x512, .bf16⟩
  | .local _ .vmem, ⟨9, _⟩ => ⟨S1536x512, .bf16⟩
  | .local _ .vmem, ⟨10, _⟩ => ⟨S1536x512, .bf16⟩
  | .local _ .vmem, ⟨11, _⟩ => ⟨S1536x512, .bf16⟩
  | .local _ .vmem, ⟨12, _⟩ => ⟨S1536x512, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 2 → Bool
  | ⟨0, _⟩ => true
  | ⟨1, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 2 75 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v19 : BitVec 32 := Scalar.xori v2 c20_i32
  let c1_i32_16 : BitVec 32 := 1#32
  let v20 : BitVec 32 := Scalar.muli v19 c1_i32_16
  let v21 : BitVec 32 := Scalar.addi c0_i32_17 v20
  v21.toNat
def k0_off1 (d0 : Dev nD) : Fin 2 → Nat :=
  let c1_i32_20 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let v25 : BitVec 32 := Scalar.subi c1_i32_20 v24
  let c768_i32 : BitVec 32 := 768#32
  let v26 : BitVec 32 := Scalar.muli v25 c768_i32
  let v28 : Index := Scalar.indexCast v26
  let c0 : Index := 0#32
  ![v28.toNat, 0]
def k0_off2 (d0 : Dev nD) : Fin 2 → Nat :=
  let c1_i32_20 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let v25 : BitVec 32 := Scalar.subi c1_i32_20 v24
  let c768_i32 : BitVec 32 := 768#32
  let v26 : BitVec 32 := Scalar.muli v25 c768_i32
  let v34 : Index := Scalar.indexCast v26
  let c0_24 : Index := 0#32
  ![v34.toNat, 0]
def k0_off3 (d0 : Dev nD) : Fin 2 → Nat :=
  let c1_i32_20 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let v25 : BitVec 32 := Scalar.subi c1_i32_20 v24
  let c768_i32 : BitVec 32 := 768#32
  let v26 : BitVec 32 := Scalar.muli v25 c768_i32
  let v41 : Index := Scalar.indexCast v26
  let c0_26 : Index := 0#32
  ![v41.toNat, 0]
def k0_off4 (d0 : Dev nD) : Fin 2 → Nat :=
  let c1_i32_20 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let v25 : BitVec 32 := Scalar.subi c1_i32_20 v24
  let c768_i32 : BitVec 32 := 768#32
  let v26 : BitVec 32 := Scalar.muli v25 c768_i32
  let c0_i32_34 : BitVec 32 := 0#32
  ![v26.toNat, 0]
def k0_dev7 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v45 : BitVec 32 := Scalar.xori v2 c1_i32_27
  let c1_i32_30 : BitVec 32 := 1#32
  let v46 : BitVec 32 := Scalar.muli v45 c1_i32_30
  let v47 : BitVec 32 := Scalar.addi c0_i32_31 v46
  v47.toNat
def k0_off5 (d0 : Dev nD) (c3_i32_35 : BitVec 32) : Fin 2 → Nat :=
  let c1_i32_37 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v54 : BitVec 32 := Scalar.shrsi v2 c3_i32_35
  let c1_i32_36 : BitVec 32 := 1#32
  let v55 : BitVec 32 := Scalar.andi v54 c1_i32_36
  let v56 : BitVec 32 := Scalar.subi c1_i32_37 v55
  let c768_i32_38 : BitVec 32 := 768#32
  let v57 : BitVec 32 := Scalar.muli v56 c768_i32_38
  let v59 : Index := Scalar.indexCast v57
  let c0_40 : Index := 0#32
  ![v59.toNat, 0]
def k0_off6 (d0 : Dev nD) : Fin 2 → Nat :=
  let c1_i32_37 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let v56 : BitVec 32 := Scalar.subi c1_i32_37 v55
  let c768_i32_38 : BitVec 32 := 768#32
  let v57 : BitVec 32 := Scalar.muli v56 c768_i32_38
  let v65 : Index := Scalar.indexCast v57
  let c512_43 : Index := 512#32
  ![v65.toNat, 512]
def k0_off7 (d0 : Dev nD) (c3_i32_35 : BitVec 32) : Fin 2 → Nat :=
  let c1_i32_37 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v54 : BitVec 32 := Scalar.shrsi v2 c3_i32_35
  let c1_i32_36 : BitVec 32 := 1#32
  let v55 : BitVec 32 := Scalar.andi v54 c1_i32_36
  let v56 : BitVec 32 := Scalar.subi c1_i32_37 v55
  let c768_i32_38 : BitVec 32 := 768#32
  let v57 : BitVec 32 := Scalar.muli v56 c768_i32_38
  let v72 : Index := Scalar.indexCast v57
  let c0_45 : Index := 0#32
  ![v72.toNat, 0]
def k0_off8 (d0 : Dev nD) (c3_i32_35 : BitVec 32) : Fin 2 → Nat :=
  let c1_i32_37 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v54 : BitVec 32 := Scalar.shrsi v2 c3_i32_35
  let c1_i32_36 : BitVec 32 := 1#32
  let v55 : BitVec 32 := Scalar.andi v54 c1_i32_36
  let v56 : BitVec 32 := Scalar.subi c1_i32_37 v55
  let c768_i32_38 : BitVec 32 := 768#32
  let v57 : BitVec 32 := Scalar.muli v56 c768_i32_38
  let c0_i32_52 : BitVec 32 := 0#32
  ![v57.toNat, 0]
def k0_dev8 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_46 : BitVec 32 := 8#32
  let v76 : BitVec 32 := Scalar.xori v2 c8_i32_46
  let c1_i32_48 : BitVec 32 := 1#32
  let v77 : BitVec 32 := Scalar.muli v76 c1_i32_48
  let v78 : BitVec 32 := Scalar.addi c0_i32_49 v77
  v78.toNat
def k0_off9 (d0 : Dev nD) : Fin 2 → Nat :=
  let c1_i32_55 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let v87 : BitVec 32 := Scalar.subi c1_i32_55 v86
  let c768_i32_56 : BitVec 32 := 768#32
  let v88 : BitVec 32 := Scalar.muli v87 c768_i32_56
  let v96 : Index := Scalar.indexCast v88
  let c1024_61 : Index := 1024#32
  ![v96.toNat, 1024]
def k0_dev9 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_64 : BitVec 32 := 3#32
  let v107 : BitVec 32 := Scalar.xori v2 c3_i32_64
  let c1_i32_66 : BitVec 32 := 1#32
  let v108 : BitVec 32 := Scalar.muli v107 c1_i32_66
  let v109 : BitVec 32 := Scalar.addi c0_i32_67 v108
  v109.toNat
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let v116 : Index := Scalar.indexCast v27
  let c0_71 : Index := 0#32
  ![v116.toNat, 0]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let v122 : Index := Scalar.indexCast v27
  let c0_75 : Index := 0#32
  ![v122.toNat, 0]
def k0_off12 (d0 : Dev nD) (c3_i32_35 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let v126 : Index := Scalar.indexCast v58
  let c0_76 : Index := 0#32
  ![v126.toNat, 0]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let v132 : Index := Scalar.indexCast v58
  let c512_80 : Index := 512#32
  ![v132.toNat, 512]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let v142 : Index := Scalar.indexCast v89
  let c1024_85 : Index := 1024#32
  ![v142.toNat, 1024]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_101 : BitVec 32 := 1#32
  let c1_i32_99 : BitVec 32 := 1#32
  let v156 : BitVec 32 := Scalar.shrsi v2 c1_i32_99
  let c1_i32_100 : BitVec 32 := 1#32
  let v157 : BitVec 32 := Scalar.andi v156 c1_i32_100
  let v158 : BitVec 32 := Scalar.subi c1_i32_101 v157
  let c384_i32 : BitVec 32 := 384#32
  let v159 : BitVec 32 := Scalar.muli v158 c384_i32
  let v161 : BitVec 32 := Scalar.addi v27 v159
  let v163 : Index := Scalar.indexCast v161
  let c0_104 : Index := 0#32
  ![v163.toNat, 0]
def k0_off16 (d0 : Dev nD) (c1_i32_99 : BitVec 32) : Fin 2 → Nat :=
  let c0_i32_103 : BitVec 32 := 0#32
  let c1_i32_101 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v156 : BitVec 32 := Scalar.shrsi v2 c1_i32_99
  let c1_i32_100 : BitVec 32 := 1#32
  let v157 : BitVec 32 := Scalar.andi v156 c1_i32_100
  let v158 : BitVec 32 := Scalar.subi c1_i32_101 v157
  let c384_i32 : BitVec 32 := 384#32
  let v159 : BitVec 32 := Scalar.muli v158 c384_i32
  let v162 : BitVec 32 := Scalar.addi c0_i32_103 v159
  let v165 : Index := Scalar.indexCast v162
  let c0_105 : Index := 0#32
  ![v165.toNat, 0]
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_101 : BitVec 32 := 1#32
  let c1_i32_99 : BitVec 32 := 1#32
  let v156 : BitVec 32 := Scalar.shrsi v2 c1_i32_99
  let c1_i32_100 : BitVec 32 := 1#32
  let v157 : BitVec 32 := Scalar.andi v156 c1_i32_100
  let v158 : BitVec 32 := Scalar.subi c1_i32_101 v157
  let c384_i32 : BitVec 32 := 384#32
  let v159 : BitVec 32 := Scalar.muli v158 c384_i32
  let v161 : BitVec 32 := Scalar.addi v27 v159
  let v176 : Index := Scalar.indexCast v161
  let c0_108 : Index := 0#32
  ![v176.toNat, 0]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_101 : BitVec 32 := 1#32
  let c1_i32_99 : BitVec 32 := 1#32
  let v156 : BitVec 32 := Scalar.shrsi v2 c1_i32_99
  let c1_i32_100 : BitVec 32 := 1#32
  let v157 : BitVec 32 := Scalar.andi v156 c1_i32_100
  let v158 : BitVec 32 := Scalar.subi c1_i32_101 v157
  let c384_i32 : BitVec 32 := 384#32
  let v159 : BitVec 32 := Scalar.muli v158 c384_i32
  let v161 : BitVec 32 := Scalar.addi v27 v159
  let c0_i32_116 : BitVec 32 := 0#32
  ![v161.toNat, 0]
def k0_dev10 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_109 : BitVec 32 := 3#32
  let v180 : BitVec 32 := Scalar.xori v2 c3_i32_109
  let c1_i32_112 : BitVec 32 := 1#32
  let v181 : BitVec 32 := Scalar.muli v180 c1_i32_112
  let v182 : BitVec 32 := Scalar.addi c0_i32_113 v181
  v182.toNat
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_133 : BitVec 32 := 1#32
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let v205 : BitVec 32 := Scalar.subi c1_i32_133 v204
  let c384_i32_134 : BitVec 32 := 384#32
  let v206 : BitVec 32 := Scalar.muli v205 c384_i32_134
  let v208 : BitVec 32 := Scalar.addi v58 v206
  let v210 : Index := Scalar.indexCast v208
  let c512_137 : Index := 512#32
  ![v210.toNat, 512]
def k0_off20 (d0 : Dev nD) : Fin 2 → Nat :=
  let c0_i32_136 : BitVec 32 := 0#32
  let c1_i32_133 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let v205 : BitVec 32 := Scalar.subi c1_i32_133 v204
  let c384_i32_134 : BitVec 32 := 384#32
  let v206 : BitVec 32 := Scalar.muli v205 c384_i32_134
  let v209 : BitVec 32 := Scalar.addi c0_i32_136 v206
  let v212 : Index := Scalar.indexCast v209
  let c0_138 : Index := 0#32
  ![v212.toNat, 0]
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_133 : BitVec 32 := 1#32
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let v205 : BitVec 32 := Scalar.subi c1_i32_133 v204
  let c384_i32_134 : BitVec 32 := 384#32
  let v206 : BitVec 32 := Scalar.muli v205 c384_i32_134
  let v208 : BitVec 32 := Scalar.addi v58 v206
  let v223 : Index := Scalar.indexCast v208
  let c0_141 : Index := 0#32
  ![v223.toNat, 0]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_133 : BitVec 32 := 1#32
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let v205 : BitVec 32 := Scalar.subi c1_i32_133 v204
  let c384_i32_134 : BitVec 32 := 384#32
  let v206 : BitVec 32 := Scalar.muli v205 c384_i32_134
  let v208 : BitVec 32 := Scalar.addi v58 v206
  let c0_i32_148 : BitVec 32 := 0#32
  ![v208.toNat, 0]
def k0_dev11 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_142 : BitVec 32 := 1#32
  let v227 : BitVec 32 := Scalar.xori v2 c1_i32_142
  let c1_i32_144 : BitVec 32 := 1#32
  let v228 : BitVec 32 := Scalar.muli v227 c1_i32_144
  let v229 : BitVec 32 := Scalar.addi c0_i32_145 v228
  v229.toNat
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c1_i32_165 : BitVec 32 := 1#32
  let c3_i32_163 : BitVec 32 := 3#32
  let v249 : BitVec 32 := Scalar.shrsi v2 c3_i32_163
  let c1_i32_164 : BitVec 32 := 1#32
  let v250 : BitVec 32 := Scalar.andi v249 c1_i32_164
  let v251 : BitVec 32 := Scalar.subi c1_i32_165 v250
  let c384_i32_166 : BitVec 32 := 384#32
  let v252 : BitVec 32 := Scalar.muli v251 c384_i32_166
  let v254 : BitVec 32 := Scalar.addi v89 v252
  let v256 : Index := Scalar.indexCast v254
  let c1024_169 : Index := 1024#32
  ![v256.toNat, 1024]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c1_i32_165 : BitVec 32 := 1#32
  let c3_i32_163 : BitVec 32 := 3#32
  let v249 : BitVec 32 := Scalar.shrsi v2 c3_i32_163
  let c1_i32_164 : BitVec 32 := 1#32
  let v250 : BitVec 32 := Scalar.andi v249 c1_i32_164
  let v251 : BitVec 32 := Scalar.subi c1_i32_165 v250
  let c384_i32_166 : BitVec 32 := 384#32
  let v252 : BitVec 32 := Scalar.muli v251 c384_i32_166
  let v254 : BitVec 32 := Scalar.addi v89 v252
  let v269 : Index := Scalar.indexCast v254
  let c0_173 : Index := 0#32
  ![v269.toNat, 0]
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c1_i32_165 : BitVec 32 := 1#32
  let c3_i32_163 : BitVec 32 := 3#32
  let v249 : BitVec 32 := Scalar.shrsi v2 c3_i32_163
  let c1_i32_164 : BitVec 32 := 1#32
  let v250 : BitVec 32 := Scalar.andi v249 c1_i32_164
  let v251 : BitVec 32 := Scalar.subi c1_i32_165 v250
  let c384_i32_166 : BitVec 32 := 384#32
  let v252 : BitVec 32 := Scalar.muli v251 c384_i32_166
  let v254 : BitVec 32 := Scalar.addi v89 v252
  let c0_i32_180 : BitVec 32 := 0#32
  ![v254.toNat, 0]
def k0_dev12 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_174 : BitVec 32 := 8#32
  let v273 : BitVec 32 := Scalar.xori v2 c8_i32_174
  let c1_i32_176 : BitVec 32 := 1#32
  let v274 : BitVec 32 := Scalar.muli v273 c1_i32_176
  let v275 : BitVec 32 := Scalar.addi c0_i32_177 v274
  v275.toNat
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v189 : BitVec 32 := Scalar.addi v27 v160
  let v285 : Index := Scalar.indexCast v189
  let c0_182 : Index := 0#32
  ![v285.toNat, 0]
def k0_off27 (d0 : Dev nD) (c1_i32_99 : BitVec 32) : Fin 2 → Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v190 : BitVec 32 := Scalar.addi c0_i32_117 v160
  let v287 : Index := Scalar.indexCast v190
  let c0_183 : Index := 0#32
  ![v287.toNat, 0]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v236 : BitVec 32 := Scalar.addi v58 v207
  let v295 : Index := Scalar.indexCast v236
  let c512_185 : Index := 512#32
  ![v295.toNat, 512]
def k0_off29 (d0 : Dev nD) : Fin 2 → Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v237 : BitVec 32 := Scalar.addi c0_i32_149 v207
  let v297 : Index := Scalar.indexCast v237
  let c0_186 : Index := 0#32
  ![v297.toNat, 0]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v282 : BitVec 32 := Scalar.addi v89 v253
  let v305 : Index := Scalar.indexCast v282
  let c1024_188 : Index := 1024#32
  ![v305.toNat, 1024]
def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c1_i32_206 : BitVec 32 := 1#32
  let c3_i32_204 : BitVec 32 := 3#32
  let v325 : BitVec 32 := Scalar.shrsi v2 c3_i32_204
  let c1_i32_205 : BitVec 32 := 1#32
  let v326 : BitVec 32 := Scalar.andi v325 c1_i32_205
  let v327 : BitVec 32 := Scalar.subi c1_i32_206 v326
  let c192_i32 : BitVec 32 := 192#32
  let v328 : BitVec 32 := Scalar.muli v327 c192_i32
  let v330 : BitVec 32 := Scalar.addi v191 v328
  let v332 : Index := Scalar.indexCast v330
  let c0_209 : Index := 0#32
  ![v332.toNat, 0]
def k0_off32 (d0 : Dev nD) (c3_i32_204 : BitVec 32) : Fin 2 → Nat :=
  let c768_i32_208 : BitVec 32 := 768#32
  let c1_i32_206 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v325 : BitVec 32 := Scalar.shrsi v2 c3_i32_204
  let c1_i32_205 : BitVec 32 := 1#32
  let v326 : BitVec 32 := Scalar.andi v325 c1_i32_205
  let v327 : BitVec 32 := Scalar.subi c1_i32_206 v326
  let c192_i32 : BitVec 32 := 192#32
  let v328 : BitVec 32 := Scalar.muli v327 c192_i32
  let v331 : BitVec 32 := Scalar.addi c768_i32_208 v328
  let v334 : Index := Scalar.indexCast v331
  let c0_210 : Index := 0#32
  ![v334.toNat, 0]
def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c1_i32_206 : BitVec 32 := 1#32
  let c3_i32_204 : BitVec 32 := 3#32
  let v325 : BitVec 32 := Scalar.shrsi v2 c3_i32_204
  let c1_i32_205 : BitVec 32 := 1#32
  let v326 : BitVec 32 := Scalar.andi v325 c1_i32_205
  let v327 : BitVec 32 := Scalar.subi c1_i32_206 v326
  let c192_i32 : BitVec 32 := 192#32
  let v328 : BitVec 32 := Scalar.muli v327 c192_i32
  let v330 : BitVec 32 := Scalar.addi v191 v328
  let v345 : Index := Scalar.indexCast v330
  let c0_213 : Index := 0#32
  ![v345.toNat, 0]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c1_i32_206 : BitVec 32 := 1#32
  let c3_i32_204 : BitVec 32 := 3#32
  let v325 : BitVec 32 := Scalar.shrsi v2 c3_i32_204
  let c1_i32_205 : BitVec 32 := 1#32
  let v326 : BitVec 32 := Scalar.andi v325 c1_i32_205
  let v327 : BitVec 32 := Scalar.subi c1_i32_206 v326
  let c192_i32 : BitVec 32 := 192#32
  let v328 : BitVec 32 := Scalar.muli v327 c192_i32
  let v330 : BitVec 32 := Scalar.addi v191 v328
  let c0_i32_219 : BitVec 32 := 0#32
  ![v330.toNat, 0]
def k0_dev13 (d0 : Dev nD) : Nat :=
  let c0_i32_217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_214 : BitVec 32 := 8#32
  let v349 : BitVec 32 := Scalar.xori v2 c8_i32_214
  let c1_i32_216 : BitVec 32 := 1#32
  let v350 : BitVec 32 := Scalar.muli v349 c1_i32_216
  let v351 : BitVec 32 := Scalar.addi c0_i32_217 v350
  v351.toNat
def k0_off35 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_236 : BitVec 32 := 1#32
  let c1_i32_234 : BitVec 32 := 1#32
  let v371 : BitVec 32 := Scalar.shrsi v2 c1_i32_234
  let c1_i32_235 : BitVec 32 := 1#32
  let v372 : BitVec 32 := Scalar.andi v371 c1_i32_235
  let v373 : BitVec 32 := Scalar.subi c1_i32_236 v372
  let c192_i32_237 : BitVec 32 := 192#32
  let v374 : BitVec 32 := Scalar.muli v373 c192_i32_237
  let v376 : BitVec 32 := Scalar.addi v238 v374
  let v378 : Index := Scalar.indexCast v376
  let c512_240 : Index := 512#32
  ![v378.toNat, 512]
def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_236 : BitVec 32 := 1#32
  let c1_i32_234 : BitVec 32 := 1#32
  let v371 : BitVec 32 := Scalar.shrsi v2 c1_i32_234
  let c1_i32_235 : BitVec 32 := 1#32
  let v372 : BitVec 32 := Scalar.andi v371 c1_i32_235
  let v373 : BitVec 32 := Scalar.subi c1_i32_236 v372
  let c192_i32_237 : BitVec 32 := 192#32
  let v374 : BitVec 32 := Scalar.muli v373 c192_i32_237
  let v376 : BitVec 32 := Scalar.addi v238 v374
  let v391 : Index := Scalar.indexCast v376
  let c0_244 : Index := 0#32
  ![v391.toNat, 0]
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_236 : BitVec 32 := 1#32
  let c1_i32_234 : BitVec 32 := 1#32
  let v371 : BitVec 32 := Scalar.shrsi v2 c1_i32_234
  let c1_i32_235 : BitVec 32 := 1#32
  let v372 : BitVec 32 := Scalar.andi v371 c1_i32_235
  let v373 : BitVec 32 := Scalar.subi c1_i32_236 v372
  let c192_i32_237 : BitVec 32 := 192#32
  let v374 : BitVec 32 := Scalar.muli v373 c192_i32_237
  let v376 : BitVec 32 := Scalar.addi v238 v374
  let c0_i32_251 : BitVec 32 := 0#32
  ![v376.toNat, 0]
def k0_dev14 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_245 : BitVec 32 := 3#32
  let v395 : BitVec 32 := Scalar.xori v2 c3_i32_245
  let c1_i32_247 : BitVec 32 := 1#32
  let v396 : BitVec 32 := Scalar.muli v395 c1_i32_247
  let v397 : BitVec 32 := Scalar.addi c0_i32_248 v396
  v397.toNat
def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_268 : BitVec 32 := 1#32
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let v420 : BitVec 32 := Scalar.subi c1_i32_268 v419
  let c192_i32_269 : BitVec 32 := 192#32
  let v421 : BitVec 32 := Scalar.muli v420 c192_i32_269
  let v423 : BitVec 32 := Scalar.addi v284 v421
  let v425 : Index := Scalar.indexCast v423
  let c1024_272 : Index := 1024#32
  ![v425.toNat, 1024]
def k0_off39 (d0 : Dev nD) : Fin 2 → Nat :=
  let c768_i32_271 : BitVec 32 := 768#32
  let c1_i32_268 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let v420 : BitVec 32 := Scalar.subi c1_i32_268 v419
  let c192_i32_269 : BitVec 32 := 192#32
  let v421 : BitVec 32 := Scalar.muli v420 c192_i32_269
  let v424 : BitVec 32 := Scalar.addi c768_i32_271 v421
  let v427 : Index := Scalar.indexCast v424
  let c0_273 : Index := 0#32
  ![v427.toNat, 0]
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_268 : BitVec 32 := 1#32
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let v420 : BitVec 32 := Scalar.subi c1_i32_268 v419
  let c192_i32_269 : BitVec 32 := 192#32
  let v421 : BitVec 32 := Scalar.muli v420 c192_i32_269
  let v423 : BitVec 32 := Scalar.addi v284 v421
  let v438 : Index := Scalar.indexCast v423
  let c0_276 : Index := 0#32
  ![v438.toNat, 0]
def k0_off41 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_268 : BitVec 32 := 1#32
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let v420 : BitVec 32 := Scalar.subi c1_i32_268 v419
  let c192_i32_269 : BitVec 32 := 192#32
  let v421 : BitVec 32 := Scalar.muli v420 c192_i32_269
  let v423 : BitVec 32 := Scalar.addi v284 v421
  let c0_i32_283 : BitVec 32 := 0#32
  ![v423.toNat, 0]
def k0_dev15 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_277 : BitVec 32 := 1#32
  let v442 : BitVec 32 := Scalar.xori v2 c1_i32_277
  let c1_i32_279 : BitVec 32 := 1#32
  let v443 : BitVec 32 := Scalar.muli v442 c1_i32_279
  let v444 : BitVec 32 := Scalar.addi c0_i32_280 v443
  v444.toNat
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v358 : BitVec 32 := Scalar.addi v191 v329
  let v454 : Index := Scalar.indexCast v358
  let c0_285 : Index := 0#32
  ![v454.toNat, 0]
def k0_off43 (d0 : Dev nD) (c3_i32_204 : BitVec 32) : Fin 2 → Nat :=
  let c768_i32_220 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v359 : BitVec 32 := Scalar.addi c768_i32_220 v329
  let v456 : Index := Scalar.indexCast v359
  let c0_286 : Index := 0#32
  ![v456.toNat, 0]
def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v404 : BitVec 32 := Scalar.addi v238 v375
  let v464 : Index := Scalar.indexCast v404
  let c512_288 : Index := 512#32
  ![v464.toNat, 512]
def k0_off45 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v451 : BitVec 32 := Scalar.addi v284 v422
  let v474 : Index := Scalar.indexCast v451
  let c1024_291 : Index := 1024#32
  ![v474.toNat, 1024]
def k0_off46 (d0 : Dev nD) : Fin 2 → Nat :=
  let c768_i32_284 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v452 : BitVec 32 := Scalar.addi c768_i32_284 v422
  let v476 : Index := Scalar.indexCast v452
  let c0_292 : Index := 0#32
  ![v476.toNat, 0]
def k0_off47 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c1_i32_311 : BitVec 32 := 1#32
  let c2_i32_307 : BitVec 32 := 2#32
  let v494 : BitVec 32 := Scalar.shrsi v2 c2_i32_307
  let c1_i32_308 : BitVec 32 := 1#32
  let v495 : BitVec 32 := Scalar.andi v494 c1_i32_308
  let v498 : BitVec 32 := Scalar.subi c1_i32_311 v495
  let c96_i32 : BitVec 32 := 96#32
  let v499 : BitVec 32 := Scalar.muli v498 c96_i32
  let c4_i32_309 : BitVec 32 := 4#32
  let v496 : BitVec 32 := Scalar.shrsi v2 c4_i32_309
  let c1_i32_310 : BitVec 32 := 1#32
  let v497 : BitVec 32 := Scalar.andi v496 c1_i32_310
  let c48_i32 : BitVec 32 := 48#32
  let v500 : BitVec 32 := Scalar.muli v497 c48_i32
  let v501 : BitVec 32 := Scalar.addi v499 v500
  let v511 : BitVec 32 := Scalar.addi v360 v501
  let v513 : Index := Scalar.indexCast v511
  let c0_320 : Index := 0#32
  ![v513.toNat, 0]
def k0_off48 (d0 : Dev nD) : Fin 2 → Nat :=
  let c1152_i32_319 : BitVec 32 := 1152#32
  let c1_i32_311 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_307 : BitVec 32 := 2#32
  let v494 : BitVec 32 := Scalar.shrsi v2 c2_i32_307
  let c1_i32_308 : BitVec 32 := 1#32
  let v495 : BitVec 32 := Scalar.andi v494 c1_i32_308
  let v498 : BitVec 32 := Scalar.subi c1_i32_311 v495
  let c96_i32 : BitVec 32 := 96#32
  let v499 : BitVec 32 := Scalar.muli v498 c96_i32
  let c4_i32_309 : BitVec 32 := 4#32
  let v496 : BitVec 32 := Scalar.shrsi v2 c4_i32_309
  let c1_i32_310 : BitVec 32 := 1#32
  let v497 : BitVec 32 := Scalar.andi v496 c1_i32_310
  let c48_i32 : BitVec 32 := 48#32
  let v500 : BitVec 32 := Scalar.muli v497 c48_i32
  let v501 : BitVec 32 := Scalar.addi v499 v500
  let v512 : BitVec 32 := Scalar.addi c1152_i32_319 v501
  let v515 : Index := Scalar.indexCast v512
  let c0_321 : Index := 0#32
  ![v515.toNat, 0]
def k0_off49 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c1_i32_311 : BitVec 32 := 1#32
  let c2_i32_307 : BitVec 32 := 2#32
  let v494 : BitVec 32 := Scalar.shrsi v2 c2_i32_307
  let c1_i32_308 : BitVec 32 := 1#32
  let v495 : BitVec 32 := Scalar.andi v494 c1_i32_308
  let v498 : BitVec 32 := Scalar.subi c1_i32_311 v495
  let c96_i32 : BitVec 32 := 96#32
  let v499 : BitVec 32 := Scalar.muli v498 c96_i32
  let c4_i32_309 : BitVec 32 := 4#32
  let v496 : BitVec 32 := Scalar.shrsi v2 c4_i32_309
  let c1_i32_310 : BitVec 32 := 1#32
  let v497 : BitVec 32 := Scalar.andi v496 c1_i32_310
  let c48_i32 : BitVec 32 := 48#32
  let v500 : BitVec 32 := Scalar.muli v497 c48_i32
  let v501 : BitVec 32 := Scalar.addi v499 v500
  let v511 : BitVec 32 := Scalar.addi v360 v501
  let v526 : Index := Scalar.indexCast v511
  let c0_324 : Index := 0#32
  ![v526.toNat, 0]
def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c1_i32_311 : BitVec 32 := 1#32
  let c2_i32_307 : BitVec 32 := 2#32
  let v494 : BitVec 32 := Scalar.shrsi v2 c2_i32_307
  let c1_i32_308 : BitVec 32 := 1#32
  let v495 : BitVec 32 := Scalar.andi v494 c1_i32_308
  let v498 : BitVec 32 := Scalar.subi c1_i32_311 v495
  let c96_i32 : BitVec 32 := 96#32
  let v499 : BitVec 32 := Scalar.muli v498 c96_i32
  let c4_i32_309 : BitVec 32 := 4#32
  let v496 : BitVec 32 := Scalar.shrsi v2 c4_i32_309
  let c1_i32_310 : BitVec 32 := 1#32
  let v497 : BitVec 32 := Scalar.andi v496 c1_i32_310
  let c48_i32 : BitVec 32 := 48#32
  let v500 : BitVec 32 := Scalar.muli v497 c48_i32
  let v501 : BitVec 32 := Scalar.addi v499 v500
  let v511 : BitVec 32 := Scalar.addi v360 v501
  let c0_i32_331 : BitVec 32 := 0#32
  ![v511.toNat, 0]
def k0_dev16 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_325 : BitVec 32 := 4#32
  let v530 : BitVec 32 := Scalar.xori v2 c4_i32_325
  let c1_i32_328 : BitVec 32 := 1#32
  let v531 : BitVec 32 := Scalar.muli v530 c1_i32_328
  let v532 : BitVec 32 := Scalar.addi c0_i32_329 v531
  v532.toNat
def k0_off51 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c2_i32_307 : BitVec 32 := 2#32
  let v494 : BitVec 32 := Scalar.shrsi v2 c2_i32_307
  let c1_i32_308 : BitVec 32 := 1#32
  let v495 : BitVec 32 := Scalar.andi v494 c1_i32_308
  let c96_i32_312 : BitVec 32 := 96#32
  let v502 : BitVec 32 := Scalar.muli v495 c96_i32_312
  let c1_i32_313 : BitVec 32 := 1#32
  let c4_i32_309 : BitVec 32 := 4#32
  let v496 : BitVec 32 := Scalar.shrsi v2 c4_i32_309
  let c1_i32_310 : BitVec 32 := 1#32
  let v497 : BitVec 32 := Scalar.andi v496 c1_i32_310
  let v503 : BitVec 32 := Scalar.subi c1_i32_313 v497
  let c48_i32_314 : BitVec 32 := 48#32
  let v504 : BitVec 32 := Scalar.muli v503 c48_i32_314
  let v505 : BitVec 32 := Scalar.addi v502 v504
  let v539 : BitVec 32 := Scalar.addi v360 v505
  let v541 : Index := Scalar.indexCast v539
  let c0_333 : Index := 0#32
  ![v541.toNat, 0]
def k0_off52 (d0 : Dev nD) : Fin 2 → Nat :=
  let c1152_i32_332 : BitVec 32 := 1152#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_307 : BitVec 32 := 2#32
  let v494 : BitVec 32 := Scalar.shrsi v2 c2_i32_307
  let c1_i32_308 : BitVec 32 := 1#32
  let v495 : BitVec 32 := Scalar.andi v494 c1_i32_308
  let c96_i32_312 : BitVec 32 := 96#32
  let v502 : BitVec 32 := Scalar.muli v495 c96_i32_312
  let c1_i32_313 : BitVec 32 := 1#32
  let c4_i32_309 : BitVec 32 := 4#32
  let v496 : BitVec 32 := Scalar.shrsi v2 c4_i32_309
  let c1_i32_310 : BitVec 32 := 1#32
  let v497 : BitVec 32 := Scalar.andi v496 c1_i32_310
  let v503 : BitVec 32 := Scalar.subi c1_i32_313 v497
  let c48_i32_314 : BitVec 32 := 48#32
  let v504 : BitVec 32 := Scalar.muli v503 c48_i32_314
  let v505 : BitVec 32 := Scalar.addi v502 v504
  let v540 : BitVec 32 := Scalar.addi c1152_i32_332 v505
  let v543 : Index := Scalar.indexCast v540
  let c0_334 : Index := 0#32
  ![v543.toNat, 0]
def k0_off53 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c2_i32_307 : BitVec 32 := 2#32
  let v494 : BitVec 32 := Scalar.shrsi v2 c2_i32_307
  let c1_i32_308 : BitVec 32 := 1#32
  let v495 : BitVec 32 := Scalar.andi v494 c1_i32_308
  let c96_i32_312 : BitVec 32 := 96#32
  let v502 : BitVec 32 := Scalar.muli v495 c96_i32_312
  let c1_i32_313 : BitVec 32 := 1#32
  let c4_i32_309 : BitVec 32 := 4#32
  let v496 : BitVec 32 := Scalar.shrsi v2 c4_i32_309
  let c1_i32_310 : BitVec 32 := 1#32
  let v497 : BitVec 32 := Scalar.andi v496 c1_i32_310
  let v503 : BitVec 32 := Scalar.subi c1_i32_313 v497
  let c48_i32_314 : BitVec 32 := 48#32
  let v504 : BitVec 32 := Scalar.muli v503 c48_i32_314
  let v505 : BitVec 32 := Scalar.addi v502 v504
  let v539 : BitVec 32 := Scalar.addi v360 v505
  let v554 : Index := Scalar.indexCast v539
  let c0_337 : Index := 0#32
  ![v554.toNat, 0]
def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c2_i32_307 : BitVec 32 := 2#32
  let v494 : BitVec 32 := Scalar.shrsi v2 c2_i32_307
  let c1_i32_308 : BitVec 32 := 1#32
  let v495 : BitVec 32 := Scalar.andi v494 c1_i32_308
  let c96_i32_312 : BitVec 32 := 96#32
  let v502 : BitVec 32 := Scalar.muli v495 c96_i32_312
  let c1_i32_313 : BitVec 32 := 1#32
  let c4_i32_309 : BitVec 32 := 4#32
  let v496 : BitVec 32 := Scalar.shrsi v2 c4_i32_309
  let c1_i32_310 : BitVec 32 := 1#32
  let v497 : BitVec 32 := Scalar.andi v496 c1_i32_310
  let v503 : BitVec 32 := Scalar.subi c1_i32_313 v497
  let c48_i32_314 : BitVec 32 := 48#32
  let v504 : BitVec 32 := Scalar.muli v503 c48_i32_314
  let v505 : BitVec 32 := Scalar.addi v502 v504
  let v539 : BitVec 32 := Scalar.addi v360 v505
  let c0_i32_344 : BitVec 32 := 0#32
  ![v539.toNat, 0]
def k0_dev17 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_338 : BitVec 32 := 16#32
  let v558 : BitVec 32 := Scalar.xori v2 c16_i32_338
  let c1_i32_341 : BitVec 32 := 1#32
  let v559 : BitVec 32 := Scalar.muli v558 c1_i32_341
  let v560 : BitVec 32 := Scalar.addi c0_i32_342 v559
  v560.toNat
def k0_off55 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c1_i32_315 : BitVec 32 := 1#32
  let c2_i32_307 : BitVec 32 := 2#32
  let v494 : BitVec 32 := Scalar.shrsi v2 c2_i32_307
  let c1_i32_308 : BitVec 32 := 1#32
  let v495 : BitVec 32 := Scalar.andi v494 c1_i32_308
  let v506 : BitVec 32 := Scalar.subi c1_i32_315 v495
  let c96_i32_316 : BitVec 32 := 96#32
  let v507 : BitVec 32 := Scalar.muli v506 c96_i32_316
  let c1_i32_317 : BitVec 32 := 1#32
  let c4_i32_309 : BitVec 32 := 4#32
  let v496 : BitVec 32 := Scalar.shrsi v2 c4_i32_309
  let c1_i32_310 : BitVec 32 := 1#32
  let v497 : BitVec 32 := Scalar.andi v496 c1_i32_310
  let v508 : BitVec 32 := Scalar.subi c1_i32_317 v497
  let c48_i32_318 : BitVec 32 := 48#32
  let v509 : BitVec 32 := Scalar.muli v508 c48_i32_318
  let v510 : BitVec 32 := Scalar.addi v507 v509
  let v567 : BitVec 32 := Scalar.addi v360 v510
  let v569 : Index := Scalar.indexCast v567
  let c0_346 : Index := 0#32
  ![v569.toNat, 0]
def k0_off56 (d0 : Dev nD) : Fin 2 → Nat :=
  let c1152_i32_345 : BitVec 32 := 1152#32
  let c1_i32_315 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_307 : BitVec 32 := 2#32
  let v494 : BitVec 32 := Scalar.shrsi v2 c2_i32_307
  let c1_i32_308 : BitVec 32 := 1#32
  let v495 : BitVec 32 := Scalar.andi v494 c1_i32_308
  let v506 : BitVec 32 := Scalar.subi c1_i32_315 v495
  let c96_i32_316 : BitVec 32 := 96#32
  let v507 : BitVec 32 := Scalar.muli v506 c96_i32_316
  let c1_i32_317 : BitVec 32 := 1#32
  let c4_i32_309 : BitVec 32 := 4#32
  let v496 : BitVec 32 := Scalar.shrsi v2 c4_i32_309
  let c1_i32_310 : BitVec 32 := 1#32
  let v497 : BitVec 32 := Scalar.andi v496 c1_i32_310
  let v508 : BitVec 32 := Scalar.subi c1_i32_317 v497
  let c48_i32_318 : BitVec 32 := 48#32
  let v509 : BitVec 32 := Scalar.muli v508 c48_i32_318
  let v510 : BitVec 32 := Scalar.addi v507 v509
  let v568 : BitVec 32 := Scalar.addi c1152_i32_345 v510
  let v571 : Index := Scalar.indexCast v568
  let c0_347 : Index := 0#32
  ![v571.toNat, 0]
def k0_off57 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c1_i32_315 : BitVec 32 := 1#32
  let c2_i32_307 : BitVec 32 := 2#32
  let v494 : BitVec 32 := Scalar.shrsi v2 c2_i32_307
  let c1_i32_308 : BitVec 32 := 1#32
  let v495 : BitVec 32 := Scalar.andi v494 c1_i32_308
  let v506 : BitVec 32 := Scalar.subi c1_i32_315 v495
  let c96_i32_316 : BitVec 32 := 96#32
  let v507 : BitVec 32 := Scalar.muli v506 c96_i32_316
  let c1_i32_317 : BitVec 32 := 1#32
  let c4_i32_309 : BitVec 32 := 4#32
  let v496 : BitVec 32 := Scalar.shrsi v2 c4_i32_309
  let c1_i32_310 : BitVec 32 := 1#32
  let v497 : BitVec 32 := Scalar.andi v496 c1_i32_310
  let v508 : BitVec 32 := Scalar.subi c1_i32_317 v497
  let c48_i32_318 : BitVec 32 := 48#32
  let v509 : BitVec 32 := Scalar.muli v508 c48_i32_318
  let v510 : BitVec 32 := Scalar.addi v507 v509
  let v567 : BitVec 32 := Scalar.addi v360 v510
  let v582 : Index := Scalar.indexCast v567
  let c0_350 : Index := 0#32
  ![v582.toNat, 0]
def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c1_i32_315 : BitVec 32 := 1#32
  let c2_i32_307 : BitVec 32 := 2#32
  let v494 : BitVec 32 := Scalar.shrsi v2 c2_i32_307
  let c1_i32_308 : BitVec 32 := 1#32
  let v495 : BitVec 32 := Scalar.andi v494 c1_i32_308
  let v506 : BitVec 32 := Scalar.subi c1_i32_315 v495
  let c96_i32_316 : BitVec 32 := 96#32
  let v507 : BitVec 32 := Scalar.muli v506 c96_i32_316
  let c1_i32_317 : BitVec 32 := 1#32
  let c4_i32_309 : BitVec 32 := 4#32
  let v496 : BitVec 32 := Scalar.shrsi v2 c4_i32_309
  let c1_i32_310 : BitVec 32 := 1#32
  let v497 : BitVec 32 := Scalar.andi v496 c1_i32_310
  let v508 : BitVec 32 := Scalar.subi c1_i32_317 v497
  let c48_i32_318 : BitVec 32 := 48#32
  let v509 : BitVec 32 := Scalar.muli v508 c48_i32_318
  let v510 : BitVec 32 := Scalar.addi v507 v509
  let v567 : BitVec 32 := Scalar.addi v360 v510
  let c0_i32_356 : BitVec 32 := 0#32
  ![v567.toNat, 0]
def k0_dev18 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_351 : BitVec 32 := 20#32
  let v586 : BitVec 32 := Scalar.xori v2 c20_i32_351
  let c1_i32_353 : BitVec 32 := 1#32
  let v587 : BitVec 32 := Scalar.muli v586 c1_i32_353
  let v588 : BitVec 32 := Scalar.addi c0_i32_354 v587
  v588.toNat
def k0_off59 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c1_i32_376 : BitVec 32 := 1#32
  let c2_i32_372 : BitVec 32 := 2#32
  let v608 : BitVec 32 := Scalar.shrsi v2 c2_i32_372
  let c1_i32_373 : BitVec 32 := 1#32
  let v609 : BitVec 32 := Scalar.andi v608 c1_i32_373
  let v612 : BitVec 32 := Scalar.subi c1_i32_376 v609
  let c96_i32_377 : BitVec 32 := 96#32
  let v613 : BitVec 32 := Scalar.muli v612 c96_i32_377
  let c4_i32_374 : BitVec 32 := 4#32
  let v610 : BitVec 32 := Scalar.shrsi v2 c4_i32_374
  let c1_i32_375 : BitVec 32 := 1#32
  let v611 : BitVec 32 := Scalar.andi v610 c1_i32_375
  let c48_i32_378 : BitVec 32 := 48#32
  let v614 : BitVec 32 := Scalar.muli v611 c48_i32_378
  let v615 : BitVec 32 := Scalar.addi v613 v614
  let v625 : BitVec 32 := Scalar.addi v406 v615
  let v627 : Index := Scalar.indexCast v625
  let c512_387 : Index := 512#32
  ![v627.toNat, 512]
def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c1_i32_376 : BitVec 32 := 1#32
  let c2_i32_372 : BitVec 32 := 2#32
  let v608 : BitVec 32 := Scalar.shrsi v2 c2_i32_372
  let c1_i32_373 : BitVec 32 := 1#32
  let v609 : BitVec 32 := Scalar.andi v608 c1_i32_373
  let v612 : BitVec 32 := Scalar.subi c1_i32_376 v609
  let c96_i32_377 : BitVec 32 := 96#32
  let v613 : BitVec 32 := Scalar.muli v612 c96_i32_377
  let c4_i32_374 : BitVec 32 := 4#32
  let v610 : BitVec 32 := Scalar.shrsi v2 c4_i32_374
  let c1_i32_375 : BitVec 32 := 1#32
  let v611 : BitVec 32 := Scalar.andi v610 c1_i32_375
  let c48_i32_378 : BitVec 32 := 48#32
  let v614 : BitVec 32 := Scalar.muli v611 c48_i32_378
  let v615 : BitVec 32 := Scalar.addi v613 v614
  let v625 : BitVec 32 := Scalar.addi v406 v615
  let v640 : Index := Scalar.indexCast v625
  let c0_391 : Index := 0#32
  ![v640.toNat, 0]
def k0_off61 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c1_i32_376 : BitVec 32 := 1#32
  let c2_i32_372 : BitVec 32 := 2#32
  let v608 : BitVec 32 := Scalar.shrsi v2 c2_i32_372
  let c1_i32_373 : BitVec 32 := 1#32
  let v609 : BitVec 32 := Scalar.andi v608 c1_i32_373
  let v612 : BitVec 32 := Scalar.subi c1_i32_376 v609
  let c96_i32_377 : BitVec 32 := 96#32
  let v613 : BitVec 32 := Scalar.muli v612 c96_i32_377
  let c4_i32_374 : BitVec 32 := 4#32
  let v610 : BitVec 32 := Scalar.shrsi v2 c4_i32_374
  let c1_i32_375 : BitVec 32 := 1#32
  let v611 : BitVec 32 := Scalar.andi v610 c1_i32_375
  let c48_i32_378 : BitVec 32 := 48#32
  let v614 : BitVec 32 := Scalar.muli v611 c48_i32_378
  let v615 : BitVec 32 := Scalar.addi v613 v614
  let v625 : BitVec 32 := Scalar.addi v406 v615
  let c0_i32_398 : BitVec 32 := 0#32
  ![v625.toNat, 0]
def k0_dev19 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_392 : BitVec 32 := 4#32
  let v644 : BitVec 32 := Scalar.xori v2 c4_i32_392
  let c1_i32_394 : BitVec 32 := 1#32
  let v645 : BitVec 32 := Scalar.muli v644 c1_i32_394
  let v646 : BitVec 32 := Scalar.addi c0_i32_395 v645
  v646.toNat
def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c2_i32_372 : BitVec 32 := 2#32
  let v608 : BitVec 32 := Scalar.shrsi v2 c2_i32_372
  let c1_i32_373 : BitVec 32 := 1#32
  let v609 : BitVec 32 := Scalar.andi v608 c1_i32_373
  let c96_i32_379 : BitVec 32 := 96#32
  let v616 : BitVec 32 := Scalar.muli v609 c96_i32_379
  let c1_i32_380 : BitVec 32 := 1#32
  let c4_i32_374 : BitVec 32 := 4#32
  let v610 : BitVec 32 := Scalar.shrsi v2 c4_i32_374
  let c1_i32_375 : BitVec 32 := 1#32
  let v611 : BitVec 32 := Scalar.andi v610 c1_i32_375
  let v617 : BitVec 32 := Scalar.subi c1_i32_380 v611
  let c48_i32_381 : BitVec 32 := 48#32
  let v618 : BitVec 32 := Scalar.muli v617 c48_i32_381
  let v619 : BitVec 32 := Scalar.addi v616 v618
  let v653 : BitVec 32 := Scalar.addi v406 v619
  let v655 : Index := Scalar.indexCast v653
  let c512_400 : Index := 512#32
  ![v655.toNat, 512]
def k0_off63 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c2_i32_372 : BitVec 32 := 2#32
  let v608 : BitVec 32 := Scalar.shrsi v2 c2_i32_372
  let c1_i32_373 : BitVec 32 := 1#32
  let v609 : BitVec 32 := Scalar.andi v608 c1_i32_373
  let c96_i32_379 : BitVec 32 := 96#32
  let v616 : BitVec 32 := Scalar.muli v609 c96_i32_379
  let c1_i32_380 : BitVec 32 := 1#32
  let c4_i32_374 : BitVec 32 := 4#32
  let v610 : BitVec 32 := Scalar.shrsi v2 c4_i32_374
  let c1_i32_375 : BitVec 32 := 1#32
  let v611 : BitVec 32 := Scalar.andi v610 c1_i32_375
  let v617 : BitVec 32 := Scalar.subi c1_i32_380 v611
  let c48_i32_381 : BitVec 32 := 48#32
  let v618 : BitVec 32 := Scalar.muli v617 c48_i32_381
  let v619 : BitVec 32 := Scalar.addi v616 v618
  let v653 : BitVec 32 := Scalar.addi v406 v619
  let v668 : Index := Scalar.indexCast v653
  let c0_404 : Index := 0#32
  ![v668.toNat, 0]
def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c2_i32_372 : BitVec 32 := 2#32
  let v608 : BitVec 32 := Scalar.shrsi v2 c2_i32_372
  let c1_i32_373 : BitVec 32 := 1#32
  let v609 : BitVec 32 := Scalar.andi v608 c1_i32_373
  let c96_i32_379 : BitVec 32 := 96#32
  let v616 : BitVec 32 := Scalar.muli v609 c96_i32_379
  let c1_i32_380 : BitVec 32 := 1#32
  let c4_i32_374 : BitVec 32 := 4#32
  let v610 : BitVec 32 := Scalar.shrsi v2 c4_i32_374
  let c1_i32_375 : BitVec 32 := 1#32
  let v611 : BitVec 32 := Scalar.andi v610 c1_i32_375
  let v617 : BitVec 32 := Scalar.subi c1_i32_380 v611
  let c48_i32_381 : BitVec 32 := 48#32
  let v618 : BitVec 32 := Scalar.muli v617 c48_i32_381
  let v619 : BitVec 32 := Scalar.addi v616 v618
  let v653 : BitVec 32 := Scalar.addi v406 v619
  let c0_i32_412 : BitVec 32 := 0#32
  ![v653.toNat, 0]
def k0_dev20 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_405 : BitVec 32 := 16#32
  let v672 : BitVec 32 := Scalar.xori v2 c16_i32_405
  let c1_i32_408 : BitVec 32 := 1#32
  let v673 : BitVec 32 := Scalar.muli v672 c1_i32_408
  let v674 : BitVec 32 := Scalar.addi c0_i32_409 v673
  v674.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c1_i32_382 : BitVec 32 := 1#32
  let c2_i32_372 : BitVec 32 := 2#32
  let v608 : BitVec 32 := Scalar.shrsi v2 c2_i32_372
  let c1_i32_373 : BitVec 32 := 1#32
  let v609 : BitVec 32 := Scalar.andi v608 c1_i32_373
  let v620 : BitVec 32 := Scalar.subi c1_i32_382 v609
  let c96_i32_383 : BitVec 32 := 96#32
  let v621 : BitVec 32 := Scalar.muli v620 c96_i32_383
  let c1_i32_384 : BitVec 32 := 1#32
  let c4_i32_374 : BitVec 32 := 4#32
  let v610 : BitVec 32 := Scalar.shrsi v2 c4_i32_374
  let c1_i32_375 : BitVec 32 := 1#32
  let v611 : BitVec 32 := Scalar.andi v610 c1_i32_375
  let v622 : BitVec 32 := Scalar.subi c1_i32_384 v611
  let c48_i32_385 : BitVec 32 := 48#32
  let v623 : BitVec 32 := Scalar.muli v622 c48_i32_385
  let v624 : BitVec 32 := Scalar.addi v621 v623
  let v681 : BitVec 32 := Scalar.addi v406 v624
  let v683 : Index := Scalar.indexCast v681
  let c512_414 : Index := 512#32
  ![v683.toNat, 512]
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c1_i32_382 : BitVec 32 := 1#32
  let c2_i32_372 : BitVec 32 := 2#32
  let v608 : BitVec 32 := Scalar.shrsi v2 c2_i32_372
  let c1_i32_373 : BitVec 32 := 1#32
  let v609 : BitVec 32 := Scalar.andi v608 c1_i32_373
  let v620 : BitVec 32 := Scalar.subi c1_i32_382 v609
  let c96_i32_383 : BitVec 32 := 96#32
  let v621 : BitVec 32 := Scalar.muli v620 c96_i32_383
  let c1_i32_384 : BitVec 32 := 1#32
  let c4_i32_374 : BitVec 32 := 4#32
  let v610 : BitVec 32 := Scalar.shrsi v2 c4_i32_374
  let c1_i32_375 : BitVec 32 := 1#32
  let v611 : BitVec 32 := Scalar.andi v610 c1_i32_375
  let v622 : BitVec 32 := Scalar.subi c1_i32_384 v611
  let c48_i32_385 : BitVec 32 := 48#32
  let v623 : BitVec 32 := Scalar.muli v622 c48_i32_385
  let v624 : BitVec 32 := Scalar.addi v621 v623
  let v681 : BitVec 32 := Scalar.addi v406 v624
  let v696 : Index := Scalar.indexCast v681
  let c0_418 : Index := 0#32
  ![v696.toNat, 0]
def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c1_i32_382 : BitVec 32 := 1#32
  let c2_i32_372 : BitVec 32 := 2#32
  let v608 : BitVec 32 := Scalar.shrsi v2 c2_i32_372
  let c1_i32_373 : BitVec 32 := 1#32
  let v609 : BitVec 32 := Scalar.andi v608 c1_i32_373
  let v620 : BitVec 32 := Scalar.subi c1_i32_382 v609
  let c96_i32_383 : BitVec 32 := 96#32
  let v621 : BitVec 32 := Scalar.muli v620 c96_i32_383
  let c1_i32_384 : BitVec 32 := 1#32
  let c4_i32_374 : BitVec 32 := 4#32
  let v610 : BitVec 32 := Scalar.shrsi v2 c4_i32_374
  let c1_i32_375 : BitVec 32 := 1#32
  let v611 : BitVec 32 := Scalar.andi v610 c1_i32_375
  let v622 : BitVec 32 := Scalar.subi c1_i32_384 v611
  let c48_i32_385 : BitVec 32 := 48#32
  let v623 : BitVec 32 := Scalar.muli v622 c48_i32_385
  let v624 : BitVec 32 := Scalar.addi v621 v623
  let v681 : BitVec 32 := Scalar.addi v406 v624
  let c0_i32_425 : BitVec 32 := 0#32
  ![v681.toNat, 0]
def k0_dev21 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_419 : BitVec 32 := 20#32
  let v700 : BitVec 32 := Scalar.xori v2 c20_i32_419
  let c1_i32_421 : BitVec 32 := 1#32
  let v701 : BitVec 32 := Scalar.muli v700 c1_i32_421
  let v702 : BitVec 32 := Scalar.addi c0_i32_422 v701
  v702.toNat
def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c1_i32_445 : BitVec 32 := 1#32
  let c2_i32_441 : BitVec 32 := 2#32
  let v722 : BitVec 32 := Scalar.shrsi v2 c2_i32_441
  let c1_i32_442 : BitVec 32 := 1#32
  let v723 : BitVec 32 := Scalar.andi v722 c1_i32_442
  let v726 : BitVec 32 := Scalar.subi c1_i32_445 v723
  let c96_i32_446 : BitVec 32 := 96#32
  let v727 : BitVec 32 := Scalar.muli v726 c96_i32_446
  let c4_i32_443 : BitVec 32 := 4#32
  let v724 : BitVec 32 := Scalar.shrsi v2 c4_i32_443
  let c1_i32_444 : BitVec 32 := 1#32
  let v725 : BitVec 32 := Scalar.andi v724 c1_i32_444
  let c48_i32_447 : BitVec 32 := 48#32
  let v728 : BitVec 32 := Scalar.muli v725 c48_i32_447
  let v729 : BitVec 32 := Scalar.addi v727 v728
  let v739 : BitVec 32 := Scalar.addi v453 v729
  let v741 : Index := Scalar.indexCast v739
  let c1024_456 : Index := 1024#32
  ![v741.toNat, 1024]
def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c1_i32_445 : BitVec 32 := 1#32
  let c2_i32_441 : BitVec 32 := 2#32
  let v722 : BitVec 32 := Scalar.shrsi v2 c2_i32_441
  let c1_i32_442 : BitVec 32 := 1#32
  let v723 : BitVec 32 := Scalar.andi v722 c1_i32_442
  let v726 : BitVec 32 := Scalar.subi c1_i32_445 v723
  let c96_i32_446 : BitVec 32 := 96#32
  let v727 : BitVec 32 := Scalar.muli v726 c96_i32_446
  let c4_i32_443 : BitVec 32 := 4#32
  let v724 : BitVec 32 := Scalar.shrsi v2 c4_i32_443
  let c1_i32_444 : BitVec 32 := 1#32
  let v725 : BitVec 32 := Scalar.andi v724 c1_i32_444
  let c48_i32_447 : BitVec 32 := 48#32
  let v728 : BitVec 32 := Scalar.muli v725 c48_i32_447
  let v729 : BitVec 32 := Scalar.addi v727 v728
  let v739 : BitVec 32 := Scalar.addi v453 v729
  let v754 : Index := Scalar.indexCast v739
  let c0_460 : Index := 0#32
  ![v754.toNat, 0]
def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c1_i32_445 : BitVec 32 := 1#32
  let c2_i32_441 : BitVec 32 := 2#32
  let v722 : BitVec 32 := Scalar.shrsi v2 c2_i32_441
  let c1_i32_442 : BitVec 32 := 1#32
  let v723 : BitVec 32 := Scalar.andi v722 c1_i32_442
  let v726 : BitVec 32 := Scalar.subi c1_i32_445 v723
  let c96_i32_446 : BitVec 32 := 96#32
  let v727 : BitVec 32 := Scalar.muli v726 c96_i32_446
  let c4_i32_443 : BitVec 32 := 4#32
  let v724 : BitVec 32 := Scalar.shrsi v2 c4_i32_443
  let c1_i32_444 : BitVec 32 := 1#32
  let v725 : BitVec 32 := Scalar.andi v724 c1_i32_444
  let c48_i32_447 : BitVec 32 := 48#32
  let v728 : BitVec 32 := Scalar.muli v725 c48_i32_447
  let v729 : BitVec 32 := Scalar.addi v727 v728
  let v739 : BitVec 32 := Scalar.addi v453 v729
  let c0_i32_467 : BitVec 32 := 0#32
  ![v739.toNat, 0]
def k0_dev22 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_461 : BitVec 32 := 4#32
  let v758 : BitVec 32 := Scalar.xori v2 c4_i32_461
  let c1_i32_463 : BitVec 32 := 1#32
  let v759 : BitVec 32 := Scalar.muli v758 c1_i32_463
  let v760 : BitVec 32 := Scalar.addi c0_i32_464 v759
  v760.toNat
def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c2_i32_441 : BitVec 32 := 2#32
  let v722 : BitVec 32 := Scalar.shrsi v2 c2_i32_441
  let c1_i32_442 : BitVec 32 := 1#32
  let v723 : BitVec 32 := Scalar.andi v722 c1_i32_442
  let c96_i32_448 : BitVec 32 := 96#32
  let v730 : BitVec 32 := Scalar.muli v723 c96_i32_448
  let c1_i32_449 : BitVec 32 := 1#32
  let c4_i32_443 : BitVec 32 := 4#32
  let v724 : BitVec 32 := Scalar.shrsi v2 c4_i32_443
  let c1_i32_444 : BitVec 32 := 1#32
  let v725 : BitVec 32 := Scalar.andi v724 c1_i32_444
  let v731 : BitVec 32 := Scalar.subi c1_i32_449 v725
  let c48_i32_450 : BitVec 32 := 48#32
  let v732 : BitVec 32 := Scalar.muli v731 c48_i32_450
  let v733 : BitVec 32 := Scalar.addi v730 v732
  let v767 : BitVec 32 := Scalar.addi v453 v733
  let v769 : Index := Scalar.indexCast v767
  let c1024_469 : Index := 1024#32
  ![v769.toNat, 1024]
def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c2_i32_441 : BitVec 32 := 2#32
  let v722 : BitVec 32 := Scalar.shrsi v2 c2_i32_441
  let c1_i32_442 : BitVec 32 := 1#32
  let v723 : BitVec 32 := Scalar.andi v722 c1_i32_442
  let c96_i32_448 : BitVec 32 := 96#32
  let v730 : BitVec 32 := Scalar.muli v723 c96_i32_448
  let c1_i32_449 : BitVec 32 := 1#32
  let c4_i32_443 : BitVec 32 := 4#32
  let v724 : BitVec 32 := Scalar.shrsi v2 c4_i32_443
  let c1_i32_444 : BitVec 32 := 1#32
  let v725 : BitVec 32 := Scalar.andi v724 c1_i32_444
  let v731 : BitVec 32 := Scalar.subi c1_i32_449 v725
  let c48_i32_450 : BitVec 32 := 48#32
  let v732 : BitVec 32 := Scalar.muli v731 c48_i32_450
  let v733 : BitVec 32 := Scalar.addi v730 v732
  let v767 : BitVec 32 := Scalar.addi v453 v733
  let v782 : Index := Scalar.indexCast v767
  let c0_473 : Index := 0#32
  ![v782.toNat, 0]
def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c2_i32_441 : BitVec 32 := 2#32
  let v722 : BitVec 32 := Scalar.shrsi v2 c2_i32_441
  let c1_i32_442 : BitVec 32 := 1#32
  let v723 : BitVec 32 := Scalar.andi v722 c1_i32_442
  let c96_i32_448 : BitVec 32 := 96#32
  let v730 : BitVec 32 := Scalar.muli v723 c96_i32_448
  let c1_i32_449 : BitVec 32 := 1#32
  let c4_i32_443 : BitVec 32 := 4#32
  let v724 : BitVec 32 := Scalar.shrsi v2 c4_i32_443
  let c1_i32_444 : BitVec 32 := 1#32
  let v725 : BitVec 32 := Scalar.andi v724 c1_i32_444
  let v731 : BitVec 32 := Scalar.subi c1_i32_449 v725
  let c48_i32_450 : BitVec 32 := 48#32
  let v732 : BitVec 32 := Scalar.muli v731 c48_i32_450
  let v733 : BitVec 32 := Scalar.addi v730 v732
  let v767 : BitVec 32 := Scalar.addi v453 v733
  let c0_i32_480 : BitVec 32 := 0#32
  ![v767.toNat, 0]
def k0_dev23 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_474 : BitVec 32 := 16#32
  let v786 : BitVec 32 := Scalar.xori v2 c16_i32_474
  let c1_i32_476 : BitVec 32 := 1#32
  let v787 : BitVec 32 := Scalar.muli v786 c1_i32_476
  let v788 : BitVec 32 := Scalar.addi c0_i32_477 v787
  v788.toNat
def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c1_i32_451 : BitVec 32 := 1#32
  let c2_i32_441 : BitVec 32 := 2#32
  let v722 : BitVec 32 := Scalar.shrsi v2 c2_i32_441
  let c1_i32_442 : BitVec 32 := 1#32
  let v723 : BitVec 32 := Scalar.andi v722 c1_i32_442
  let v734 : BitVec 32 := Scalar.subi c1_i32_451 v723
  let c96_i32_452 : BitVec 32 := 96#32
  let v735 : BitVec 32 := Scalar.muli v734 c96_i32_452
  let c1_i32_453 : BitVec 32 := 1#32
  let c4_i32_443 : BitVec 32 := 4#32
  let v724 : BitVec 32 := Scalar.shrsi v2 c4_i32_443
  let c1_i32_444 : BitVec 32 := 1#32
  let v725 : BitVec 32 := Scalar.andi v724 c1_i32_444
  let v736 : BitVec 32 := Scalar.subi c1_i32_453 v725
  let c48_i32_454 : BitVec 32 := 48#32
  let v737 : BitVec 32 := Scalar.muli v736 c48_i32_454
  let v738 : BitVec 32 := Scalar.addi v735 v737
  let v795 : BitVec 32 := Scalar.addi v453 v738
  let v797 : Index := Scalar.indexCast v795
  let c1024_482 : Index := 1024#32
  ![v797.toNat, 1024]
def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c1_i32_451 : BitVec 32 := 1#32
  let c2_i32_441 : BitVec 32 := 2#32
  let v722 : BitVec 32 := Scalar.shrsi v2 c2_i32_441
  let c1_i32_442 : BitVec 32 := 1#32
  let v723 : BitVec 32 := Scalar.andi v722 c1_i32_442
  let v734 : BitVec 32 := Scalar.subi c1_i32_451 v723
  let c96_i32_452 : BitVec 32 := 96#32
  let v735 : BitVec 32 := Scalar.muli v734 c96_i32_452
  let c1_i32_453 : BitVec 32 := 1#32
  let c4_i32_443 : BitVec 32 := 4#32
  let v724 : BitVec 32 := Scalar.shrsi v2 c4_i32_443
  let c1_i32_444 : BitVec 32 := 1#32
  let v725 : BitVec 32 := Scalar.andi v724 c1_i32_444
  let v736 : BitVec 32 := Scalar.subi c1_i32_453 v725
  let c48_i32_454 : BitVec 32 := 48#32
  let v737 : BitVec 32 := Scalar.muli v736 c48_i32_454
  let v738 : BitVec 32 := Scalar.addi v735 v737
  let v795 : BitVec 32 := Scalar.addi v453 v738
  let v810 : Index := Scalar.indexCast v795
  let c0_486 : Index := 0#32
  ![v810.toNat, 0]
def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c1_i32_451 : BitVec 32 := 1#32
  let c2_i32_441 : BitVec 32 := 2#32
  let v722 : BitVec 32 := Scalar.shrsi v2 c2_i32_441
  let c1_i32_442 : BitVec 32 := 1#32
  let v723 : BitVec 32 := Scalar.andi v722 c1_i32_442
  let v734 : BitVec 32 := Scalar.subi c1_i32_451 v723
  let c96_i32_452 : BitVec 32 := 96#32
  let v735 : BitVec 32 := Scalar.muli v734 c96_i32_452
  let c1_i32_453 : BitVec 32 := 1#32
  let c4_i32_443 : BitVec 32 := 4#32
  let v724 : BitVec 32 := Scalar.shrsi v2 c4_i32_443
  let c1_i32_444 : BitVec 32 := 1#32
  let v725 : BitVec 32 := Scalar.andi v724 c1_i32_444
  let v736 : BitVec 32 := Scalar.subi c1_i32_453 v725
  let c48_i32_454 : BitVec 32 := 48#32
  let v737 : BitVec 32 := Scalar.muli v736 c48_i32_454
  let v738 : BitVec 32 := Scalar.addi v735 v737
  let v795 : BitVec 32 := Scalar.addi v453 v738
  let c0_i32_493 : BitVec 32 := 0#32
  ![v795.toNat, 0]
def k0_dev24 (d0 : Dev nD) : Nat :=
  let c0_i32_490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_487 : BitVec 32 := 20#32
  let v814 : BitVec 32 := Scalar.xori v2 c20_i32_487
  let c1_i32_489 : BitVec 32 := 1#32
  let v815 : BitVec 32 := Scalar.muli v814 c1_i32_489
  let v816 : BitVec 32 := Scalar.addi c0_i32_490 v815
  v816.toNat
def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c2_i32_307 : BitVec 32 := 2#32
  let v494 : BitVec 32 := Scalar.shrsi v2 c2_i32_307
  let c1_i32_308 : BitVec 32 := 1#32
  let v495 : BitVec 32 := Scalar.andi v494 c1_i32_308
  let c96_i32_357 : BitVec 32 := 96#32
  let v595 : BitVec 32 := Scalar.muli v495 c96_i32_357
  let c4_i32_309 : BitVec 32 := 4#32
  let v496 : BitVec 32 := Scalar.shrsi v2 c4_i32_309
  let c1_i32_310 : BitVec 32 := 1#32
  let v497 : BitVec 32 := Scalar.andi v496 c1_i32_310
  let c48_i32_358 : BitVec 32 := 48#32
  let v596 : BitVec 32 := Scalar.muli v497 c48_i32_358
  let v597 : BitVec 32 := Scalar.addi v595 v596
  let v826 : BitVec 32 := Scalar.addi v360 v597
  let v828 : Index := Scalar.indexCast v826
  let c0_497 : Index := 0#32
  ![v828.toNat, 0]
def k0_off78 (d0 : Dev nD) : Fin 2 → Nat :=
  let c1152_i32_496 : BitVec 32 := 1152#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_307 : BitVec 32 := 2#32
  let v494 : BitVec 32 := Scalar.shrsi v2 c2_i32_307
  let c1_i32_308 : BitVec 32 := 1#32
  let v495 : BitVec 32 := Scalar.andi v494 c1_i32_308
  let c96_i32_357 : BitVec 32 := 96#32
  let v595 : BitVec 32 := Scalar.muli v495 c96_i32_357
  let c4_i32_309 : BitVec 32 := 4#32
  let v496 : BitVec 32 := Scalar.shrsi v2 c4_i32_309
  let c1_i32_310 : BitVec 32 := 1#32
  let v497 : BitVec 32 := Scalar.andi v496 c1_i32_310
  let c48_i32_358 : BitVec 32 := 48#32
  let v596 : BitVec 32 := Scalar.muli v497 c48_i32_358
  let v597 : BitVec 32 := Scalar.addi v595 v596
  let v827 : BitVec 32 := Scalar.addi c1152_i32_496 v597
  let v830 : Index := Scalar.indexCast v827
  let c0_498 : Index := 0#32
  ![v830.toNat, 0]
def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c2_i32_372 : BitVec 32 := 2#32
  let v608 : BitVec 32 := Scalar.shrsi v2 c2_i32_372
  let c1_i32_373 : BitVec 32 := 1#32
  let v609 : BitVec 32 := Scalar.andi v608 c1_i32_373
  let c96_i32_426 : BitVec 32 := 96#32
  let v709 : BitVec 32 := Scalar.muli v609 c96_i32_426
  let c4_i32_374 : BitVec 32 := 4#32
  let v610 : BitVec 32 := Scalar.shrsi v2 c4_i32_374
  let c1_i32_375 : BitVec 32 := 1#32
  let v611 : BitVec 32 := Scalar.andi v610 c1_i32_375
  let c48_i32_427 : BitVec 32 := 48#32
  let v710 : BitVec 32 := Scalar.muli v611 c48_i32_427
  let v711 : BitVec 32 := Scalar.addi v709 v710
  let v838 : BitVec 32 := Scalar.addi v406 v711
  let v840 : Index := Scalar.indexCast v838
  let c512_501 : Index := 512#32
  ![v840.toNat, 512]
def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c2_i32_441 : BitVec 32 := 2#32
  let v722 : BitVec 32 := Scalar.shrsi v2 c2_i32_441
  let c1_i32_442 : BitVec 32 := 1#32
  let v723 : BitVec 32 := Scalar.andi v722 c1_i32_442
  let c96_i32_494 : BitVec 32 := 96#32
  let v823 : BitVec 32 := Scalar.muli v723 c96_i32_494
  let c4_i32_443 : BitVec 32 := 4#32
  let v724 : BitVec 32 := Scalar.shrsi v2 c4_i32_443
  let c1_i32_444 : BitVec 32 := 1#32
  let v725 : BitVec 32 := Scalar.andi v724 c1_i32_444
  let c48_i32_495 : BitVec 32 := 48#32
  let v824 : BitVec 32 := Scalar.muli v725 c48_i32_495
  let v825 : BitVec 32 := Scalar.addi v823 v824
  let v850 : BitVec 32 := Scalar.addi v453 v825
  let v852 : Index := Scalar.indexCast v850
  let c1024_505 : Index := 1024#32
  ![v852.toNat, 1024]
def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c2_i32_307 : BitVec 32 := 2#32
  let v494 : BitVec 32 := Scalar.shrsi v2 c2_i32_307
  let c1_i32_308 : BitVec 32 := 1#32
  let v495 : BitVec 32 := Scalar.andi v494 c1_i32_308
  let c96_i32_357 : BitVec 32 := 96#32
  let v595 : BitVec 32 := Scalar.muli v495 c96_i32_357
  let c4_i32_309 : BitVec 32 := 4#32
  let v496 : BitVec 32 := Scalar.shrsi v2 c4_i32_309
  let c1_i32_310 : BitVec 32 := 1#32
  let v497 : BitVec 32 := Scalar.andi v496 c1_i32_310
  let c48_i32_358 : BitVec 32 := 48#32
  let v596 : BitVec 32 := Scalar.muli v497 c48_i32_358
  let v597 : BitVec 32 := Scalar.addi v595 v596
  let v892 : BitVec 32 := Scalar.addi v360 v597
  let v915 : Index := Scalar.indexCast v892
  let c0_555 : Index := 0#32
  ![v915.toNat, 0]
def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c2_i32_372 : BitVec 32 := 2#32
  let v608 : BitVec 32 := Scalar.shrsi v2 c2_i32_372
  let c1_i32_373 : BitVec 32 := 1#32
  let v609 : BitVec 32 := Scalar.andi v608 c1_i32_373
  let c96_i32_426 : BitVec 32 := 96#32
  let v709 : BitVec 32 := Scalar.muli v609 c96_i32_426
  let c4_i32_374 : BitVec 32 := 4#32
  let v610 : BitVec 32 := Scalar.shrsi v2 c4_i32_374
  let c1_i32_375 : BitVec 32 := 1#32
  let v611 : BitVec 32 := Scalar.andi v610 c1_i32_375
  let c48_i32_427 : BitVec 32 := 48#32
  let v710 : BitVec 32 := Scalar.muli v611 c48_i32_427
  let v711 : BitVec 32 := Scalar.addi v709 v710
  let v949 : BitVec 32 := Scalar.addi v406 v711
  let v972 : Index := Scalar.indexCast v949
  let c0_606 : Index := 0#32
  ![v972.toNat, 0]
def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c2_i32_441 : BitVec 32 := 2#32
  let v722 : BitVec 32 := Scalar.shrsi v2 c2_i32_441
  let c1_i32_442 : BitVec 32 := 1#32
  let v723 : BitVec 32 := Scalar.andi v722 c1_i32_442
  let c96_i32_494 : BitVec 32 := 96#32
  let v823 : BitVec 32 := Scalar.muli v723 c96_i32_494
  let c4_i32_443 : BitVec 32 := 4#32
  let v724 : BitVec 32 := Scalar.shrsi v2 c4_i32_443
  let c1_i32_444 : BitVec 32 := 1#32
  let v725 : BitVec 32 := Scalar.andi v724 c1_i32_444
  let c48_i32_495 : BitVec 32 := 48#32
  let v824 : BitVec 32 := Scalar.muli v725 c48_i32_495
  let v825 : BitVec 32 := Scalar.addi v823 v824
  let v1006 : BitVec 32 := Scalar.addi v453 v825
  let v1029 : Index := Scalar.indexCast v1006
  let c0_657 : Index := 0#32
  ![v1029.toNat, 0]
def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c2_i32_307 : BitVec 32 := 2#32
  let v494 : BitVec 32 := Scalar.shrsi v2 c2_i32_307
  let c1_i32_308 : BitVec 32 := 1#32
  let v495 : BitVec 32 := Scalar.andi v494 c1_i32_308
  let c96_i32_357 : BitVec 32 := 96#32
  let v595 : BitVec 32 := Scalar.muli v495 c96_i32_357
  let c4_i32_309 : BitVec 32 := 4#32
  let v496 : BitVec 32 := Scalar.shrsi v2 c4_i32_309
  let c1_i32_310 : BitVec 32 := 1#32
  let v497 : BitVec 32 := Scalar.andi v496 c1_i32_310
  let c48_i32_358 : BitVec 32 := 48#32
  let v596 : BitVec 32 := Scalar.muli v497 c48_i32_358
  let v597 : BitVec 32 := Scalar.addi v595 v596
  let v892 : BitVec 32 := Scalar.addi v360 v597
  let c0_i32_663 : BitVec 32 := 0#32
  ![v892.toNat, 0]
def k0_dev25 (d0 : Dev nD) : Nat :=
  let c0_i32_662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_658 : BitVec 32 := 4#32
  let v1033 : BitVec 32 := Scalar.xori v2 c4_i32_658
  let c1_i32_661 : BitVec 32 := 1#32
  let v1034 : BitVec 32 := Scalar.muli v1033 c1_i32_661
  let v1035 : BitVec 32 := Scalar.addi c0_i32_662 v1034
  v1035.toNat
def k0_dev26 (d0 : Dev nD) : Nat :=
  let c0_i32_668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_665 : BitVec 32 := 16#32
  let v1042 : BitVec 32 := Scalar.xori v2 c16_i32_665
  let c1_i32_667 : BitVec 32 := 1#32
  let v1043 : BitVec 32 := Scalar.muli v1042 c1_i32_667
  let v1044 : BitVec 32 := Scalar.addi c0_i32_668 v1043
  v1044.toNat
def k0_dev27 (d0 : Dev nD) : Nat :=
  let c0_i32_675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_671 : BitVec 32 := 20#32
  let v1051 : BitVec 32 := Scalar.xori v2 c20_i32_671
  let c1_i32_674 : BitVec 32 := 1#32
  let v1052 : BitVec 32 := Scalar.muli v1051 c1_i32_674
  let v1053 : BitVec 32 := Scalar.addi c0_i32_675 v1052
  v1053.toNat
def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c2_i32_372 : BitVec 32 := 2#32
  let v608 : BitVec 32 := Scalar.shrsi v2 c2_i32_372
  let c1_i32_373 : BitVec 32 := 1#32
  let v609 : BitVec 32 := Scalar.andi v608 c1_i32_373
  let c96_i32_426 : BitVec 32 := 96#32
  let v709 : BitVec 32 := Scalar.muli v609 c96_i32_426
  let c4_i32_374 : BitVec 32 := 4#32
  let v610 : BitVec 32 := Scalar.shrsi v2 c4_i32_374
  let c1_i32_375 : BitVec 32 := 1#32
  let v611 : BitVec 32 := Scalar.andi v610 c1_i32_375
  let c48_i32_427 : BitVec 32 := 48#32
  let v710 : BitVec 32 := Scalar.muli v611 c48_i32_427
  let v711 : BitVec 32 := Scalar.addi v709 v710
  let v949 : BitVec 32 := Scalar.addi v406 v711
  let c0_i32_682 : BitVec 32 := 0#32
  ![v949.toNat, 0]
def k0_dev28 (d0 : Dev nD) : Nat :=
  let c0_i32_681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_678 : BitVec 32 := 4#32
  let v1060 : BitVec 32 := Scalar.xori v2 c4_i32_678
  let c1_i32_680 : BitVec 32 := 1#32
  let v1061 : BitVec 32 := Scalar.muli v1060 c1_i32_680
  let v1062 : BitVec 32 := Scalar.addi c0_i32_681 v1061
  v1062.toNat
def k0_dev29 (d0 : Dev nD) : Nat :=
  let c0_i32_687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_684 : BitVec 32 := 16#32
  let v1069 : BitVec 32 := Scalar.xori v2 c16_i32_684
  let c1_i32_686 : BitVec 32 := 1#32
  let v1070 : BitVec 32 := Scalar.muli v1069 c1_i32_686
  let v1071 : BitVec 32 := Scalar.addi c0_i32_687 v1070
  v1071.toNat
def k0_dev30 (d0 : Dev nD) : Nat :=
  let c0_i32_694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_690 : BitVec 32 := 20#32
  let v1078 : BitVec 32 := Scalar.xori v2 c20_i32_690
  let c1_i32_693 : BitVec 32 := 1#32
  let v1079 : BitVec 32 := Scalar.muli v1078 c1_i32_693
  let v1080 : BitVec 32 := Scalar.addi c0_i32_694 v1079
  v1080.toNat
def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c2_i32_441 : BitVec 32 := 2#32
  let v722 : BitVec 32 := Scalar.shrsi v2 c2_i32_441
  let c1_i32_442 : BitVec 32 := 1#32
  let v723 : BitVec 32 := Scalar.andi v722 c1_i32_442
  let c96_i32_494 : BitVec 32 := 96#32
  let v823 : BitVec 32 := Scalar.muli v723 c96_i32_494
  let c4_i32_443 : BitVec 32 := 4#32
  let v724 : BitVec 32 := Scalar.shrsi v2 c4_i32_443
  let c1_i32_444 : BitVec 32 := 1#32
  let v725 : BitVec 32 := Scalar.andi v724 c1_i32_444
  let c48_i32_495 : BitVec 32 := 48#32
  let v824 : BitVec 32 := Scalar.muli v725 c48_i32_495
  let v825 : BitVec 32 := Scalar.addi v823 v824
  let v1006 : BitVec 32 := Scalar.addi v453 v825
  let c0_i32_701 : BitVec 32 := 0#32
  ![v1006.toNat, 0]
def k0_dev31 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_697 : BitVec 32 := 4#32
  let v1087 : BitVec 32 := Scalar.xori v2 c4_i32_697
  let c1_i32_699 : BitVec 32 := 1#32
  let v1088 : BitVec 32 := Scalar.muli v1087 c1_i32_699
  let v1089 : BitVec 32 := Scalar.addi c0_i32_700 v1088
  v1089.toNat
def k0_dev32 (d0 : Dev nD) : Nat :=
  let c0_i32_706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_703 : BitVec 32 := 16#32
  let v1096 : BitVec 32 := Scalar.xori v2 c16_i32_703
  let c1_i32_705 : BitVec 32 := 1#32
  let v1097 : BitVec 32 := Scalar.muli v1096 c1_i32_705
  let v1098 : BitVec 32 := Scalar.addi c0_i32_706 v1097
  v1098.toNat
def k0_dev33 (d0 : Dev nD) : Nat :=
  let c0_i32_713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_709 : BitVec 32 := 20#32
  let v1105 : BitVec 32 := Scalar.xori v2 c20_i32_709
  let c1_i32_712 : BitVec 32 := 1#32
  let v1106 : BitVec 32 := Scalar.muli v1105 c1_i32_712
  let v1107 : BitVec 32 := Scalar.addi c0_i32_713 v1106
  v1107.toNat
def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c0_i32_821 : BitVec 32 := 0#32
  ![v360.toNat, 0]
def k0_dev34 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_817 : BitVec 32 := 8#32
  let v1206 : BitVec 32 := Scalar.xori v2 c8_i32_817
  let c1_i32_819 : BitVec 32 := 1#32
  let v1207 : BitVec 32 := Scalar.muli v1206 c1_i32_819
  let v1208 : BitVec 32 := Scalar.addi c0_i32_820 v1207
  v1208.toNat
def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let v1215 : Index := Scalar.indexCast v360
  let c0_823 : Index := 0#32
  ![v1215.toNat, 0]
def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c0_i32_835 : BitVec 32 := 0#32
  ![v406.toNat, 0]
def k0_dev35 (d0 : Dev nD) : Nat :=
  let c0_i32_834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_831 : BitVec 32 := 3#32
  let v1228 : BitVec 32 := Scalar.xori v2 c3_i32_831
  let c1_i32_833 : BitVec 32 := 1#32
  let v1229 : BitVec 32 := Scalar.muli v1228 c1_i32_833
  let v1230 : BitVec 32 := Scalar.addi c0_i32_834 v1229
  v1230.toNat
def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let v1237 : Index := Scalar.indexCast v406
  let c0_837 : Index := 0#32
  ![v1237.toNat, 0]
def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c0_i32_849 : BitVec 32 := 0#32
  ![v453.toNat, 0]
def k0_dev36 (d0 : Dev nD) : Nat :=
  let c0_i32_848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_845 : BitVec 32 := 1#32
  let v1251 : BitVec 32 := Scalar.xori v2 c1_i32_845
  let c1_i32_847 : BitVec 32 := 1#32
  let v1252 : BitVec 32 := Scalar.muli v1251 c1_i32_847
  let v1253 : BitVec 32 := Scalar.addi c0_i32_848 v1252
  v1253.toNat
def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let v1260 : Index := Scalar.indexCast v453
  let c0_851 : Index := 0#32
  ![v1260.toNat, 0]
def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c3_i32_815 : BitVec 32 := 3#32
  let v1204 : BitVec 32 := Scalar.shrsi v2 c3_i32_815
  let c1_i32_816 : BitVec 32 := 1#32
  let v1205 : BitVec 32 := Scalar.andi v1204 c1_i32_816
  let c192_i32_828 : BitVec 32 := 192#32
  let v1224 : BitVec 32 := Scalar.muli v1205 c192_i32_828
  let v1225 : BitVec 32 := Scalar.subi v360 v1224
  let c0_i32_874 : BitVec 32 := 0#32
  ![v1225.toNat, 0]
def k0_dev37 (d0 : Dev nD) : Nat :=
  let c0_i32_873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_870 : BitVec 32 := 3#32
  let v1283 : BitVec 32 := Scalar.xori v2 c3_i32_870
  let c1_i32_872 : BitVec 32 := 1#32
  let v1284 : BitVec 32 := Scalar.muli v1283 c1_i32_872
  let v1285 : BitVec 32 := Scalar.addi c0_i32_873 v1284
  v1285.toNat
def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c1_i32_826 : BitVec 32 := 1#32
  let c2_i32_825 : BitVec 32 := 2#32
  let c3_i32_815 : BitVec 32 := 3#32
  let v1204 : BitVec 32 := Scalar.shrsi v2 c3_i32_815
  let c1_i32_816 : BitVec 32 := 1#32
  let v1205 : BitVec 32 := Scalar.andi v1204 c1_i32_816
  let v1220 : BitVec 32 := Scalar.muli c2_i32_825 v1205
  let v1221 : BitVec 32 := Scalar.subi c1_i32_826 v1220
  let c192_i32_827 : BitVec 32 := 192#32
  let v1222 : BitVec 32 := Scalar.muli v1221 c192_i32_827
  let v1223 : BitVec 32 := Scalar.addi v360 v1222
  let v1292 : Index := Scalar.indexCast v1223
  let c0_876 : Index := 0#32
  ![v1292.toNat, 0]
def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c1_i32_826 : BitVec 32 := 1#32
  let c2_i32_825 : BitVec 32 := 2#32
  let c3_i32_815 : BitVec 32 := 3#32
  let v1204 : BitVec 32 := Scalar.shrsi v2 c3_i32_815
  let c1_i32_816 : BitVec 32 := 1#32
  let v1205 : BitVec 32 := Scalar.andi v1204 c1_i32_816
  let v1220 : BitVec 32 := Scalar.muli c2_i32_825 v1205
  let v1221 : BitVec 32 := Scalar.subi c1_i32_826 v1220
  let c192_i32_827 : BitVec 32 := 192#32
  let v1222 : BitVec 32 := Scalar.muli v1221 c192_i32_827
  let v1223 : BitVec 32 := Scalar.addi v360 v1222
  let v1295 : Index := Scalar.indexCast v1223
  let c0_877 : Index := 0#32
  ![v1295.toNat, 0]
def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c1_i32_829 : BitVec 32 := 1#32
  let v1226 : BitVec 32 := Scalar.shrsi v2 c1_i32_829
  let c1_i32_830 : BitVec 32 := 1#32
  let v1227 : BitVec 32 := Scalar.andi v1226 c1_i32_830
  let c192_i32_842 : BitVec 32 := 192#32
  let v1246 : BitVec 32 := Scalar.muli v1227 c192_i32_842
  let v1247 : BitVec 32 := Scalar.subi v406 v1246
  let c0_i32_899 : BitVec 32 := 0#32
  ![v1247.toNat, 0]
def k0_dev38 (d0 : Dev nD) : Nat :=
  let c0_i32_898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_895 : BitVec 32 := 1#32
  let v1316 : BitVec 32 := Scalar.xori v2 c1_i32_895
  let c1_i32_897 : BitVec 32 := 1#32
  let v1317 : BitVec 32 := Scalar.muli v1316 c1_i32_897
  let v1318 : BitVec 32 := Scalar.addi c0_i32_898 v1317
  v1318.toNat
def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c1_i32_840 : BitVec 32 := 1#32
  let c2_i32_839 : BitVec 32 := 2#32
  let c1_i32_829 : BitVec 32 := 1#32
  let v1226 : BitVec 32 := Scalar.shrsi v2 c1_i32_829
  let c1_i32_830 : BitVec 32 := 1#32
  let v1227 : BitVec 32 := Scalar.andi v1226 c1_i32_830
  let v1242 : BitVec 32 := Scalar.muli c2_i32_839 v1227
  let v1243 : BitVec 32 := Scalar.subi c1_i32_840 v1242
  let c192_i32_841 : BitVec 32 := 192#32
  let v1244 : BitVec 32 := Scalar.muli v1243 c192_i32_841
  let v1245 : BitVec 32 := Scalar.addi v406 v1244
  let v1325 : Index := Scalar.indexCast v1245
  let c0_901 : Index := 0#32
  ![v1325.toNat, 0]
def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c1_i32_840 : BitVec 32 := 1#32
  let c2_i32_839 : BitVec 32 := 2#32
  let c1_i32_829 : BitVec 32 := 1#32
  let v1226 : BitVec 32 := Scalar.shrsi v2 c1_i32_829
  let c1_i32_830 : BitVec 32 := 1#32
  let v1227 : BitVec 32 := Scalar.andi v1226 c1_i32_830
  let v1242 : BitVec 32 := Scalar.muli c2_i32_839 v1227
  let v1243 : BitVec 32 := Scalar.subi c1_i32_840 v1242
  let c192_i32_841 : BitVec 32 := 192#32
  let v1244 : BitVec 32 := Scalar.muli v1243 c192_i32_841
  let v1245 : BitVec 32 := Scalar.addi v406 v1244
  let v1328 : Index := Scalar.indexCast v1245
  let c512_902 : Index := 512#32
  ![v1328.toNat, 512]
def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c1_i32_843 : BitVec 32 := 1#32
  let v1248 : BitVec 32 := Scalar.shrsi v2 c1_i32_843
  let v1249 : BitVec 32 := Scalar.xori v2 v1248
  let c1_i32_844 : BitVec 32 := 1#32
  let v1250 : BitVec 32 := Scalar.andi v1249 c1_i32_844
  let c192_i32_856 : BitVec 32 := 192#32
  let v1269 : BitVec 32 := Scalar.muli v1250 c192_i32_856
  let v1270 : BitVec 32 := Scalar.subi v453 v1269
  let c0_i32_924 : BitVec 32 := 0#32
  ![v1270.toNat, 0]
def k0_dev39 (d0 : Dev nD) : Nat :=
  let c0_i32_923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_920 : BitVec 32 := 8#32
  let v1348 : BitVec 32 := Scalar.xori v2 c8_i32_920
  let c1_i32_922 : BitVec 32 := 1#32
  let v1349 : BitVec 32 := Scalar.muli v1348 c1_i32_922
  let v1350 : BitVec 32 := Scalar.addi c0_i32_923 v1349
  v1350.toNat
def k0_off100 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c1_i32_854 : BitVec 32 := 1#32
  let c2_i32_853 : BitVec 32 := 2#32
  let c1_i32_843 : BitVec 32 := 1#32
  let v1248 : BitVec 32 := Scalar.shrsi v2 c1_i32_843
  let v1249 : BitVec 32 := Scalar.xori v2 v1248
  let c1_i32_844 : BitVec 32 := 1#32
  let v1250 : BitVec 32 := Scalar.andi v1249 c1_i32_844
  let v1265 : BitVec 32 := Scalar.muli c2_i32_853 v1250
  let v1266 : BitVec 32 := Scalar.subi c1_i32_854 v1265
  let c192_i32_855 : BitVec 32 := 192#32
  let v1267 : BitVec 32 := Scalar.muli v1266 c192_i32_855
  let v1268 : BitVec 32 := Scalar.addi v453 v1267
  let v1357 : Index := Scalar.indexCast v1268
  let c0_926 : Index := 0#32
  ![v1357.toNat, 0]
def k0_off101 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c1_i32_854 : BitVec 32 := 1#32
  let c2_i32_853 : BitVec 32 := 2#32
  let c1_i32_843 : BitVec 32 := 1#32
  let v1248 : BitVec 32 := Scalar.shrsi v2 c1_i32_843
  let v1249 : BitVec 32 := Scalar.xori v2 v1248
  let c1_i32_844 : BitVec 32 := 1#32
  let v1250 : BitVec 32 := Scalar.andi v1249 c1_i32_844
  let v1265 : BitVec 32 := Scalar.muli c2_i32_853 v1250
  let v1266 : BitVec 32 := Scalar.subi c1_i32_854 v1265
  let c192_i32_855 : BitVec 32 := 192#32
  let v1267 : BitVec 32 := Scalar.muli v1266 c192_i32_855
  let v1268 : BitVec 32 := Scalar.addi v453 v1267
  let v1360 : Index := Scalar.indexCast v1268
  let c1024_927 : Index := 1024#32
  ![v1360.toNat, 1024]
def k0_off102 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c3_i32_815 : BitVec 32 := 3#32
  let v1204 : BitVec 32 := Scalar.shrsi v2 c3_i32_815
  let c1_i32_816 : BitVec 32 := 1#32
  let v1205 : BitVec 32 := Scalar.andi v1204 c1_i32_816
  let c192_i32_828 : BitVec 32 := 192#32
  let v1224 : BitVec 32 := Scalar.muli v1205 c192_i32_828
  let v1225 : BitVec 32 := Scalar.subi v360 v1224
  let c1_i32_868 : BitVec 32 := 1#32
  let v1281 : BitVec 32 := Scalar.shrsi v2 c1_i32_868
  let c1_i32_869 : BitVec 32 := 1#32
  let v1282 : BitVec 32 := Scalar.andi v1281 c1_i32_869
  let c384_i32_881 : BitVec 32 := 384#32
  let v1301 : BitVec 32 := Scalar.muli v1282 c384_i32_881
  let v1302 : BitVec 32 := Scalar.subi v1225 v1301
  let c0_i32_949 : BitVec 32 := 0#32
  ![v1302.toNat, 0]
def k0_dev40 (d0 : Dev nD) : Nat :=
  let c0_i32_948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_945 : BitVec 32 := 1#32
  let v1381 : BitVec 32 := Scalar.xori v2 c1_i32_945
  let c1_i32_947 : BitVec 32 := 1#32
  let v1382 : BitVec 32 := Scalar.muli v1381 c1_i32_947
  let v1383 : BitVec 32 := Scalar.addi c0_i32_948 v1382
  v1383.toNat
def k0_off103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c3_i32_815 : BitVec 32 := 3#32
  let v1204 : BitVec 32 := Scalar.shrsi v2 c3_i32_815
  let c1_i32_816 : BitVec 32 := 1#32
  let v1205 : BitVec 32 := Scalar.andi v1204 c1_i32_816
  let c192_i32_828 : BitVec 32 := 192#32
  let v1224 : BitVec 32 := Scalar.muli v1205 c192_i32_828
  let v1225 : BitVec 32 := Scalar.subi v360 v1224
  let c1_i32_879 : BitVec 32 := 1#32
  let c2_i32_878 : BitVec 32 := 2#32
  let c1_i32_868 : BitVec 32 := 1#32
  let v1281 : BitVec 32 := Scalar.shrsi v2 c1_i32_868
  let c1_i32_869 : BitVec 32 := 1#32
  let v1282 : BitVec 32 := Scalar.andi v1281 c1_i32_869
  let v1297 : BitVec 32 := Scalar.muli c2_i32_878 v1282
  let v1298 : BitVec 32 := Scalar.subi c1_i32_879 v1297
  let c384_i32_880 : BitVec 32 := 384#32
  let v1299 : BitVec 32 := Scalar.muli v1298 c384_i32_880
  let v1300 : BitVec 32 := Scalar.addi v1225 v1299
  let v1390 : Index := Scalar.indexCast v1300
  let c0_951 : Index := 0#32
  ![v1390.toNat, 0]
def k0_off104 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c3_i32_815 : BitVec 32 := 3#32
  let v1204 : BitVec 32 := Scalar.shrsi v2 c3_i32_815
  let c1_i32_816 : BitVec 32 := 1#32
  let v1205 : BitVec 32 := Scalar.andi v1204 c1_i32_816
  let c192_i32_828 : BitVec 32 := 192#32
  let v1224 : BitVec 32 := Scalar.muli v1205 c192_i32_828
  let v1225 : BitVec 32 := Scalar.subi v360 v1224
  let c1_i32_879 : BitVec 32 := 1#32
  let c2_i32_878 : BitVec 32 := 2#32
  let c1_i32_868 : BitVec 32 := 1#32
  let v1281 : BitVec 32 := Scalar.shrsi v2 c1_i32_868
  let c1_i32_869 : BitVec 32 := 1#32
  let v1282 : BitVec 32 := Scalar.andi v1281 c1_i32_869
  let v1297 : BitVec 32 := Scalar.muli c2_i32_878 v1282
  let v1298 : BitVec 32 := Scalar.subi c1_i32_879 v1297
  let c384_i32_880 : BitVec 32 := 384#32
  let v1299 : BitVec 32 := Scalar.muli v1298 c384_i32_880
  let v1300 : BitVec 32 := Scalar.addi v1225 v1299
  let v1393 : Index := Scalar.indexCast v1300
  let c0_952 : Index := 0#32
  ![v1393.toNat, 0]
def k0_off105 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c1_i32_829 : BitVec 32 := 1#32
  let v1226 : BitVec 32 := Scalar.shrsi v2 c1_i32_829
  let c1_i32_830 : BitVec 32 := 1#32
  let v1227 : BitVec 32 := Scalar.andi v1226 c1_i32_830
  let c192_i32_842 : BitVec 32 := 192#32
  let v1246 : BitVec 32 := Scalar.muli v1227 c192_i32_842
  let v1247 : BitVec 32 := Scalar.subi v406 v1246
  let c1_i32_893 : BitVec 32 := 1#32
  let v1313 : BitVec 32 := Scalar.shrsi v2 c1_i32_893
  let v1314 : BitVec 32 := Scalar.xori v2 v1313
  let c1_i32_894 : BitVec 32 := 1#32
  let v1315 : BitVec 32 := Scalar.andi v1314 c1_i32_894
  let c384_i32_906 : BitVec 32 := 384#32
  let v1334 : BitVec 32 := Scalar.muli v1315 c384_i32_906
  let v1335 : BitVec 32 := Scalar.subi v1247 v1334
  let c0_i32_973 : BitVec 32 := 0#32
  ![v1335.toNat, 0]
def k0_dev41 (d0 : Dev nD) : Nat :=
  let c0_i32_972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_969 : BitVec 32 := 8#32
  let v1411 : BitVec 32 := Scalar.xori v2 c8_i32_969
  let c1_i32_971 : BitVec 32 := 1#32
  let v1412 : BitVec 32 := Scalar.muli v1411 c1_i32_971
  let v1413 : BitVec 32 := Scalar.addi c0_i32_972 v1412
  v1413.toNat
def k0_off106 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c1_i32_829 : BitVec 32 := 1#32
  let v1226 : BitVec 32 := Scalar.shrsi v2 c1_i32_829
  let c1_i32_830 : BitVec 32 := 1#32
  let v1227 : BitVec 32 := Scalar.andi v1226 c1_i32_830
  let c192_i32_842 : BitVec 32 := 192#32
  let v1246 : BitVec 32 := Scalar.muli v1227 c192_i32_842
  let v1247 : BitVec 32 := Scalar.subi v406 v1246
  let c1_i32_904 : BitVec 32 := 1#32
  let c2_i32_903 : BitVec 32 := 2#32
  let c1_i32_893 : BitVec 32 := 1#32
  let v1313 : BitVec 32 := Scalar.shrsi v2 c1_i32_893
  let v1314 : BitVec 32 := Scalar.xori v2 v1313
  let c1_i32_894 : BitVec 32 := 1#32
  let v1315 : BitVec 32 := Scalar.andi v1314 c1_i32_894
  let v1330 : BitVec 32 := Scalar.muli c2_i32_903 v1315
  let v1331 : BitVec 32 := Scalar.subi c1_i32_904 v1330
  let c384_i32_905 : BitVec 32 := 384#32
  let v1332 : BitVec 32 := Scalar.muli v1331 c384_i32_905
  let v1333 : BitVec 32 := Scalar.addi v1247 v1332
  let v1420 : Index := Scalar.indexCast v1333
  let c0_975 : Index := 0#32
  ![v1420.toNat, 0]
def k0_off107 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c1_i32_829 : BitVec 32 := 1#32
  let v1226 : BitVec 32 := Scalar.shrsi v2 c1_i32_829
  let c1_i32_830 : BitVec 32 := 1#32
  let v1227 : BitVec 32 := Scalar.andi v1226 c1_i32_830
  let c192_i32_842 : BitVec 32 := 192#32
  let v1246 : BitVec 32 := Scalar.muli v1227 c192_i32_842
  let v1247 : BitVec 32 := Scalar.subi v406 v1246
  let c1_i32_904 : BitVec 32 := 1#32
  let c2_i32_903 : BitVec 32 := 2#32
  let c1_i32_893 : BitVec 32 := 1#32
  let v1313 : BitVec 32 := Scalar.shrsi v2 c1_i32_893
  let v1314 : BitVec 32 := Scalar.xori v2 v1313
  let c1_i32_894 : BitVec 32 := 1#32
  let v1315 : BitVec 32 := Scalar.andi v1314 c1_i32_894
  let v1330 : BitVec 32 := Scalar.muli c2_i32_903 v1315
  let v1331 : BitVec 32 := Scalar.subi c1_i32_904 v1330
  let c384_i32_905 : BitVec 32 := 384#32
  let v1332 : BitVec 32 := Scalar.muli v1331 c384_i32_905
  let v1333 : BitVec 32 := Scalar.addi v1247 v1332
  let v1423 : Index := Scalar.indexCast v1333
  let c512_976 : Index := 512#32
  ![v1423.toNat, 512]
def k0_off108 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c1_i32_843 : BitVec 32 := 1#32
  let v1248 : BitVec 32 := Scalar.shrsi v2 c1_i32_843
  let v1249 : BitVec 32 := Scalar.xori v2 v1248
  let c1_i32_844 : BitVec 32 := 1#32
  let v1250 : BitVec 32 := Scalar.andi v1249 c1_i32_844
  let c192_i32_856 : BitVec 32 := 192#32
  let v1269 : BitVec 32 := Scalar.muli v1250 c192_i32_856
  let v1270 : BitVec 32 := Scalar.subi v453 v1269
  let c3_i32_918 : BitVec 32 := 3#32
  let v1346 : BitVec 32 := Scalar.shrsi v2 c3_i32_918
  let c1_i32_919 : BitVec 32 := 1#32
  let v1347 : BitVec 32 := Scalar.andi v1346 c1_i32_919
  let c384_i32_931 : BitVec 32 := 384#32
  let v1366 : BitVec 32 := Scalar.muli v1347 c384_i32_931
  let v1367 : BitVec 32 := Scalar.subi v1270 v1366
  let c0_i32_997 : BitVec 32 := 0#32
  ![v1367.toNat, 0]
def k0_dev42 (d0 : Dev nD) : Nat :=
  let c0_i32_996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_993 : BitVec 32 := 3#32
  let v1441 : BitVec 32 := Scalar.xori v2 c3_i32_993
  let c1_i32_995 : BitVec 32 := 1#32
  let v1442 : BitVec 32 := Scalar.muli v1441 c1_i32_995
  let v1443 : BitVec 32 := Scalar.addi c0_i32_996 v1442
  v1443.toNat
def k0_off109 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c1_i32_843 : BitVec 32 := 1#32
  let v1248 : BitVec 32 := Scalar.shrsi v2 c1_i32_843
  let v1249 : BitVec 32 := Scalar.xori v2 v1248
  let c1_i32_844 : BitVec 32 := 1#32
  let v1250 : BitVec 32 := Scalar.andi v1249 c1_i32_844
  let c192_i32_856 : BitVec 32 := 192#32
  let v1269 : BitVec 32 := Scalar.muli v1250 c192_i32_856
  let v1270 : BitVec 32 := Scalar.subi v453 v1269
  let c1_i32_929 : BitVec 32 := 1#32
  let c2_i32_928 : BitVec 32 := 2#32
  let c3_i32_918 : BitVec 32 := 3#32
  let v1346 : BitVec 32 := Scalar.shrsi v2 c3_i32_918
  let c1_i32_919 : BitVec 32 := 1#32
  let v1347 : BitVec 32 := Scalar.andi v1346 c1_i32_919
  let v1362 : BitVec 32 := Scalar.muli c2_i32_928 v1347
  let v1363 : BitVec 32 := Scalar.subi c1_i32_929 v1362
  let c384_i32_930 : BitVec 32 := 384#32
  let v1364 : BitVec 32 := Scalar.muli v1363 c384_i32_930
  let v1365 : BitVec 32 := Scalar.addi v1270 v1364
  let v1450 : Index := Scalar.indexCast v1365
  let c0_999 : Index := 0#32
  ![v1450.toNat, 0]
def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c1_i32_843 : BitVec 32 := 1#32
  let v1248 : BitVec 32 := Scalar.shrsi v2 c1_i32_843
  let v1249 : BitVec 32 := Scalar.xori v2 v1248
  let c1_i32_844 : BitVec 32 := 1#32
  let v1250 : BitVec 32 := Scalar.andi v1249 c1_i32_844
  let c192_i32_856 : BitVec 32 := 192#32
  let v1269 : BitVec 32 := Scalar.muli v1250 c192_i32_856
  let v1270 : BitVec 32 := Scalar.subi v453 v1269
  let c1_i32_929 : BitVec 32 := 1#32
  let c2_i32_928 : BitVec 32 := 2#32
  let c3_i32_918 : BitVec 32 := 3#32
  let v1346 : BitVec 32 := Scalar.shrsi v2 c3_i32_918
  let c1_i32_919 : BitVec 32 := 1#32
  let v1347 : BitVec 32 := Scalar.andi v1346 c1_i32_919
  let v1362 : BitVec 32 := Scalar.muli c2_i32_928 v1347
  let v1363 : BitVec 32 := Scalar.subi c1_i32_929 v1362
  let c384_i32_930 : BitVec 32 := 384#32
  let v1364 : BitVec 32 := Scalar.muli v1363 c384_i32_930
  let v1365 : BitVec 32 := Scalar.addi v1270 v1364
  let v1453 : Index := Scalar.indexCast v1365
  let c1024_1000 : Index := 1024#32
  ![v1453.toNat, 1024]
def k0_off111 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c3_i32_815 : BitVec 32 := 3#32
  let v1204 : BitVec 32 := Scalar.shrsi v2 c3_i32_815
  let c1_i32_816 : BitVec 32 := 1#32
  let v1205 : BitVec 32 := Scalar.andi v1204 c1_i32_816
  let c192_i32_828 : BitVec 32 := 192#32
  let v1224 : BitVec 32 := Scalar.muli v1205 c192_i32_828
  let v1225 : BitVec 32 := Scalar.subi v360 v1224
  let c1_i32_868 : BitVec 32 := 1#32
  let v1281 : BitVec 32 := Scalar.shrsi v2 c1_i32_868
  let c1_i32_869 : BitVec 32 := 1#32
  let v1282 : BitVec 32 := Scalar.andi v1281 c1_i32_869
  let c384_i32_881 : BitVec 32 := 384#32
  let v1301 : BitVec 32 := Scalar.muli v1282 c384_i32_881
  let v1302 : BitVec 32 := Scalar.subi v1225 v1301
  let c1_i32_954 : BitVec 32 := 1#32
  let c2_i32_953 : BitVec 32 := 2#32
  let c1_i32_943 : BitVec 32 := 1#32
  let v1378 : BitVec 32 := Scalar.shrsi v2 c1_i32_943
  let v1379 : BitVec 32 := Scalar.xori v2 v1378
  let c1_i32_944 : BitVec 32 := 1#32
  let v1380 : BitVec 32 := Scalar.andi v1379 c1_i32_944
  let v1395 : BitVec 32 := Scalar.muli c2_i32_953 v1380
  let v1396 : BitVec 32 := Scalar.subi c1_i32_954 v1395
  let c768_i32_955 : BitVec 32 := 768#32
  let v1397 : BitVec 32 := Scalar.muli v1396 c768_i32_955
  let v1398 : BitVec 32 := Scalar.addi v1302 v1397
  let v1469 : Index := Scalar.indexCast v1398
  let c0_1015 : Index := 0#32
  ![v1469.toNat, 0]
def k0_off112 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v22 : BitVec 32 := Scalar.shrsi v2 c1_i32_18
  let v23 : BitVec 32 := Scalar.xori v2 v22
  let c1_i32_19 : BitVec 32 := 1#32
  let v24 : BitVec 32 := Scalar.andi v23 c1_i32_19
  let c768_i32_21 : BitVec 32 := 768#32
  let v27 : BitVec 32 := Scalar.muli v24 c768_i32_21
  let c1_i32_99 : BitVec 32 := 1#32
  let v156 : BitVec 32 := Scalar.shrsi v2 c1_i32_99
  let c1_i32_100 : BitVec 32 := 1#32
  let v157 : BitVec 32 := Scalar.andi v156 c1_i32_100
  let c384_i32_102 : BitVec 32 := 384#32
  let v160 : BitVec 32 := Scalar.muli v157 c384_i32_102
  let v191 : BitVec 32 := Scalar.addi v27 v160
  let c3_i32_204 : BitVec 32 := 3#32
  let v325 : BitVec 32 := Scalar.shrsi v2 c3_i32_204
  let c1_i32_205 : BitVec 32 := 1#32
  let v326 : BitVec 32 := Scalar.andi v325 c1_i32_205
  let c192_i32_207 : BitVec 32 := 192#32
  let v329 : BitVec 32 := Scalar.muli v326 c192_i32_207
  let v360 : BitVec 32 := Scalar.addi v191 v329
  let c3_i32_815 : BitVec 32 := 3#32
  let v1204 : BitVec 32 := Scalar.shrsi v2 c3_i32_815
  let c1_i32_816 : BitVec 32 := 1#32
  let v1205 : BitVec 32 := Scalar.andi v1204 c1_i32_816
  let c192_i32_828 : BitVec 32 := 192#32
  let v1224 : BitVec 32 := Scalar.muli v1205 c192_i32_828
  let v1225 : BitVec 32 := Scalar.subi v360 v1224
  let c1_i32_868 : BitVec 32 := 1#32
  let v1281 : BitVec 32 := Scalar.shrsi v2 c1_i32_868
  let c1_i32_869 : BitVec 32 := 1#32
  let v1282 : BitVec 32 := Scalar.andi v1281 c1_i32_869
  let c384_i32_881 : BitVec 32 := 384#32
  let v1301 : BitVec 32 := Scalar.muli v1282 c384_i32_881
  let v1302 : BitVec 32 := Scalar.subi v1225 v1301
  let c1_i32_954 : BitVec 32 := 1#32
  let c2_i32_953 : BitVec 32 := 2#32
  let c1_i32_943 : BitVec 32 := 1#32
  let v1378 : BitVec 32 := Scalar.shrsi v2 c1_i32_943
  let v1379 : BitVec 32 := Scalar.xori v2 v1378
  let c1_i32_944 : BitVec 32 := 1#32
  let v1380 : BitVec 32 := Scalar.andi v1379 c1_i32_944
  let v1395 : BitVec 32 := Scalar.muli c2_i32_953 v1380
  let v1396 : BitVec 32 := Scalar.subi c1_i32_954 v1395
  let c768_i32_955 : BitVec 32 := 768#32
  let v1397 : BitVec 32 := Scalar.muli v1396 c768_i32_955
  let v1398 : BitVec 32 := Scalar.addi v1302 v1397
  let v1472 : Index := Scalar.indexCast v1398
  let c0_1016 : Index := 0#32
  ![v1472.toNat, 0]
def k0_off113 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c1_i32_829 : BitVec 32 := 1#32
  let v1226 : BitVec 32 := Scalar.shrsi v2 c1_i32_829
  let c1_i32_830 : BitVec 32 := 1#32
  let v1227 : BitVec 32 := Scalar.andi v1226 c1_i32_830
  let c192_i32_842 : BitVec 32 := 192#32
  let v1246 : BitVec 32 := Scalar.muli v1227 c192_i32_842
  let v1247 : BitVec 32 := Scalar.subi v406 v1246
  let c1_i32_893 : BitVec 32 := 1#32
  let v1313 : BitVec 32 := Scalar.shrsi v2 c1_i32_893
  let v1314 : BitVec 32 := Scalar.xori v2 v1313
  let c1_i32_894 : BitVec 32 := 1#32
  let v1315 : BitVec 32 := Scalar.andi v1314 c1_i32_894
  let c384_i32_906 : BitVec 32 := 384#32
  let v1334 : BitVec 32 := Scalar.muli v1315 c384_i32_906
  let v1335 : BitVec 32 := Scalar.subi v1247 v1334
  let c1_i32_978 : BitVec 32 := 1#32
  let c2_i32_977 : BitVec 32 := 2#32
  let c3_i32_967 : BitVec 32 := 3#32
  let v1409 : BitVec 32 := Scalar.shrsi v2 c3_i32_967
  let c1_i32_968 : BitVec 32 := 1#32
  let v1410 : BitVec 32 := Scalar.andi v1409 c1_i32_968
  let v1425 : BitVec 32 := Scalar.muli c2_i32_977 v1410
  let v1426 : BitVec 32 := Scalar.subi c1_i32_978 v1425
  let c768_i32_979 : BitVec 32 := 768#32
  let v1427 : BitVec 32 := Scalar.muli v1426 c768_i32_979
  let v1428 : BitVec 32 := Scalar.addi v1335 v1427
  let v1484 : Index := Scalar.indexCast v1428
  let c0_1028 : Index := 0#32
  ![v1484.toNat, 0]
def k0_off114 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v54 : BitVec 32 := Scalar.shrsi v2 c3_i32_35
  let c1_i32_36 : BitVec 32 := 1#32
  let v55 : BitVec 32 := Scalar.andi v54 c1_i32_36
  let c768_i32_39 : BitVec 32 := 768#32
  let v58 : BitVec 32 := Scalar.muli v55 c768_i32_39
  let c1_i32_131 : BitVec 32 := 1#32
  let v202 : BitVec 32 := Scalar.shrsi v2 c1_i32_131
  let v203 : BitVec 32 := Scalar.xori v2 v202
  let c1_i32_132 : BitVec 32 := 1#32
  let v204 : BitVec 32 := Scalar.andi v203 c1_i32_132
  let c384_i32_135 : BitVec 32 := 384#32
  let v207 : BitVec 32 := Scalar.muli v204 c384_i32_135
  let v238 : BitVec 32 := Scalar.addi v58 v207
  let c1_i32_234 : BitVec 32 := 1#32
  let v371 : BitVec 32 := Scalar.shrsi v2 c1_i32_234
  let c1_i32_235 : BitVec 32 := 1#32
  let v372 : BitVec 32 := Scalar.andi v371 c1_i32_235
  let c192_i32_238 : BitVec 32 := 192#32
  let v375 : BitVec 32 := Scalar.muli v372 c192_i32_238
  let v406 : BitVec 32 := Scalar.addi v238 v375
  let c1_i32_829 : BitVec 32 := 1#32
  let v1226 : BitVec 32 := Scalar.shrsi v2 c1_i32_829
  let c1_i32_830 : BitVec 32 := 1#32
  let v1227 : BitVec 32 := Scalar.andi v1226 c1_i32_830
  let c192_i32_842 : BitVec 32 := 192#32
  let v1246 : BitVec 32 := Scalar.muli v1227 c192_i32_842
  let v1247 : BitVec 32 := Scalar.subi v406 v1246
  let c1_i32_893 : BitVec 32 := 1#32
  let v1313 : BitVec 32 := Scalar.shrsi v2 c1_i32_893
  let v1314 : BitVec 32 := Scalar.xori v2 v1313
  let c1_i32_894 : BitVec 32 := 1#32
  let v1315 : BitVec 32 := Scalar.andi v1314 c1_i32_894
  let c384_i32_906 : BitVec 32 := 384#32
  let v1334 : BitVec 32 := Scalar.muli v1315 c384_i32_906
  let v1335 : BitVec 32 := Scalar.subi v1247 v1334
  let c1_i32_978 : BitVec 32 := 1#32
  let c2_i32_977 : BitVec 32 := 2#32
  let c3_i32_967 : BitVec 32 := 3#32
  let v1409 : BitVec 32 := Scalar.shrsi v2 c3_i32_967
  let c1_i32_968 : BitVec 32 := 1#32
  let v1410 : BitVec 32 := Scalar.andi v1409 c1_i32_968
  let v1425 : BitVec 32 := Scalar.muli c2_i32_977 v1410
  let v1426 : BitVec 32 := Scalar.subi c1_i32_978 v1425
  let c768_i32_979 : BitVec 32 := 768#32
  let v1427 : BitVec 32 := Scalar.muli v1426 c768_i32_979
  let v1428 : BitVec 32 := Scalar.addi v1335 v1427
  let v1487 : Index := Scalar.indexCast v1428
  let c512_1029 : Index := 512#32
  ![v1487.toNat, 512]
def k0_off115 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c1_i32_843 : BitVec 32 := 1#32
  let v1248 : BitVec 32 := Scalar.shrsi v2 c1_i32_843
  let v1249 : BitVec 32 := Scalar.xori v2 v1248
  let c1_i32_844 : BitVec 32 := 1#32
  let v1250 : BitVec 32 := Scalar.andi v1249 c1_i32_844
  let c192_i32_856 : BitVec 32 := 192#32
  let v1269 : BitVec 32 := Scalar.muli v1250 c192_i32_856
  let v1270 : BitVec 32 := Scalar.subi v453 v1269
  let c3_i32_918 : BitVec 32 := 3#32
  let v1346 : BitVec 32 := Scalar.shrsi v2 c3_i32_918
  let c1_i32_919 : BitVec 32 := 1#32
  let v1347 : BitVec 32 := Scalar.andi v1346 c1_i32_919
  let c384_i32_931 : BitVec 32 := 384#32
  let v1366 : BitVec 32 := Scalar.muli v1347 c384_i32_931
  let v1367 : BitVec 32 := Scalar.subi v1270 v1366
  let c1_i32_1002 : BitVec 32 := 1#32
  let c2_i32_1001 : BitVec 32 := 2#32
  let c1_i32_991 : BitVec 32 := 1#32
  let v1439 : BitVec 32 := Scalar.shrsi v2 c1_i32_991
  let c1_i32_992 : BitVec 32 := 1#32
  let v1440 : BitVec 32 := Scalar.andi v1439 c1_i32_992
  let v1455 : BitVec 32 := Scalar.muli c2_i32_1001 v1440
  let v1456 : BitVec 32 := Scalar.subi c1_i32_1002 v1455
  let c768_i32_1003 : BitVec 32 := 768#32
  let v1457 : BitVec 32 := Scalar.muli v1456 c768_i32_1003
  let v1458 : BitVec 32 := Scalar.addi v1367 v1457
  let v1499 : Index := Scalar.indexCast v1458
  let c0_1041 : Index := 0#32
  ![v1499.toNat, 0]
def k0_off116 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_53 : BitVec 32 := 1#32
  let v85 : BitVec 32 := Scalar.shrsi v2 c1_i32_53
  let c1_i32_54 : BitVec 32 := 1#32
  let v86 : BitVec 32 := Scalar.andi v85 c1_i32_54
  let c768_i32_57 : BitVec 32 := 768#32
  let v89 : BitVec 32 := Scalar.muli v86 c768_i32_57
  let c3_i32_163 : BitVec 32 := 3#32
  let v249 : BitVec 32 := Scalar.shrsi v2 c3_i32_163
  let c1_i32_164 : BitVec 32 := 1#32
  let v250 : BitVec 32 := Scalar.andi v249 c1_i32_164
  let c384_i32_167 : BitVec 32 := 384#32
  let v253 : BitVec 32 := Scalar.muli v250 c384_i32_167
  let v284 : BitVec 32 := Scalar.addi v89 v253
  let c1_i32_266 : BitVec 32 := 1#32
  let v417 : BitVec 32 := Scalar.shrsi v2 c1_i32_266
  let v418 : BitVec 32 := Scalar.xori v2 v417
  let c1_i32_267 : BitVec 32 := 1#32
  let v419 : BitVec 32 := Scalar.andi v418 c1_i32_267
  let c192_i32_270 : BitVec 32 := 192#32
  let v422 : BitVec 32 := Scalar.muli v419 c192_i32_270
  let v453 : BitVec 32 := Scalar.addi v284 v422
  let c1_i32_843 : BitVec 32 := 1#32
  let v1248 : BitVec 32 := Scalar.shrsi v2 c1_i32_843
  let v1249 : BitVec 32 := Scalar.xori v2 v1248
  let c1_i32_844 : BitVec 32 := 1#32
  let v1250 : BitVec 32 := Scalar.andi v1249 c1_i32_844
  let c192_i32_856 : BitVec 32 := 192#32
  let v1269 : BitVec 32 := Scalar.muli v1250 c192_i32_856
  let v1270 : BitVec 32 := Scalar.subi v453 v1269
  let c3_i32_918 : BitVec 32 := 3#32
  let v1346 : BitVec 32 := Scalar.shrsi v2 c3_i32_918
  let c1_i32_919 : BitVec 32 := 1#32
  let v1347 : BitVec 32 := Scalar.andi v1346 c1_i32_919
  let c384_i32_931 : BitVec 32 := 384#32
  let v1366 : BitVec 32 := Scalar.muli v1347 c384_i32_931
  let v1367 : BitVec 32 := Scalar.subi v1270 v1366
  let c1_i32_1002 : BitVec 32 := 1#32
  let c2_i32_1001 : BitVec 32 := 2#32
  let c1_i32_991 : BitVec 32 := 1#32
  let v1439 : BitVec 32 := Scalar.shrsi v2 c1_i32_991
  let c1_i32_992 : BitVec 32 := 1#32
  let v1440 : BitVec 32 := Scalar.andi v1439 c1_i32_992
  let v1455 : BitVec 32 := Scalar.muli c2_i32_1001 v1440
  let v1456 : BitVec 32 := Scalar.subi c1_i32_1002 v1455
  let c768_i32_1003 : BitVec 32 := 768#32
  let v1457 : BitVec 32 := Scalar.muli v1456 c768_i32_1003
  let v1458 : BitVec 32 := Scalar.addi v1367 v1457
  let v1502 : Index := Scalar.indexCast v1458
  let c1024_1042 : Index := 1024#32
  ![v1502.toNat, 1024]
def k0_dev43 (d0 : Dev nD) : Nat :=
  let c0_i32_1046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1043 : BitVec 32 := 1#32
  let v1504 : BitVec 32 := Scalar.xori v2 c1_i32_1043
  let c1_i32_1045 : BitVec 32 := 1#32
  let v1505 : BitVec 32 := Scalar.muli v1504 c1_i32_1045
  let v1506 : BitVec 32 := Scalar.addi c0_i32_1046 v1505
  v1506.toNat
def k0_dev44 (d0 : Dev nD) : Nat :=
  let c0_i32_1050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1047 : BitVec 32 := 3#32
  let v1507 : BitVec 32 := Scalar.xori v2 c3_i32_1047
  let c1_i32_1049 : BitVec 32 := 1#32
  let v1508 : BitVec 32 := Scalar.muli v1507 c1_i32_1049
  let v1509 : BitVec 32 := Scalar.addi c0_i32_1050 v1508
  v1509.toNat
def k0_dev45 (d0 : Dev nD) : Nat :=
  let c0_i32_1054 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1051 : BitVec 32 := 4#32
  let v1510 : BitVec 32 := Scalar.xori v2 c4_i32_1051
  let c1_i32_1053 : BitVec 32 := 1#32
  let v1511 : BitVec 32 := Scalar.muli v1510 c1_i32_1053
  let v1512 : BitVec 32 := Scalar.addi c0_i32_1054 v1511
  v1512.toNat
def k0_dev46 (d0 : Dev nD) : Nat :=
  let c0_i32_1058 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1055 : BitVec 32 := 8#32
  let v1513 : BitVec 32 := Scalar.xori v2 c8_i32_1055
  let c1_i32_1057 : BitVec 32 := 1#32
  let v1514 : BitVec 32 := Scalar.muli v1513 c1_i32_1057
  let v1515 : BitVec 32 := Scalar.addi c0_i32_1058 v1514
  v1515.toNat
def k0_dev47 (d0 : Dev nD) : Nat :=
  let c0_i32_1062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1059 : BitVec 32 := 16#32
  let v1516 : BitVec 32 := Scalar.xori v2 c16_i32_1059
  let c1_i32_1061 : BitVec 32 := 1#32
  let v1517 : BitVec 32 := Scalar.muli v1516 c1_i32_1061
  let v1518 : BitVec 32 := Scalar.addi c0_i32_1062 v1517
  v1518.toNat
def k0_dev48 (d0 : Dev nD) : Nat :=
  let c0_i32_1066 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1063 : BitVec 32 := 20#32
  let v1519 : BitVec 32 := Scalar.xori v2 c20_i32_1063
  let c1_i32_1065 : BitVec 32 := 1#32
  let v1520 : BitVec 32 := Scalar.muli v1519 c1_i32_1065
  let v1521 : BitVec 32 := Scalar.addi c0_i32_1066 v1520
  v1521.toNat
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x24576 : Shape := ⟨2, ![1536, 24576]⟩
abbrev S24576x1536 : Shape := ⟨2, ![24576, 1536]⟩
abbrev S1536x1536 : Shape := ⟨2, ![1536, 1536]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1536x24576, .bf16⟩
  | .hbm, ⟨1, _⟩ => ⟨S24576x1536, .bf16⟩
  | .hbm, ⟨2, _⟩ => ⟨S1536x1536, .f32⟩
  | .hbm, ⟨3, _⟩ => ⟨S1536x1536, .f32⟩
  | .hbm, ⟨4, _⟩ => ⟨S1536x1536, .f32⟩
  | .hbm, ⟨5, _⟩ => ⟨S_, .f32⟩
  | .hbm, ⟨6, _⟩ => ⟨S1536x1536, .f32⟩
  | .hbm, ⟨7, _⟩ => ⟨S1536x1536, .f32⟩
  | .hbm, ⟨8, _⟩ => ⟨S1536x1536, .f32⟩
  | _, _ => ⟨S1536x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Own.lean ====
/-
# Owned blocks of a buffer

The kernel holds its buffers piecewise: a band of rows is lent to a transfer while the rest stays here, and what
is known of a piece is what its elements are. `Own m c I q g` says just that: device `c` holds the elements `I` of
the memref `m` at share `q`, and the element at `i` is `g i`. The lemmas below cut, join, read and write such
pieces; nothing later mentions a buffer's raw contents.
-/
module

public import proofs.«01_k».proof.Proof.Gen.KernelIdeal.Launch
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the run: the staging windows' rounds, and the kernel's own, whose duties number the six
    partners of a device. -/
abbrev UB : Type := URounds (GSem nD τ sig) (Fin 6)
abbrev UU : Type := UR sig nD τ × UB

local notation "𝕄" => MT nD τ sig Unit (Elt F) ℕ UU ℕ

variable {sp : Space} {s : Shape} {e : EltTy}

/-- Device `c` holds the elements `I` of `m` at share `q`, and the one at `i` is `g i`. -/
def Own (m : Memref sig .tc sp s e) (c : Dev nD) (I : Finset s.Idx) (q : PosShare TreeShare) (g : s.Idx → Elt F e) :
    sProp 𝕄 :=
  iprop(∃ f : Buf (Elt F) (m.view.loc (c : Thread nD τ)), ⌜∀ i ∈ I, m.view.read (Elt F) f i = g i⌝
    ∗ (m.view.loc (c : Thread nD τ) ↦[m.view.setOn I]{q} f))

instance (m : Memref sig .tc sp s e) (c : Dev nD) (I : Finset s.Idx) (q : PosShare TreeShare) (g : s.Idx → Elt F e) :
    BI.Storable (upEmb : UEmb _ 𝕄) (Own m c I q g) := by
  unfold Own; infer_instance

theorem own_intro {m : Memref sig .tc sp s e} {c : Dev nD} {I : Finset s.Idx} {q : PosShare TreeShare} {g : s.Idx → Elt F e}
    (f : Buf (Elt F) (m.view.loc (c : Thread nD τ))) (h : ∀ i ∈ I, m.view.read (Elt F) f i = g i) :
    (m.view.loc (c : Thread nD τ) ↦[m.view.setOn I]{q} f : sProp 𝕄) ⊢ Own m c I q g := by
  iintro H
  unfold Own
  iexists f
  isplitr
  · ipureintro; exact h
  · iexact H

theorem own_mono {m : Memref sig .tc sp s e} {c : Dev nD} {I : Finset s.Idx} {q : PosShare TreeShare} {g g' : s.Idx → Elt F e}
    (h : ∀ i ∈ I, g i = g' i) : (Own m c I q g : sProp 𝕄) ⊢ Own m c I q g' := by
  unfold Own
  iintro ⟨%f, %hf, H⟩
  iexists f
  isplitr
  · ipureintro; intro i hi; rw [hf i hi, h i hi]
  · iexact H

theorem own_split {m : Memref sig .tc sp s e} {c : Dev nD} {I J K : Finset s.Idx} {q : PosShare TreeShare} {g : s.Idx → Elt F e}
    (hK : K = I ∪ J) (hd : Disjoint I J) : (Own m c K q g : sProp 𝕄) ⊢ iprop(Own m c I q g ∗ Own m c J q g) := by
  subst hK
  unfold Own
  iintro ⟨%f, %hf, H⟩
  rw [View.setOn, Finset.map_union] at *
  ihave H := (pointsTo_union (q := q) (f := f) (Finset.disjoint_map m.view.emb |>.2 hd)).1 $$ H
  icases H with ⟨H1, H2⟩
  isplitl [H1]
  · iexists f; isplitr
    · ipureintro; intro i hi; exact hf i (Finset.mem_union_left _ hi)
    · iexact H1
  · iexists f; isplitr
    · ipureintro; intro i hi; exact hf i (Finset.mem_union_right _ hi)
    · iexact H2

theorem own_join {m : Memref sig .tc sp s e} {c : Dev nD} {I J K : Finset s.Idx} {q : PosShare TreeShare} {g₁ g₂ g : s.Idx → Elt F e}
    (hK : K = I ∪ J) (hd : Disjoint I J) (h₁ : ∀ i ∈ I, g₁ i = g i) (h₂ : ∀ i ∈ J, g₂ i = g i) :
    (iprop(Own m c I q g₁ ∗ Own m c J q g₂) : sProp 𝕄) ⊢ Own m c K q g := by
  subst hK
  unfold Own
  iintro ⟨⟨%f, %hf, H⟩, ⟨%f', %hf', H'⟩⟩
  have hdm : Disjoint (m.view.setOn I) (m.view.setOn J) := Finset.disjoint_map m.view.emb |>.2 hd
  ihave H := (pointsTo_join (q := q) (f := f) (g := f') hdm) $$ [H H']
  · isplitl [H] <;> iassumption
  iexists ((m.view.setOn J).piecewise f' f)
  isplitr
  · ipureintro
    intro i hi
    by_cases hj : i ∈ J
    · rw [← h₂ i hj, ← hf' i hj]
      have : m.view.emb i ∈ m.view.setOn J := Finset.mem_map_of_mem _ hj
      simp only [View.read, Finset.piecewise_eq_of_mem _ _ _ this]
    · have hi' : i ∈ I := (Finset.mem_union.1 hi).resolve_right hj
      rw [← h₁ i hi', ← hf i hi']
      have : m.view.emb i ∉ m.view.setOn J := fun h => hj (by
        obtain ⟨x, hx, he⟩ := Finset.mem_map.1 h
        exact m.view.emb.injective he ▸ hx)
      simp only [View.read, Finset.piecewise_eq_of_notMem _ _ _ this]
  · rw [show m.view.setOn (I ∪ J) = m.view.setOn I ∪ m.view.setOn J from Finset.map_union _ _]; iexact H

theorem own_share {m : Memref sig .tc sp s e} {c : Dev nD} {I : Finset s.Idx} {q q₁ q₂ : PosShare TreeShare} {g : s.Idx → Elt F e}
    (hq : q ∈ q₁ ·? q₂) : (Own m c I q g : sProp 𝕄) ⊢ iprop(Own m c I q₁ g ∗ Own m c I q₂ g) := by
  unfold Own
  iintro ⟨%f, %hf, H⟩
  ihave H := (pointsTo_share hq).1 $$ H
  icases H with ⟨H1, H2⟩
  isplitl [H1]
  · iexists f; isplitr
    · ipureintro; exact hf
    · iexact H1
  · iexists f; isplitr
    · ipureintro; exact hf
    · iexact H2

theorem own_unshare {m : Memref sig .tc sp s e} {c : Dev nD} {I : Finset s.Idx} {q q₁ q₂ : PosShare TreeShare} {g g' : s.Idx → Elt F e}
    (hq : q ∈ q₁ ·? q₂) : (iprop(Own m c I q₁ g ∗ Own m c I q₂ g') : sProp 𝕄) ⊢ Own m c I q g := by
  unfold Own
  iintro ⟨⟨%f, %hf, H⟩, ⟨%f', -, H'⟩⟩
  ihave H := (persistent_entails_right (pointsTo_agree (q₁ := q₁) (q₂ := q₂) (f := f) (g := f'))) $$ [H H']
  · isplitl [H] <;> iassumption
  icases H with ⟨%ha, H, H'⟩
  iexists f
  isplitr
  · ipureintro; exact hf
  · iapply (pointsTo_share hq).2
    isplitl [H]; · iexact H
    rw [pointsTo_congr (f := f) (g := f') (fun i hi => (ha i (Finset.mem_inter.2 ⟨hi, hi⟩)).1)]
    iexact H'

/-- A whole buffer as one piece. -/
theorem own_whole {m : Memref sig .tc sp s e} (hm : m.IsWhole) {c : Dev nD} {q : PosShare TreeShare}
    (f : Buf (Elt F) (m.view.loc (c : Thread nD τ))) :
    (m.view.loc (c : Thread nD τ) ↦{q} f : sProp 𝕄) ⊢ Own m c Finset.univ q (m.view.read (Elt F) f) := by
  rw [show (Finset.univ : Finset (Idx (m.view.loc (c : Thread nD τ)))) = m.view.setOn Finset.univ from hm.set_eq_univ.symm]
  exact own_intro f fun _ _ => rfl

theorem own_whole_out {m : Memref sig .tc sp s e} (hm : m.IsWhole) {c : Dev nD} {q : PosShare TreeShare} {g : s.Idx → Elt F e} :
    (Own m c Finset.univ q g : sProp 𝕄) ⊢ iprop(∃ f : Buf (Elt F) (m.view.loc (c : Thread nD τ)), ⌜m.view.read (Elt F) f = g⌝
      ∗ (m.view.loc (c : Thread nD τ) ↦{q} f)) := by
  unfold Own
  iintro ⟨%f, %hf, H⟩
  iexists f
  isplitr
  · ipureintro; exact funext fun i => hf i (Finset.mem_univ i)
  · rw [show m.view.setOn Finset.univ = Finset.univ from hm.set_eq_univ]; iexact H

/-! ## Reading and writing a piece -/

abbrev 𝒱₀ : Variants := Variants.none

variable {α : Type}

/-- The kernel on device `c` runs `p` from here and then meets `Q`. -/
abbrev wpc (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem wp_load_own {m : Memref sig .tc .vmem s e} {c : Dev nD} {I : Finset s.Idx} {q : PosShare TreeShare} {g : s.Idx → Elt F e}
    {r : LoadRect s} {hl : m.view.LoadsAt r} {k : (r.shape.Idx → Elt F e) → Prog (TpuEff nD τ sig (Elt F) Λ₀ .tc) α} {Q : α → sProp 𝕄}
    (hI : ∀ i ∈ r.set, i ∈ I) :
    (Own m c I q g : sProp 𝕄)
      ⊢ iprop((Own m c I q g -∗ wpc c (k fun x => g (r.idx x)) Q)
        -∗ wpc c (.op (.load m r hl) k) Q) := by
  unfold Own
  iintro ⟨%f, %hf, H⟩ Hk
  iapply (wp_load 𝒱₀ (c : Thread nD τ) none Set.univ (m := m) (S := m.view.setOn I) (Finset.map_subset_map.2 hI)) $$ H
  iintro H
  rw [show m.view.readAt (Elt F) r f = fun x => g (r.idx x) from
    funext fun x => hf _ (hI _ (r.idx_mem x))]
  iapply Hk
  iexists f
  isplitr
  · ipureintro; exact hf
  · iexact H

/-- The store's piece afterwards: what was written inside the rectangle, what was there elsewhere. -/
theorem wp_store_own {m : Memref sig .tc .vmem s e} {c : Dev nD} {I : Finset s.Idx} {g : s.Idx → Elt F e} (g' : s.Idx → Elt F e)
    {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ .tc) α} {Q : α → sProp 𝕄}
    (hI : ∀ i ∈ r.set, i ∈ I) (hin : ∀ x, g' (r.emb x) = w x) (hout : ∀ i ∈ I, i ∉ r.set → g' i = g i) :
    (Own m c I fullShare g : sProp 𝕄)
      ⊢ iprop((Own m c I fullShare g' -∗ wpc c (k ⟨⟩) Q) -∗ wpc c (.op (.store m r w Finset.univ hx hm) k) Q) := by
  unfold Own
  iintro ⟨%f, %hf, H⟩ Hk
  iapply (wp_store 𝒱₀ (c : Thread nD τ) none Set.univ (m := m) (r := r) (S := m.view.setOn I)
    (by rw [show (m.access r).setOn Finset.univ = m.view.setOn r.set from View.set_slice _ _]; exact Finset.map_subset_map.2 hI)) $$ H
  iintro H
  iapply Hk
  iexists ((m.access r).write (Elt F) f w Finset.univ)
  isplitr
  · ipureintro
    intro i hi
    by_cases hr : i ∈ r.set
    · obtain ⟨x, rfl⟩ := r.toLoadRect.exists_idx_of_mem hr
      refine Eq.trans ?_ (hin x).symm
      exact congrFun (View.read_write_univ (v := m.access r) f w) x
    · rw [hout i hi hr, ← hf i hi]
      exact View.read_slice_write_of_not_mem (v := m.view) (y := i) r f w Finset.univ (fun h => hr (by
        obtain ⟨x, -, rfl⟩ := Finset.mem_map.1 h
        exact r.toLoadRect.idx_mem x))
  · iexact H

/-! ## A piece as a transfer's source or destination -/

theorem slice_set {m : Memref sig .tc sp s e} (r : Rect s) (hr : ∀ a, r.stride a = 1) : (m.slice r hr).view.set = m.view.setOn r.set :=
  View.set_slice _ _

theorem own_as_slice {m : Memref sig .tc sp s e} {c : Dev nD} {q : PosShare TreeShare} {g : s.Idx → Elt F e} (r : Rect s)
    (hr : ∀ a, r.stride a = 1) :
    (Own m c r.set q g : sProp 𝕄) ⊢ iprop(∃ f : Buf (Elt F) ((m.slice r hr).view.loc (c : Thread nD τ)),
      ⌜∀ x, (m.slice r hr).view.read (Elt F) f x = g (r.emb x)⌝
      ∗ ((m.slice r hr).view.loc (c : Thread nD τ) ↦[(m.slice r hr).view.set]{q} f)) := by
  unfold Own
  iintro ⟨%f, %hf, H⟩
  iexists f
  isplitr
  · ipureintro; intro x; exact hf _ (r.toLoadRect.idx_mem x)
  · rw [slice_set]; iexact H

theorem own_of_slice {m : Memref sig .tc sp s e} {c : Dev nD} {q : PosShare TreeShare} {g : s.Idx → Elt F e} (r : Rect s)
    (hr : ∀ a, r.stride a = 1) (f : Buf (Elt F) ((m.slice r hr).view.loc (c : Thread nD τ)))
    (hf : ∀ x, (m.slice r hr).view.read (Elt F) f x = g (r.emb x)) :
    ((m.slice r hr).view.loc (c : Thread nD τ) ↦[(m.slice r hr).view.set]{q} f : sProp 𝕄) ⊢ Own m c r.set q g := by
  rw [slice_set]
  refine own_intro (m := m) f fun i hi => ?_
  obtain ⟨x, rfl⟩ := r.toLoadRect.exists_idx_of_mem hi
  exact hf x

end Cert.GemmProof
-- ==== Proof.Geometry.lean ====
/-
# Which rows go where

The 1536 rows of the product are halved three times along a device's six partners: at each halving the device sends
the half its phase bit does not name and keeps the other, so after three halvings it keeps 192 rows, of which a last
exchange among four devices leaves it 48. The three column streams do this in three different partner orders. This
module is the arithmetic of those rows, and no more: partners, first rows, heights; every fact is decided over the
32 devices.
-/
module

public import proofs.«01_k».proof.Proof.Own

@[expose] public section

namespace Cert.GemmProof

open Cert.KernelIdeal Cert.KernelIdeal.Gen
open Idealize.ShloMosaic Idealize.ShloMosaic.TcCoe

/-- The device whose number differs from `c`'s in the bits of `k`. -/
def pr (k : ℕ) (c : Dev nD) : Dev nD := ⟨(c.val ^^^ k) % 32, Nat.mod_lt _ (by decide)⟩

/-- The phase bit of a device along partner mask `k`. -/
def phi (k v : ℕ) : ℕ :=
  if k = 1 then (v ^^^ (v / 2)) % 2 else if k = 3 then v / 2 % 2 else if k = 4 then v / 4 % 2
  else if k = 8 then v / 8 % 2 else v / 16 % 2

/-- The partner masks of the three halvings, by stream. -/
def ordm (t s : Fin 3) : ℕ := (![![1, 3, 8], ![8, 1, 3], ![3, 8, 1]] : Fin 3 → Fin 3 → ℕ) t s
/-- The six partner masks. -/
def mask6 (q : Fin 6) : ℕ := (![1, 3, 4, 8, 16, 20] : Fin 6 → ℕ) q

def bit (t s : Fin 3) (c : Dev nD) : ℕ := phi (ordm t s) c.val

/-- First row of the window left after `n` halvings. -/
def lo (t : Fin 3) (n : ℕ) (c : Dev nD) : ℕ :=
  (if 1 ≤ n then bit t 0 c * 768 else 0) + (if 2 ≤ n then bit t 1 c * 384 else 0) + (if 3 ≤ n then bit t 2 c * 192 else 0)

/-- First of the 48 rows that are the device's own. -/
def own (t : Fin 3) (c : Dev nD) : ℕ := lo t 3 c + (phi 4 c.val * 96 + phi 16 c.val * 48)

/-- The partner mask of transfer `j` of stream `t`: three halvings, three within the quad, three back, three back up. -/
def msk (t : Fin 3) (j : Fin 12) : ℕ :=
  (![ordm t 0, ordm t 1, ordm t 2, 4, 16, 20, 4, 16, 20, ordm t 2, ordm t 1, ordm t 0] : Fin 12 → ℕ) j
/-- Rows moved by transfer `j`. -/
def hgt (j : Fin 12) : ℕ := (![768, 384, 192, 48, 48, 48, 48, 48, 48, 192, 384, 768] : Fin 12 → ℕ) j
/-- The partner of `c` in transfer `j` of stream `t`. -/
def peer (t : Fin 3) (j : Fin 12) (c : Dev nD) : Dev nD := pr (msk t j) c

/-- First row sent by transfer `j`. -/
def slo (t : Fin 3) (j : Fin 12) (c : Dev nD) : ℕ :=
  (![(1 - bit t 0 c) * 768, lo t 1 c + (1 - bit t 1 c) * 384, lo t 2 c + (1 - bit t 2 c) * 192,
    own t (pr 4 c), own t (pr 16 c), own t (pr 20 c), own t c, own t c, own t c, lo t 3 c, lo t 2 c, lo t 1 c] : Fin 12 → ℕ) j
/-- First row at which transfer `j` lands on device `c`. -/
def dlo (t : Fin 3) (j : Fin 12) (c : Dev nD) : ℕ :=
  (![0, 768, 1152, 1344, 1392, 1440, own t (pr 4 c), own t (pr 16 c), own t (pr 20 c),
    slo t 9 (peer t 9 c), slo t 10 (peer t 10 c), slo t 11 (peer t 11 c)] : Fin 12 → ℕ) j

theorem pr_pr : ∀ (q : Fin 6) (c : Dev nD), pr (mask6 q) (pr (mask6 q) c) = c := by decide +kernel
theorem pr_ne : ∀ (q : Fin 6) (c : Dev nD), pr (mask6 q) c ≠ c := by decide +kernel
theorem pr_inj : ∀ (c : Dev nD) (q q' : Fin 6), pr (mask6 q) c = pr (mask6 q') c → q = q' := by decide +kernel

/-- Which of the six partners transfer `j` goes to. -/
def mq (t : Fin 3) (j : Fin 12) : Fin 6 :=
  (![![0, 1, 3, 2, 4, 5, 2, 4, 5, 3, 1, 0], ![3, 0, 1, 2, 4, 5, 2, 4, 5, 1, 0, 3], ![1, 3, 0, 2, 4, 5, 2, 4, 5, 0, 3, 1]]
    : Fin 3 → Fin 12 → Fin 6) t j
theorem msk_eq : ∀ t j, msk t j = mask6 (mq t j) := by decide
theorem peer_eq (t : Fin 3) (j : Fin 12) (c : Dev nD) : peer t j c = pr (mask6 (mq t j)) c := by rw [peer, msk_eq]
theorem peer_peer (t : Fin 3) (j : Fin 12) (c : Dev nD) : peer t j (peer t j c) = c := by
  rw [peer_eq, peer_eq, pr_pr]
theorem peer_ne (t : Fin 3) (j : Fin 12) (c : Dev nD) : peer t j c ≠ c := by rw [peer_eq]; exact pr_ne _ _

/-! ## Where a transfer's rows sit -/

/-- A transfer lands on the rows it left, or (the first six) where its landing buffer keeps it. -/
theorem dlo_back : ∀ (t : Fin 3) (j : Fin 12) (c : Dev nD), 6 ≤ j.val → dlo t j c = slo t j (peer t j c) := by decide +kernel
theorem slo_le : ∀ (t : Fin 3) (j : Fin 12) (c : Dev nD), slo t j c + hgt j ≤ 1536 := by decide +kernel
theorem dlo_le : ∀ (t : Fin 3) (j : Fin 12) (c : Dev nD), dlo t j c + hgt j ≤ 1536 := by decide +kernel

/-- What the partner sends in a halving is what this device keeps. -/
theorem slo_peer : ∀ (t s : Fin 3) (c : Dev nD),
    slo t ⟨s.val, by omega⟩ (peer t ⟨s.val, by omega⟩ c) = lo t (s.val + 1) c := by decide +kernel
/-- What a quad partner sends is this device's own rows. -/
theorem slo_peer_quad : ∀ (t : Fin 3) (c : Dev nD), slo t 3 (peer t 3 c) = own t c ∧ slo t 4 (peer t 4 c) = own t c
    ∧ slo t 5 (peer t 5 c) = own t c := by decide +kernel

/-- The rows kept and the rows sent make up the window. -/
theorem halves : ∀ (t : Fin 3) (c : Dev nD),
    ((slo t 0 c = 0 ∧ lo t 1 c = 768) ∨ (slo t 0 c = 768 ∧ lo t 1 c = 0))
    ∧ ((slo t 1 c = lo t 1 c ∧ lo t 2 c = lo t 1 c + 384) ∨ (slo t 1 c = lo t 1 c + 384 ∧ lo t 2 c = lo t 1 c))
    ∧ ((slo t 2 c = lo t 2 c ∧ lo t 3 c = lo t 2 c + 192) ∨ (slo t 2 c = lo t 2 c + 192 ∧ lo t 3 c = lo t 2 c)) := by
  decide +kernel
/-- On the way back the rows received are the ones once sent. -/
theorem dlo_up : ∀ (t : Fin 3) (c : Dev nD), dlo t 9 c = slo t 2 c ∧ dlo t 10 c = slo t 1 c ∧ dlo t 11 c = slo t 0 c := by
  decide +kernel

/-- The four blocks of 48 rows of a window of 192, by whose they are. -/
theorem quads : ∀ (t : Fin 3) (c : Dev nD),
    (own t c = lo t 3 c ∧ dlo t 6 c = lo t 3 c + 96 ∧ dlo t 7 c = lo t 3 c + 48 ∧ dlo t 8 c = lo t 3 c + 144)
    ∨ (own t c = lo t 3 c + 48 ∧ dlo t 6 c = lo t 3 c + 144 ∧ dlo t 7 c = lo t 3 c ∧ dlo t 8 c = lo t 3 c + 96)
    ∨ (own t c = lo t 3 c + 96 ∧ dlo t 6 c = lo t 3 c ∧ dlo t 7 c = lo t 3 c + 144 ∧ dlo t 8 c = lo t 3 c + 48)
    ∨ (own t c = lo t 3 c + 144 ∧ dlo t 6 c = lo t 3 c + 48 ∧ dlo t 7 c = lo t 3 c + 96 ∧ dlo t 8 c = lo t 3 c) := by
  decide +kernel
theorem slo_quads : ∀ (t : Fin 3) (c : Dev nD), slo t 3 c = dlo t 6 c ∧ slo t 4 c = dlo t 7 c ∧ slo t 5 c = dlo t 8 c := by
  decide +kernel
theorem lo_le : ∀ (t : Fin 3) (c : Dev nD), lo t 1 c + 768 ≤ 1536 ∧ lo t 2 c + 384 ≤ 1536 ∧ lo t 3 c + 192 ≤ 1536
    ∧ own t c + 48 ≤ 1536 := by decide +kernel

/-- Whose own rows a row belongs to. -/
def owner (t : Fin 3) (r : ℕ) : Dev nD := (List.finRange 32).find? (fun c => own t c ≤ r ∧ r < own t c + 48) |>.getD 0
theorem owner_own : ∀ (t : Fin 3) (c : Dev nD) (x : Fin 48), owner t (own t c + x.val) = c := by decide +kernel
theorem owner_spec : ∀ (t : Fin 3) (r : Fin 1536), own t (owner t r.val) ≤ r.val ∧ r.val < own t (owner t r.val) + 48 := by
  decide +kernel

/-! ## The printed offsets and partners -/

theorem dev_bar : ∀ c : Dev nD, k0_dev1 c = (pr 1 c).val ∧ k0_dev2 c = (pr 3 c).val ∧ k0_dev3 c = (pr 4 c).val
    ∧ k0_dev4 c = (pr 8 c).val ∧ k0_dev5 c = (pr 16 c).val ∧ k0_dev6 c = (pr 20 c).val := by decide +kernel

end Cert.GemmProof
-- ==== Proof.Values.lean ====
/-
# What the kernel computes, row by row

The values the devices hold at each stage, as functions of the two operand blocks of every device — for any float
type, so that one run serves both programs. `Acc t s c` is device `c`'s sum after `s` halvings of stream `t`, `Tot`
the full sum of an own row, `Gt` the finished row as it is passed round, `outF` the result.
-/
module

public import proofs.«01_k».proof.Proof.Geometry
public import Idealize.ShloMosaic.Lib.Pipeline.Value

@[expose] public section

noncomputable section

namespace Cert.GemmProof

open Cert.KernelIdeal Cert.KernelIdeal.Gen
open Idealize.ShloMosaic Idealize.ShloMosaic.TcCoe

variable {F : FTy → Type} [FloatOps F]

/-! ## Indices from numbers -/

/-- The index at row `r`, column `x` of an array of `n` rows and `w` columns. -/
def mk {n w : ℕ} (hn : 0 < n) (hw : 0 < w) (r x : ℕ) : (⟨2, ![n, w]⟩ : Shape).Idx := fun a =>
  match a with
  | ⟨0, _⟩ => (⟨r % n, Nat.mod_lt _ hn⟩ : Fin n)
  | ⟨1, _⟩ => (⟨x % w, Nat.mod_lt _ hw⟩ : Fin w)

/-- Row and column of an index. -/
abbrev row {n w : ℕ} (i : (⟨2, ![n, w]⟩ : Shape).Idx) : ℕ := (i (0 : Fin 2)).val
abbrev col {n w : ℕ} (i : (⟨2, ![n, w]⟩ : Shape).Idx) : ℕ := (i (1 : Fin 2)).val

theorem row_lt {n w : ℕ} (i : (⟨2, ![n, w]⟩ : Shape).Idx) : row i < n := (i (0 : Fin 2)).isLt
theorem col_lt {n w : ℕ} (i : (⟨2, ![n, w]⟩ : Shape).Idx) : col i < w := (i (1 : Fin 2)).isLt

theorem idx2_ext {n w : ℕ} {i j : (⟨2, ![n, w]⟩ : Shape).Idx} (h0 : row i = row j) (h1 : col i = col j) : i = j := by
  funext a
  match a with
  | ⟨0, _⟩ => exact Fin.ext h0
  | ⟨1, _⟩ => exact Fin.ext h1

theorem row_mk {n w : ℕ} (hn : 0 < n) (hw : 0 < w) (r x : ℕ) : row (mk hn hw r x) = r % n := rfl
theorem col_mk {n w : ℕ} (hn : 0 < n) (hw : 0 < w) (r x : ℕ) : col (mk hn hw r x) = x % w := rfl

/-- Row `r`, column `x` of a stream's buffer. -/
def ix (r x : ℕ) : S1536x512.Idx := mk (n := 1536) (w := 512) (by decide) (by decide) r x
theorem row_ix (r x : ℕ) : row (n := 1536) (w := 512) (ix r x) = r % 1536 := rfl
theorem col_ix (r x : ℕ) : col (n := 1536) (w := 512) (ix r x) = x % 512 := rfl
theorem ix_eta (i : S1536x512.Idx) : ix (row (n := 1536) (w := 512) i) (col (n := 1536) (w := 512) i) = i :=
  idx2_ext (n := 1536) (w := 512) (Nat.mod_eq_of_lt (row_lt (n := 1536) (w := 512) i))
    (Nat.mod_eq_of_lt (col_lt (n := 1536) (w := 512) i))

/-- Row `r`, column `x` of the result. -/
def ox (r x : ℕ) : S1536x1536.Idx := mk (n := 1536) (w := 1536) (by decide) (by decide) r x
/-- Row `r`, column `x` of the left operand's block; of the right operand's. -/
def ax (r x : ℕ) : S1536x768.Idx := mk (n := 1536) (w := 768) (by decide) (by decide) r x
def bx (r x : ℕ) : S768x1536.Idx := mk (n := 768) (w := 1536) (by decide) (by decide) r x
/-- Row `r`, column `x` of a half's product. -/
def hx (r x : ℕ) : S768x512.Idx := mk (n := 768) (w := 512) (by decide) (by decide) r x

/-! ## The scalar operations -/

def tr (x : F .f32) : F .bf16 := FloatOps.truncf .bf16 bitsLt_bf16_f32 x
def ex (x : F .bf16) : F .f32 := FloatOps.extf .f32 bitsLt_bf16_f32 x
def ad (x y : F .f32) : F .f32 := FloatOps.addf x y
def sl (z : F .f32) : F .f32 :=
  FloatOps.mulf z (FloatOps.divf (Scalar.ofBits .f32 0x3F800000#32)
    (FloatOps.addf (Scalar.ofBits .f32 0x3F800000#32) (FloatOps.exp (FloatOps.subf (Scalar.ofBits .f32 0x00000000#32) z))))

variable (A : Dev nD → S1536x768.Idx → F .bf16) (B : Dev nD → S768x1536.Idx → F .bf16)

/-- The halving with number `s` as a transfer number. -/
def sx (s : ℕ) : Fin 12 := ⟨s % 12, Nat.mod_lt _ (by decide)⟩

/-- Device `c`'s product, as the kernel forms it: each half of 768 rows against 512 columns. -/
def prod0 (t : Fin 3) (c : Dev nD) (i : S1536x512.Idx) : F .f32 :=
  k0_pay1 (fun y : S768x768.Idx => A c (ax (768 * (row (n := 1536) (w := 512) i / 768) + row (n := 768) (w := 768) y) (col (n := 768) (w := 768) y)))
    (fun y : S768x512.Idx => B c (bx (row (n := 768) (w := 512) y) (512 * t.val + col (n := 768) (w := 512) y)))
    (hx (row (n := 1536) (w := 512) i % 768) (col (n := 1536) (w := 512) i))

/-- The sum device `c` holds after `s` halvings. -/
def Acc (t : Fin 3) : ℕ → Dev nD → S1536x512.Idx → F .f32
  | 0, c, i => prod0 A B t c i
  | s + 1, c, i => ad (Acc t s c i) (ex (tr (Acc t s (peer t (sx s) c) i)))

/-- The full sum, where the quad's other three contributions come in. -/
def Tot (t : Fin 3) (c : Dev nD) (i : S1536x512.Idx) : F .f32 :=
  ad (ad (ad (Acc A B t 3 c i) (ex (tr (Acc A B t 3 (pr 4 c) i)))) (ex (tr (Acc A B t 3 (pr 16 c) i))))
    (ex (tr (Acc A B t 3 (pr 20 c) i)))

/-- The finished rows, as every device receives them. -/
def Gt (t : Fin 3) (i : S1536x512.Idx) : F .bf16 := tr (sl (Tot A B t (owner t (row (n := 1536) (w := 512) i)) i))

/-- The stream of a result's column. -/
def strm (x : ℕ) : Fin 3 := ⟨x / 512 % 3, Nat.mod_lt _ (by decide)⟩
/-- The result. -/
def outF (i : S1536x1536.Idx) : F .f32 :=
  ex (Gt A B (strm (col (n := 1536) (w := 1536) i)) (ix (row (n := 1536) (w := 1536) i) (col (n := 1536) (w := 1536) i)))

/-- What transfer `j` of stream `t` sends, in the sender's rows. -/
def V (t : Fin 3) (j : Fin 12) (c : Dev nD) (i : S1536x512.Idx) : F .bf16 :=
  if j.val < 3 then tr (Acc A B t j.val c i) else if j.val < 6 then tr (Acc A B t 3 c i) else Gt A B t i

/-- The same, in the rows where it lands on `c`. -/
def landV (t : Fin 3) (j : Fin 12) (c : Dev nD) (i : S1536x512.Idx) : F .bf16 :=
  V A B t j (peer t j c) (ix (row (n := 1536) (w := 512) i - dlo t j c + slo t j (peer t j c)) (col (n := 1536) (w := 512) i))

theorem landV_ix (t : Fin 3) (j : Fin 12) (c : Dev nD) (a x : ℕ) (ha : dlo t j c + a < 1536) (hx : x < 512) :
    landV A B t j c (ix (dlo t j c + a) x) = V A B t j (peer t j c) (ix (slo t j (peer t j c) + a) x) := by
  unfold landV
  rw [row_ix, col_ix, Nat.mod_eq_of_lt ha, Nat.mod_eq_of_lt hx]
  congr 2; omega

/-- Passed rows land unchanged. -/
theorem landV_back (t : Fin 3) (j : Fin 12) (c : Dev nD) (i : S1536x512.Idx) (hj : 6 ≤ j.val)
    (hi : dlo t j c ≤ row (n := 1536) (w := 512) i) : landV A B t j c i = Gt A B t i := by
  unfold landV V
  rw [if_neg (by omega), if_neg (by omega), ← dlo_back t j c hj]
  congr 1
  conv_rhs => rw [← ix_eta i]
  congr 1; omega

/-- The sum after one more halving, from what was received. -/
theorem add_landed (t : Fin 3) (s : Fin 3) (c : Dev nD) (zr rr a x : ℕ) (hz : lo t (s.val + 1) c ≤ zr)
    (hr : rr + lo t (s.val + 1) c = dlo t ⟨s.val, by omega⟩ c + zr) (hb : rr + a < dlo t ⟨s.val, by omega⟩ c + hgt ⟨s.val, by omega⟩) (hx : x < 512) :
    ad (Acc A B t s.val c (ix (zr + a) x)) (ex (landV A B t ⟨s.val, by omega⟩ c (ix (rr + a) x))) = Acc A B t (s.val + 1) c (ix (zr + a) x) := by
  have e : rr + a = dlo t ⟨s.val, by omega⟩ c + (zr - lo t (s.val + 1) c + a) := by omega
  have hle := dlo_le t ⟨s.val, by omega⟩ c
  rw [e, landV_ix A B t _ c _ x (by omega) hx, slo_peer, Acc]
  have hV : ∀ d i, V A B t ⟨s.val, by omega⟩ d i = tr (Acc A B t s.val d i) := fun d i => if_pos s.isLt
  rw [hV, show lo t (s.val + 1) c + (zr - lo t (s.val + 1) c + a) = zr + a by omega,
    show sx s.val = (⟨s.val, by omega⟩ : Fin 12) from Fin.ext (Nat.mod_eq_of_lt (by omega))]

/-! ## The printed payloads at an index -/

section Pay
variable {s : Shape}
theorem pt_tr (v : FVec F s .f32) (h : s.ShapeCasts s) (x : s.Idx) : shapeCast s (truncf .bf16 v bitsLt_bf16_f32) h x = tr (v x) := by
  rw [shapeCast_self]; rfl
theorem pt_ad (u : FVec F s .f32) (v : FVec F s .bf16) (h : s.ShapeCasts s) (x : s.Idx) :
    shapeCast s (addf u (extf .f32 v bitsLt_bf16_f32)) h x = ad (u x) (ex (v x)) := by
  rw [shapeCast_self]; rfl
end Pay

end Cert.GemmProof
-- ==== Proof.Steps.lean ====
/-
# One load, one store

The kernel's memory steps, each as one rule about the piece it touches. A stream's buffer is held by bands of rows
(`R l h`); the accumulator and the result are held by column strips, with a list of the row windows whose contents
are known.
-/
module

public import proofs.«01_k».proof.Proof.Values

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem

variable {F : FTy → Type} [FloatOps F]
variable {α : Type}

local notation "𝕄" => MT nD τ sig Unit (Elt F) ℕ UU ℕ

/-! ## Bands of a stream's buffer -/

/-- Row of an index of a stream's buffer, of the accumulator; the columns. -/
abbrev rw5 (i : S1536x512.Idx) : ℕ := row (n := 1536) (w := 512) i
abbrev cl5 (i : S1536x512.Idx) : ℕ := col (n := 1536) (w := 512) i
abbrev rwz (i : S1536x1536.Idx) : ℕ := row (n := 1536) (w := 1536) i
abbrev clz (i : S1536x1536.Idx) : ℕ := col (n := 1536) (w := 1536) i

/-- The `h` rows from `l` on. -/
def R (l h : ℕ) : Finset S1536x512.Idx := Finset.univ.filter fun i => l ≤ rw5 i ∧ rw5 i < l + h
theorem mem_R {l h : ℕ} {i : S1536x512.Idx} : i ∈ R l h ↔ l ≤ rw5 i ∧ rw5 i < l + h := by
  unfold R; rw [Finset.mem_filter]; exact ⟨fun h => h.2, fun h => ⟨Finset.mem_univ _, h⟩⟩

theorem mem_unit5 {off : Fin 2 → ℕ} {h r : ℕ} {inb : ∀ a, off a + (![h, 512] : Fin 2 → ℕ) a ≤ S1536x512.size a} (hoff : off = ![r, 0])
    {i : S1536x512.Idx} : i ∈ (Rect.unit (s := S1536x512) off ![h, 512] inb).set ↔ r ≤ rw5 i ∧ rw5 i < r + h := by
  subst hoff
  rw [Rect.mem_set_unit]
  constructor
  · intro H; exact H (0 : Fin 2)
  · intro H a
    match a with
    | ⟨0, _⟩ => exact H
    | ⟨1, _⟩ => exact ⟨Nat.zero_le _, by simpa using col_lt (n := 1536) (w := 512) i⟩

theorem unit5_set {off : Fin 2 → ℕ} {h r : ℕ} {inb : ∀ a, off a + (![h, 512] : Fin 2 → ℕ) a ≤ S1536x512.size a} (hoff : off = ![r, 0]) :
    (Rect.unit (s := S1536x512) off ![h, 512] inb).set = R r h := by
  ext i; rw [mem_unit5 hoff, mem_R]

theorem unit5_idx {off : Fin 2 → ℕ} {h r : ℕ} {inb : ∀ a, off a + (![h, 512] : Fin 2 → ℕ) a ≤ S1536x512.size a} (hoff : off = ![r, 0])
    (x : (Rect.unit (s := S1536x512) off ![h, 512] inb).shape.Idx) :
    (Rect.unit (s := S1536x512) off ![h, 512] inb).emb x = ix (r + row (n := h) (w := 512) x) (col (n := h) (w := 512) x) := by
  subst hoff
  have h0 := inb (0 : Fin 2)
  have hr : r + h ≤ 1536 := h0
  have hx0 := row_lt (n := h) (w := 512) x
  have hx1 := col_lt (n := h) (w := 512) x
  refine idx2_ext (n := 1536) (w := 512) ?_ ?_
  · show r + 1 * row (n := h) (w := 512) x = (r + row (n := h) (w := 512) x) % 1536
    rw [Nat.mod_eq_of_lt (by omega)]; omega
  · show 0 + 1 * col (n := h) (w := 512) x = (col (n := h) (w := 512) x) % 512
    rw [Nat.mod_eq_of_lt hx1]; omega

/-- Device `c` holds `S` of `m`, whatever is in it. -/
def Any {s : Shape} {e : EltTy} (m : Memref sig .tc .vmem s e) (c : Dev nD) (S : Finset s.Idx) : sProp 𝕄 :=
  iprop(∃ g : s.Idx → Elt F e, Own m c S fullShare g)

instance {s : Shape} {e : EltTy} (m : Memref sig .tc .vmem s e) (c : Dev nD) (S : Finset s.Idx) :
    BI.Storable (upEmb : UEmb _ 𝕄) (Any m c S) := by
  unfold Any; infer_instance

theorem any_of {s : Shape} {e : EltTy} {m : Memref sig .tc .vmem s e} {c : Dev nD} {S : Finset s.Idx} {g : s.Idx → Elt F e} :
    (Own m c S fullShare g : sProp 𝕄) ⊢ Any m c S := by
  unfold Any; iintro H; iexists g; iexact H

theorem any_split {s : Shape} {e : EltTy} {m : Memref sig .tc .vmem s e} {c : Dev nD} {I J K : Finset s.Idx}
    (hK : K = I ∪ J) (hd : Disjoint I J) : (Any m c K : sProp 𝕄) ⊢ iprop(Any m c I ∗ Any m c J) := by
  unfold Any
  iintro ⟨%g, H⟩
  ihave H := (own_split hK hd) $$ H
  icases H with ⟨H1, H2⟩
  isplitl [H1]
  · iexists g; iexact H1
  · iexists g; iexact H2

theorem any_join {s : Shape} {e : EltTy} {m : Memref sig .tc .vmem s e} {c : Dev nD} {I J K : Finset s.Idx} {g : s.Idx → Elt F e}
    (hK : K = I ∪ J) (hd : Disjoint I J) : (iprop(Own m c I fullShare g ∗ Any m c J) : sProp 𝕄) ⊢ Any m c K := by
  unfold Any
  iintro ⟨H, ⟨%g', H'⟩⟩
  iexists (fun i => by classical exact if i ∈ I then g i else g' i)
  iapply (own_join (g₁ := g) (g₂ := g') hK hd (fun i hi => by simp [hi])
    (fun i hi => by have : i ∉ I := fun h => Finset.disjoint_left.1 hd h hi
                    simp [this]))
  isplitl [H]
  · iexact H
  · iexact H'

variable {m : Memref sig .tc .vmem S1536x512 .bf16} {c : Dev nD}

/-- A band read. -/
theorem bload (l n r : ℕ) {h : ℕ} {q : PosShare TreeShare} {g : S1536x512.Idx → Elt F .bf16} {off : Fin 2 → ℕ} (hoff : off = ![r, 0])
    (hl : l ≤ r) (hn : r + h ≤ l + n) {inb : ∀ a, off a + (![h, 512] : Fin 2 → ℕ) a ≤ S1536x512.size a}
    {hv : m.view.LoadsAt (Rect.unit (s := S1536x512) off ![h, 512] inb).toLoadRect}
    {k : ((⟨2, ![h, 512]⟩ : Shape).Idx → Elt F .bf16) → Prog (TpuEff nD τ sig (Elt F) Λ₀ .tc) α} {Q : α → sProp 𝕄} :
    (Own m c (R l n) q g : sProp 𝕄)
      ⊢ iprop((Own m c (R l n) q g -∗ wpc c (k fun x => g (ix (r + row (n := h) (w := 512) x) (col (n := h) (w := 512) x))) Q)
        -∗ wpc c (.op (.load m (Rect.unit (s := S1536x512) off ![h, 512] inb).toLoadRect hv) k) Q) := by
  iintro H Hk
  iapply (wp_load_own (I := R l n) (fun i hi => by
    have := (mem_unit5 hoff).1 hi
    exact mem_R.2 ⟨by omega, by omega⟩)) $$ H
  iintro H
  rw [show (fun x => g ((Rect.unit (s := S1536x512) off ![h, 512] inb).toLoadRect.idx x))
    = fun x => g (ix (r + row (n := h) (w := 512) x) (col (n := h) (w := 512) x)) from
    funext fun x => congrArg g (unit5_idx hoff x)]
  iapply Hk
  iexact H

/-- A band overwritten (what it held is read first, and dropped). -/
theorem bstore (V : S1536x512.Idx → Elt F .bf16) (r : ℕ) {h : ℕ} {off : Fin 2 → ℕ} (hoff : off = ![r, 0])
    {inb : ∀ a, off a + (![h, 512] : Fin 2 → ℕ) a ≤ S1536x512.size a}
    {hv : m.view.LoadsAt (Rect.unit (s := S1536x512) off ![h, 512] inb).toLoadRect}
    {w : (⟨2, ![h, 512]⟩ : Shape).Idx → Elt F .bf16} (hw : ∀ x, w x = V (ix (r + row (n := h) (w := 512) x) (col (n := h) (w := 512) x)))
    {hx : (m.access (Rect.unit (s := S1536x512) off ![h, 512] inb)).Stores Finset.univ}
    {hm : (Finset.univ : Finset (Rect.unit (s := S1536x512) off ![h, 512] inb).shape.Idx) = Finset.univ
      ∨ ∀ a, (Rect.unit (s := S1536x512) off ![h, 512] inb).stride a = 1}
    {k : PUnit → Prog (TpuEff nD τ sig (Elt F) Λ₀ .tc) α} {Q : α → sProp 𝕄} :
    (Any m c (R r h) : sProp 𝕄)
      ⊢ iprop((Own m c (R r h) fullShare V -∗ wpc c (k ⟨⟩) Q)
        -∗ wpc c (.op (.load m (Rect.unit (s := S1536x512) off ![h, 512] inb).toLoadRect hv) fun _ =>
          .op (.store m (Rect.unit (s := S1536x512) off ![h, 512] inb) w Finset.univ hx hm) k) Q) := by
  unfold Any
  iintro ⟨%g, H⟩ Hk
  iapply (wp_load_own (I := R r h) (fun i hi => mem_R.2 ((mem_unit5 hoff).1 hi))) $$ H
  iintro H
  iapply (wp_store_own V (fun i hi => mem_R.2 ((mem_unit5 hoff).1 hi)) (fun x => by rw [unit5_idx hoff x]; exact (hw x).symm)
    (fun i hi hi' => absurd ((mem_unit5 hoff).2 (mem_R.1 hi)) hi')) $$ H
  iexact Hk

/-! ## Strips of the accumulator and of the result -/

/-- The columns of stream `t`. -/
def strip (t : Fin 3) : Finset S1536x1536.Idx := Finset.univ.filter fun i => 512 * t.val ≤ clz i ∧ clz i < 512 * t.val + 512
theorem mem_strip {t : Fin 3} {i : S1536x1536.Idx} : i ∈ strip t ↔ 512 * t.val ≤ clz i ∧ clz i < 512 * t.val + 512 := by
  unfold strip; rw [Finset.mem_filter]; exact ⟨fun h => h.2, fun h => ⟨Finset.mem_univ _, h⟩⟩

/-- The place in the stream's own buffers of an index of the strip. -/
def zc (t : Fin 3) (i : S1536x1536.Idx) : S1536x512.Idx := ix (rwz i) (clz i - 512 * t.val)

/-- A window: first row, rows, and what they hold. -/
abbrev Wd (F : FTy → Type) : Type := ℕ × ℕ × (S1536x512.Idx → F .f32)

def Wins (t : Fin 3) (g : S1536x1536.Idx → F .f32) (L : List (Wd F)) : Prop :=
  ∀ w ∈ L, ∀ i ∈ strip t, w.1 ≤ rwz i → rwz i < w.1 + w.2.1 → g i = w.2.2 (zc t i)

/-- Device `c` holds strip `t` of `m`, and knows the windows `L` of it. -/
def ZW (m : Memref sig .tc .vmem S1536x1536 .f32) (t : Fin 3) (c : Dev nD) (L : List (Wd F)) : sProp 𝕄 :=
  iprop(∃ g : S1536x1536.Idx → Elt F .f32, ⌜Wins t g L⌝ ∗ Own m c (strip t) fullShare g)

variable {mz : Memref sig .tc .vmem S1536x1536 .f32} {t : Fin 3}

theorem zw_mono {L L' : List (Wd F)} (h : ∀ w ∈ L', ∃ w0 ∈ L, w0.2.2 = w.2.2 ∧ w0.1 ≤ w.1 ∧ w.1 + w.2.1 ≤ w0.1 + w0.2.1) :
    (ZW mz t c L : sProp 𝕄) ⊢ ZW mz t c L' := by
  unfold ZW
  iintro ⟨%g, %hg, H⟩
  iexists g
  isplitr
  · ipureintro
    intro w hw i hi h1 h2
    obtain ⟨w0, hw0, e, ha, hb⟩ := h w hw
    rw [← e]; exact hg w0 hw0 i hi (by omega) (by omega)
  · iexact H

theorem mem_unitz {off : Fin 2 → ℕ} {h r : ℕ} {inb : ∀ a, off a + (![h, 512] : Fin 2 → ℕ) a ≤ S1536x1536.size a}
    (hoff : off = ![r, 512 * t.val]) {i : S1536x1536.Idx} :
    i ∈ (Rect.unit (s := S1536x1536) off ![h, 512] inb).set ↔ (r ≤ rwz i ∧ rwz i < r + h) ∧ i ∈ strip t := by
  subst hoff
  rw [Rect.mem_set_unit, mem_strip]
  constructor
  · intro H; exact ⟨H (0 : Fin 2), H (1 : Fin 2)⟩
  · intro H a
    match a with
    | ⟨0, _⟩ => exact H.1
    | ⟨1, _⟩ => exact H.2

theorem unitz_zc {off : Fin 2 → ℕ} {h r : ℕ} {inb : ∀ a, off a + (![h, 512] : Fin 2 → ℕ) a ≤ S1536x1536.size a}
    (hoff : off = ![r, 512 * t.val]) (x : (Rect.unit (s := S1536x1536) off ![h, 512] inb).shape.Idx) :
    rwz ((Rect.unit (s := S1536x1536) off ![h, 512] inb).emb x) = r + row (n := h) (w := 512) x
    ∧ zc t ((Rect.unit (s := S1536x1536) off ![h, 512] inb).emb x) = ix (r + row (n := h) (w := 512) x) (col (n := h) (w := 512) x) := by
  subst hoff
  have e0 : rwz ((Rect.unit (s := S1536x1536) ![r, 512 * t.val] ![h, 512] inb).emb x) = r + row (n := h) (w := 512) x := by
    show r + 1 * row (n := h) (w := 512) x = _; omega
  have e1 : clz ((Rect.unit (s := S1536x1536) ![r, 512 * t.val] ![h, 512] inb).emb x) = 512 * t.val + col (n := h) (w := 512) x := by
    show 512 * t.val + 1 * col (n := h) (w := 512) x = _; omega
  refine ⟨e0, ?_⟩
  unfold zc; rw [e0, e1]; congr 1; omega

/-- A window read. -/
theorem zload (lo n : ℕ) (G : S1536x512.Idx → F .f32) (r : ℕ) {L : List (Wd F)} (hL : (lo, n, G) ∈ L) {h : ℕ} {off : Fin 2 → ℕ}
    (hoff : off = ![r, 512 * t.val]) (hl : lo ≤ r) (hn : r + h ≤ lo + n)
    {inb : ∀ a, off a + (![h, 512] : Fin 2 → ℕ) a ≤ S1536x1536.size a}
    {hv : mz.view.LoadsAt (Rect.unit (s := S1536x1536) off ![h, 512] inb).toLoadRect}
    {k : ((⟨2, ![h, 512]⟩ : Shape).Idx → Elt F .f32) → Prog (TpuEff nD τ sig (Elt F) Λ₀ .tc) α} {Q : α → sProp 𝕄} :
    (ZW mz t c L : sProp 𝕄)
      ⊢ iprop((ZW mz t c L -∗ wpc c (k fun x => G (ix (r + row (n := h) (w := 512) x) (col (n := h) (w := 512) x))) Q)
        -∗ wpc c (.op (.load mz (Rect.unit (s := S1536x1536) off ![h, 512] inb).toLoadRect hv) k) Q) := by
  unfold ZW
  iintro ⟨%g, %hg, H⟩ Hk
  iapply (wp_load_own (I := strip t) (fun i hi => ((mem_unitz hoff).1 hi).2)) $$ H
  iintro H
  rw [show (fun x => g ((Rect.unit (s := S1536x1536) off ![h, 512] inb).toLoadRect.idx x))
    = fun x => G (ix (r + row (n := h) (w := 512) x) (col (n := h) (w := 512) x)) from
    funext fun x => by
      have hx := row_lt (n := h) (w := 512) x
      obtain ⟨e0, e1⟩ := unitz_zc (t := t) (inb := inb) hoff x
      refine (hg _ hL _ ((mem_unitz hoff).1 ((Rect.unit (s := S1536x1536) off ![h, 512] inb).toLoadRect.idx_mem x)).2 ?_ ?_).trans
        (congrArg G e1)
      · exact hl.trans (le_of_le_of_eq (Nat.le_add_right _ _) e0.symm)
      · exact lt_of_eq_of_lt e0 (by show _ < lo + n; omega)]
  iapply Hk
  iexists g
  isplitr
  · ipureintro; exact hg
  · iexact H

/-- Rows overwritten (what they held is read first, and dropped). -/
theorem zstore (G : S1536x512.Idx → F .f32) (r : ℕ) {L K : List (Wd F)} {h : ℕ} {off : Fin 2 → ℕ}
    (hoff : off = ![r, 512 * t.val])
    (hK : ∀ w ∈ K, w ∈ L ∧ (w.1 + w.2.1 ≤ r ∨ r + h ≤ w.1))
    {inb : ∀ a, off a + (![h, 512] : Fin 2 → ℕ) a ≤ S1536x1536.size a}
    {hv : mz.view.LoadsAt (Rect.unit (s := S1536x1536) off ![h, 512] inb).toLoadRect}
    {w : (⟨2, ![h, 512]⟩ : Shape).Idx → Elt F .f32} (hw : ∀ x, w x = G (ix (r + row (n := h) (w := 512) x) (col (n := h) (w := 512) x)))
    {hx : (mz.access (Rect.unit (s := S1536x1536) off ![h, 512] inb)).Stores Finset.univ}
    {hm : (Finset.univ : Finset (Rect.unit (s := S1536x1536) off ![h, 512] inb).shape.Idx) = Finset.univ
      ∨ ∀ a, (Rect.unit (s := S1536x1536) off ![h, 512] inb).stride a = 1}
    {k : PUnit → Prog (TpuEff nD τ sig (Elt F) Λ₀ .tc) α} {Q : α → sProp 𝕄} :
    (ZW mz t c L : sProp 𝕄)
      ⊢ iprop((ZW mz t c ((r, h, G) :: K) -∗ wpc c (k ⟨⟩) Q)
        -∗ wpc c (.op (.load mz (Rect.unit (s := S1536x1536) off ![h, 512] inb).toLoadRect hv) fun _ =>
          .op (.store mz (Rect.unit (s := S1536x1536) off ![h, 512] inb) w Finset.univ hx hm) k) Q) := by
  unfold ZW
  iintro ⟨%g, %hg, H⟩ Hk
  iapply (wp_load_own (I := strip t) (fun i hi => ((mem_unitz hoff).1 hi).2)) $$ H
  iintro H
  iapply (wp_store_own (fun i => if r ≤ rwz i ∧ rwz i < r + h then G (zc t i) else g i)
    (fun i hi => ((mem_unitz hoff).1 hi).2) (fun x => by
      obtain ⟨e0, e1⟩ := unitz_zc (t := t) (inb := inb) hoff x
      have hx := row_lt (n := h) (w := 512) x
      rw [if_pos (by rw [e0]; omega), e1]; exact (hw x).symm)
    (fun i hi hi' => if_neg (fun hr => hi' ((mem_unitz hoff).2 ⟨hr, hi⟩)))) $$ H
  iintro H
  iapply Hk
  iexists (fun i => if r ≤ rwz i ∧ rwz i < r + h then G (zc t i) else g i)
  isplitr
  · ipureintro
    intro v hv i hi h1 h2
    rcases List.mem_cons.1 hv with rfl | hv
    · exact if_pos ⟨h1, h2⟩
    · obtain ⟨hvL, hd⟩ := hK v hv
      rw [← hg v hvL i hi h1 h2]
      exact if_neg (by rintro ⟨a, b⟩; omega)
  · iexact H

/-! ## The operands -/

theorem aload {ma : Memref sig .tc .vmem S1536x768 .bf16} {q : PosShare TreeShare} {g : S1536x768.Idx → Elt F .bf16} (r : ℕ)
    {off : Fin 2 → ℕ} (hoff : off = ![r, 0]) {inb : ∀ a, off a + S768x768.size a ≤ S1536x768.size a}
    {hv : ma.view.LoadsAt (Rect.unit (s := S1536x768) off S768x768.size inb).toLoadRect}
    {k : (S768x768.Idx → Elt F .bf16) → Prog (TpuEff nD τ sig (Elt F) Λ₀ .tc) α} {Q : α → sProp 𝕄} :
    (Own ma c Finset.univ q g : sProp 𝕄)
      ⊢ iprop((Own ma c Finset.univ q g -∗ wpc c (k fun x => g (ax (r + row (n := 768) (w := 768) x) (col (n := 768) (w := 768) x))) Q)
        -∗ wpc c (.op (.load ma (Rect.unit (s := S1536x768) off S768x768.size inb).toLoadRect hv) k) Q) := by
  subst hoff
  iintro H Hk
  iapply (wp_load_own (I := Finset.univ) (fun i hi => Finset.mem_univ i)) $$ H
  iintro H
  rw [show (fun x => g ((Rect.unit (s := S1536x768) ![r, 0] S768x768.size inb).toLoadRect.idx x))
    = fun x => g (ax (r + row (n := 768) (w := 768) x) (col (n := 768) (w := 768) x)) from
    funext fun x => congrArg g (by
      have h0 : r + 768 ≤ 1536 := inb (0 : Fin 2)
      have hx0 := row_lt (n := 768) (w := 768) x
      have hx1 := col_lt (n := 768) (w := 768) x
      refine idx2_ext (n := 1536) (w := 768) ?_ ?_
      · show r + 1 * row (n := 768) (w := 768) x = (r + row (n := 768) (w := 768) x) % 1536
        rw [Nat.mod_eq_of_lt (by omega)]; omega
      · show 0 + 1 * col (n := 768) (w := 768) x = (col (n := 768) (w := 768) x) % 768
        rw [Nat.mod_eq_of_lt hx1]; omega)]
  iapply Hk
  iexact H

theorem b_load {mb : Memref sig .tc .vmem S768x1536 .bf16} {q : PosShare TreeShare} {g : S768x1536.Idx → Elt F .bf16} (t : Fin 3)
    {off : Fin 2 → ℕ} (hoff : off = ![0, 512 * t.val]) {inb : ∀ a, off a + S768x512.size a ≤ S768x1536.size a}
    {hv : mb.view.LoadsAt (Rect.unit (s := S768x1536) off S768x512.size inb).toLoadRect}
    {k : (S768x512.Idx → Elt F .bf16) → Prog (TpuEff nD τ sig (Elt F) Λ₀ .tc) α} {Q : α → sProp 𝕄} :
    (Own mb c Finset.univ q g : sProp 𝕄)
      ⊢ iprop((Own mb c Finset.univ q g
          -∗ wpc c (k fun x => g (bx (row (n := 768) (w := 512) x) (512 * t.val + col (n := 768) (w := 512) x))) Q)
        -∗ wpc c (.op (.load mb (Rect.unit (s := S768x1536) off S768x512.size inb).toLoadRect hv) k) Q) := by
  subst hoff
  iintro H Hk
  iapply (wp_load_own (I := Finset.univ) (fun i hi => Finset.mem_univ i)) $$ H
  iintro H
  rw [show (fun x => g ((Rect.unit (s := S768x1536) ![0, 512 * t.val] S768x512.size inb).toLoadRect.idx x))
    = fun x => g (bx (row (n := 768) (w := 512) x) (512 * t.val + col (n := 768) (w := 512) x)) from
    funext fun x => congrArg g (by
      have hx0 := row_lt (n := 768) (w := 512) x
      have hx1 := col_lt (n := 768) (w := 512) x
      have := t.isLt
      refine idx2_ext (n := 768) (w := 1536) ?_ ?_
      · show 0 + 1 * row (n := 768) (w := 512) x = row (n := 768) (w := 512) x % 768
        rw [Nat.mod_eq_of_lt hx0]; omega
      · show 512 * t.val + 1 * col (n := 768) (w := 512) x = (512 * t.val + col (n := 768) (w := 512) x) % 1536
        rw [Nat.mod_eq_of_lt (by omega)]; omega)]
  iapply Hk
  iexact H

/-- The product of a half, as a window of the accumulator. -/
theorem mm_half (A : Dev nD → S1536x768.Idx → F .bf16) (B : Dev nD → S768x1536.Idx → F .bf16) (t : Fin 3) (c : Dev nD) (r : ℕ)
    (hr : r = 0 ∨ r = 768) (x : S768x512.Idx) :
    k0_pay1 (fun y : S768x768.Idx => A c (ax (r + row (n := 768) (w := 768) y) (col (n := 768) (w := 768) y)))
      (fun y : S768x512.Idx => B c (bx (row (n := 768) (w := 512) y) (512 * t.val + col (n := 768) (w := 512) y))) x
    = Acc A B t 0 c (ix (r + row (n := 768) (w := 512) x) (col (n := 768) (w := 512) x)) := by
  have hx0 := row_lt (n := 768) (w := 512) x
  have hx1 := col_lt (n := 768) (w := 512) x
  have e : (r + row (n := 768) (w := 512) x) % 1536 = r + row (n := 768) (w := 512) x := Nat.mod_eq_of_lt (by omega)
  have e1 : 768 * ((r + row (n := 768) (w := 512) x) / 768) = r := by omega
  have e2 : (r + row (n := 768) (w := 512) x) % 768 = row (n := 768) (w := 512) x := by omega
  have e3 : hx (row (n := 768) (w := 512) x) (col (n := 768) (w := 512) x) = x :=
    idx2_ext (n := 768) (w := 512) (Nat.mod_eq_of_lt hx0) (Nat.mod_eq_of_lt hx1)
  show _ = prod0 A B t c _
  unfold prod0
  rw [row_ix, col_ix, e, Nat.mod_eq_of_lt hx1, e1, e2, e3]

end Cert.GemmProof
-- ==== Proof.Sched.lean ====
/-
# Who signals whom, and what goes with it

Every semaphore of the kernel is used once. The barrier and the exit semaphore of a device take one unit from each of
its six partners; the barrier's unit brings the bands of the partner's landing buffers into which this device will
send. A transfer's send semaphore gives its source band back, its receive semaphore hands over the band it landed in,
now known. The waits go up in level in program order.
-/
module

public import proofs.«01_k».proof.Proof.Steps

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {α : Type}

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers and semaphores -/

abbrev aM : Memref sig .tc .vmem S1536x768 .bf16 := Memref.whole cc0_stg0_0
abbrev bM : Memref sig .tc .vmem S768x1536 .bf16 := Memref.whole cc0_stg1_0
abbrev oM : Memref sig .tc .vmem S1536x1536 .f32 := Memref.whole cc0_stg2_0
abbrev zM : Memref sig .tc .vmem S1536x1536 .f32 := Memref.whole cc0_scratch0
/-- The narrowed rows a stream sends, the rows it receives, the finished rows it passes round. -/
def zbM : Fin 3 → Memref sig .tc .vmem S1536x512 .bf16 := ![Memref.whole cc0_scratch1, Memref.whole cc0_scratch4, Memref.whole cc0_scratch7]
def rsM : Fin 3 → Memref sig .tc .vmem S1536x512 .bf16 := ![Memref.whole cc0_scratch2, Memref.whole cc0_scratch5, Memref.whole cc0_scratch8]
def agM : Fin 3 → Memref sig .tc .vmem S1536x512 .bf16 := ![Memref.whole cc0_scratch3, Memref.whole cc0_scratch6, Memref.whole cc0_scratch9]
def srcM (t : Fin 3) (j : Fin 12) : Memref sig .tc .vmem S1536x512 .bf16 := if j.val < 6 then zbM t else agM t
def dstM (t : Fin 3) (j : Fin 12) : Memref sig .tc .vmem S1536x512 .bf16 := if j.val < 6 then rsM t else agM t

abbrev barS : Sem sig := (SemArray.scalar (sig.barrier 0 rfl) : Sems sig S_).sem
abbrev exS : Sem sig := cc0_scratch12.sem
def sendS (t : Fin 3) (j : Fin 12) : DmaSem sig := ⟨3 + (12 * t.val + j.val), by change _ < 75; omega⟩
def recvS (t : Fin 3) (j : Fin 12) : DmaSem sig := ⟨39 + (12 * t.val + j.val), by change _ < 75; omega⟩

/-- A transfer: stream and number. -/
abbrev Tx : Type := Fin 3 × Fin 12
/-- The kernel's semaphores: barrier, exit; a transfer's send, its receive. -/
abbrev KI : Type := Bool ⊕ (Bool × Tx)

def csem : KI → SemLoc sig
  | .inl false => .reg barS
  | .inl true => .reg exS
  | .inr (false, k) => .dma (sendS k.1 k.2)
  | .inr (true, k) => .dma (recvS k.1 k.2)

def txOf (n : ℕ) : Tx := (⟨n / 12 % 3, Nat.mod_lt _ (by decide)⟩, ⟨n % 12, Nat.mod_lt _ (by decide)⟩)

def dec : SemLoc sig → Option KI
  | .reg s => if s = barS then some (.inl false) else some (.inl true)
  | .dma q => if q.val < 3 then none else if q.val < 39 then some (.inr (false, txOf (q.val - 3))) else some (.inr (true, txOf (q.val - 39)))

theorem dec_csem : ∀ k, dec (csem k) = some k := by decide +kernel

theorem csem_inj : Function.Injective csem := fun a b h => by
  have := congrArg dec h; rw [dec_csem, dec_csem] at this; exact Option.some.inj this

abbrev kc (c : Dev nD) (k : KI) : GSem nD τ sig := ((c : Thread nD τ), csem k)
abbrev barC (c : Dev nD) : GSem nD τ sig := kc c (.inl false)
abbrev exC (c : Dev nD) : GSem nD τ sig := kc c (.inl true)
abbrev sndC (c : Dev nD) (t : Fin 3) (j : Fin 12) : GSem nD τ sig := kc c (.inr (false, (t, j)))
abbrev rcvC (c : Dev nD) (t : Fin 3) (j : Fin 12) : GSem nD τ sig := kc c (.inr (true, (t, j)))

/-- The amount a transfer's semaphores move by. -/
def amt (j : Fin 12) : ℕ := Ref.dmaCredit cc0_scratch1 ⟨2, ![hgt j, 512]⟩ .bf16
theorem hgt_pos : ∀ j, 0 < hgt j := by decide
theorem amt_pos (j : Fin 12) : 0 < amt j := sig.dmaCredit_pos _ _ _ _ _ (by revert j; decide)
theorem amt_dst (t : Fin 3) (j : Fin 12) (h : ℕ) (hh : h = hgt j) : Ref.dmaCredit (dstM t j).view.ref ⟨2, ![h, 512]⟩ .bf16 = amt j := by
  subst hh
  unfold amt dstM rsM agM
  split <;> (fin_cases t <;> rfl)

/-! ## The schedule -/

section Sch
variable (A : Dev nD → S1536x768.Idx → F .bf16) (B : Dev nD → S768x1536.Idx → F .bf16)

/-- The part of a buffer a transfer is lent: all of it, or a share where several read the same rows at once. -/
def qs (j : Fin 12) : PosShare TreeShare :=
  if j.val < 6 then fullShare else if j.val = 7 then fullShare.right.left else if j.val = 8 then fullShare.right.right else fullShare.left

/-- The band of `c` in which transfer `(t, j)` will land. -/
def Land (c : Dev nD) (k : Tx) : sProp 𝕄 := Any (dstM k.1 k.2) c (R (dlo k.1 k.2 c) (hgt k.2))
/-- That band, landed. -/
def Landed (c : Dev nD) (t : Fin 3) (j : Fin 12) : sProp 𝕄 :=
  Own (dstM t j) c (R (dlo t j c) (hgt j)) fullShare (landV A B t j c)
/-- The band sent, given back. -/
def Lent (c : Dev nD) (t : Fin 3) (j : Fin 12) : sProp 𝕄 :=
  Own (srcM t j) c (R (slo t j c) (hgt j)) (qs j) (V A B t j c)

instance (c : Dev nD) (k : Tx) : BI.Storable (upEmb : UEmb _ 𝕄) (Land (F := F) c k) := by unfold Land; infer_instance
instance (c : Dev nD) (t : Fin 3) (j : Fin 12) : BI.Storable (upEmb : UEmb _ 𝕄) (Landed A B c t j) := by unfold Landed; infer_instance
instance (c : Dev nD) (t : Fin 3) (j : Fin 12) : BI.Storable (upEmb : UEmb _ 𝕄) (Lent A B c t j) := by unfold Lent; infer_instance

/-- What partner `p` hands over with its barrier unit: the bands it will be sent into by the transfers of that partner. -/
def Hand (p : Dev nD) (q : Fin 6) : sProp 𝕄 := bigSep (Finset.univ.filter fun k : Tx => mq k.1 k.2 = q) fun k => Land (F := F) p k
instance (c : Dev nD) (q : Fin 6) : BI.Storable (upEmb : UEmb _ 𝕄) (Hand (F := F) c q) := by unfold Hand; infer_instance

def kduties : Option KI → Finset (Fin 6)
  | none => ∅
  | some (.inl _) => Finset.univ
  | some (.inr _) => {0}
def kamt : Option KI → ℕ
  | some (.inr (_, k)) => amt k.2
  | _ => 1
def kpay (c : Dev nD) (d : Fin 6) : Option KI → sProp 𝕄
  | some (.inl false) => Hand (pr (mask6 d) c) d
  | some (.inr (false, k)) => Lent A B c k.1 k.2
  | some (.inr (true, k)) => Landed A B c k.1 k.2
  | _ => iprop(emp)

def Rd : Rounds.Schedule (GSem nD τ sig) (Fin 6) 𝕄 where
  duties g r := if r = 0 ∧ g.1.2 = .tc then kduties (dec g.2) else ∅
  unitless _ := False
  amount g _ _ := kamt (dec g.2)
  payload g _ d := kpay A B g.1.1 d (dec g.2)
  amount_pos g _ _ _ := by
    show 0 < kamt (dec g.2)
    unfold kamt; split
    · exact amt_pos _
    · exact Nat.one_pos

instance Rd_storable (g : GSem nD τ sig) (r : ℕ) (d : Fin 6) : BI.Storable (upEmb : UEmb _ 𝕄) ((Rd A B).payload g r d) := by
  show BI.Storable upEmb (kpay A B g.1.1 d (dec g.2))
  unfold kpay; split <;> infer_instance

theorem duties_k (c : Dev nD) (k : KI) : (Rd A B).duties (kc c k) 0 = kduties (some k) := by
  show (if (0 : ℕ) = 0 ∧ (kc c k).1.2 = .tc then kduties (dec (csem k)) else ∅) = _
  rw [if_pos ⟨rfl, rfl⟩, dec_csem]
theorem duty_x (c : Dev nD) (x : Bool × Tx) : (0 : Fin 6) ∈ (Rd A B).duties (kc c (.inr x)) 0 := by
  rw [duties_k]; exact Finset.mem_singleton_self _
theorem duty_r (c : Dev nD) (b : Bool) (q : Fin 6) : q ∈ (Rd A B).duties (kc c (.inl b)) 0 := by
  rw [duties_k]; exact Finset.mem_univ _
theorem duties_later (g : GSem nD τ sig) : ∀ r, 1 ≤ r → (Rd A B).duties g r = ∅ := fun r hr => by
  show (if r = 0 ∧ g.1.2 = .tc then kduties (dec g.2) else ∅) = _
  rw [if_neg (fun h => by omega)]
theorem amount_k (c : Dev nD) (k : KI) (d : Fin 6) : (Rd A B).amount (kc c k) 0 d = kamt (some k) := by
  show kamt (dec (csem k)) = _; rw [dec_csem]
theorem payload_k (c : Dev nD) (k : KI) (d : Fin 6) : (Rd A B).payload (kc c k) 0 d = kpay A B c d (some k) := by
  show kpay A B c d (dec (csem k)) = _; rw [dec_csem]
theorem expect_k (c : Dev nD) (k : KI) : (Rd A B).expect (kc c k) 0 = (kduties (some k)).card * kamt (some k) := by
  unfold Schedule.expect Schedule.amountOf
  rw [duties_k, Finset.sum_congr rfl fun d _ => amount_k A B c k d, Finset.sum_const, smul_eq_mul]
theorem rest_k (c : Dev nD) (k : KI) :
    bigSep ((Rd A B).duties (kc c k) 0 \ ∅) (fun d => (Rd A B).payload (kc c k) 0 d)
      = bigSep (kduties (some k)) fun d => kpay A B c d (some k) := by
  rw [Finset.sdiff_empty, duties_k]
  exact bigSep_congr fun d _ => payload_k A B c k d

/-! ## Debts, in program order -/

/-- Transfers in the order they are sent. -/
def ordj (j : Fin 12) (t : Fin 3) : ℕ :=
  (![t.val, 3 + t.val, 6 + t.val, 9 + 3 * t.val, 10 + 3 * t.val, 11 + 3 * t.val, 18 + 3 * t.val, 19 + 3 * t.val, 20 + 3 * t.val,
    27 + t.val, 30 + t.val, 33 + t.val] : Fin 12 → ℕ) j
def sendOrd (n : ℕ) : Tx :=
  if n < 9 then (⟨n % 3, Nat.mod_lt _ (by decide)⟩, ⟨n / 3 % 12, Nat.mod_lt _ (by decide)⟩)
  else if n < 27 then (⟨n / 3 % 3, Nat.mod_lt _ (by decide)⟩, ⟨(n % 3 + (if n < 18 then 3 else 6)) % 12, Nat.mod_lt _ (by decide)⟩)
  else (⟨n % 3, Nat.mod_lt _ (by decide)⟩, ⟨n / 3 % 12, Nat.mod_lt _ (by decide)⟩)

/-- What the `i`-th debt is on, and the partner it is owed to. -/
def iki (i : Fin 48) : KI :=
  if i.val < 6 then .inl false else if i.val < 42 then .inr (true, sendOrd (i.val - 6)) else .inl true
def iq (i : Fin 48) : Fin 6 :=
  if i.val < 6 then ⟨i.val % 6, Nat.mod_lt _ (by decide)⟩ else if i.val < 42 then mq (sendOrd (i.val - 6)).1 (sendOrd (i.val - 6)).2
  else ⟨i.val % 6, Nat.mod_lt _ (by decide)⟩
def icell (c : Dev nD) (i : Fin 48) : GSem nD τ sig := kc (pr (mask6 (iq i)) c) (iki i)

/-- What device `c` still owes after its first `n` payments. -/
def owedFrom (n : ℕ) (c : Dev nD) : CellTallies nD τ sig Unit :=
  (Finset.univ.filter fun i : Fin 48 => n ≤ i.val).sum fun i => tallyAt (icell c i) () (kamt (some (iki i)))

theorem owed_peel (n : Fin 48) (c : Dev nD) :
    owedFrom n.val c = owedFrom (n.val + 1) c + tallyAt (icell c n) () (kamt (some (iki n))) := by
  unfold owedFrom
  rw [show (Finset.univ.filter fun i : Fin 48 => n.val ≤ i.val) = insert n (Finset.univ.filter fun i : Fin 48 => n.val + 1 ≤ i.val) from by
    ext i; simp only [Finset.mem_filter, Finset.mem_univ, true_and, Finset.mem_insert, Fin.ext_iff]; omega,
    Finset.sum_insert (by simp), add_comm]

theorem owed_done (c : Dev nD) : owedFrom 48 c = 0 := by
  unfold owedFrom
  rw [Finset.filter_false_of_mem (fun i _ => by have := i.isLt; omega), Finset.sum_empty]

theorem sendOrd_ord : ∀ (t : Fin 3) (j : Fin 12), sendOrd (ordj j t) = (t, j) ∧ ordj j t < 36 := by decide
theorem ik_send (t : Fin 3) (j : Fin 12) (n : Fin 48) (hn : n.val = 6 + ordj j t) : iki n = .inr (true, (t, j)) ∧ iq n = mq t j := by
  obtain ⟨h, h'⟩ := sendOrd_ord t j
  have e : n.val - 6 = ordj j t := by omega
  unfold iki iq
  rw [if_neg (by omega), if_pos (by omega), if_neg (by omega), if_pos (by omega), e, h]
  exact ⟨rfl, rfl⟩

/-! ## Levels -/

def L (g : GSem nD τ sig) : Finset Unit := if g.1.2 = .tc then {()} else ∅
def klev : Option KI → ℕ
  | some (.inl false) => 1
  | some (.inl true) => 100
  | some (.inr (true, k)) => 2 + ordj k.2 k.1
  | _ => 0
def lv (g : GSem nD τ sig) (_ : Unit) : ℕ := klev (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : KI) : lv (kc c k) () = klev (some k) := by unfold lv; rw [dec_csem]

theorem ilev : ∀ (i : Fin 48), klev (some (iki i)) = if i.val < 6 then 1 else if i.val < 42 then i.val - 4 else 100 := by decide +kernel

theorem owed_pos {n : ℕ} {c : Dev nD} {g : GSem nD τ sig} {u : Unit} (h : 0 < owedFrom n c g u) : ∃ i : Fin 48, n ≤ i.val ∧ g = icell c i := by
  by_contra hn
  push Not at hn
  refine absurd h ?_
  unfold owedFrom
  rw [Finset.sum_apply, Finsupp.finsetSum_apply, Finset.sum_eq_zero (fun i hi => by
    rw [tallyAt_apply, if_neg (fun h' => hn i (Finset.mem_filter.1 hi).2 h'.1)])]
  exact Nat.lt_irrefl 0

/-- A device may wait at a cell below everything it still owes. -/
theorem mayWait_at (c : Dev nD) (sm : SemLoc sig) (n b : ℕ) (hb : klev (dec sm) ≤ b)
    (hn : ∀ i : Fin 48, n ≤ i.val → b < klev (some (iki i))) :
    (levAts L lv : sProp 𝕄) ⊢ MayWait (c : Thread nD τ) sm () (owedFrom n c) :=
  MayOwe.of_cut (L := L) (lev := lv) b (fun p hp => by rw [Finset.mem_singleton.mp hp, L_tc]; exact Finset.mem_singleton_self _)
    (fun g u hg => by obtain ⟨i, -, rfl⟩ := owed_pos hg; exact Finset.mem_singleton_self _)
    (fun p hp => by rw [Finset.mem_singleton.mp hp]; exact hb)
    (fun g u hg => by
      obtain ⟨i, hi, rfl⟩ := owed_pos hg
      exact lt_of_lt_of_eq (hn i hi) (lv_k _ _).symm)

/-! ## The records every device shares, and what each holds -/

variable (K : Dev nD × KI → ℕ)

def records : sProp 𝕄 :=
  iprop((bigSep Finset.univ fun ck : Dev nD × KI => cellInv ER (Rd A B) (K ck) (kc ck.1 ck.2))
    ∗ (bigSep Finset.univ fun ck : Dev nD × KI => reached ER (kc ck.1 ck.2) 0) ∗ levAts L lv)

instance records_persistent : BI.Persistent (records A B K) := by unfold records; infer_instance

theorem inv_at (ck : Dev nD × KI) :
    (bigSep Finset.univ fun ck : Dev nD × KI => (cellInv ER (Rd A B) (K ck) (kc ck.1 ck.2) : sProp 𝕄)) ⊢ cellInv ER (Rd A B) (K ck) (kc ck.1 ck.2) :=
  bigSep_elim (Finset.mem_univ ck)
theorem mark_at (ck : Dev nD × KI) :
    (bigSep Finset.univ fun ck : Dev nD × KI => (reached ER (kc ck.1 ck.2) 0 : sProp 𝕄)) ⊢ reached ER (kc ck.1 ck.2) 0 :=
  bigSep_elim (Finset.mem_univ ck)

theorem rec_inv (c : Dev nD) (k : KI) : (records A B K : sProp 𝕄) ⊢ cellInv ER (Rd A B) (K (c, k)) (kc c k) := by
  unfold records
  iintro ⟨H, -⟩
  iapply (inv_at A B K (c, k)); iexact H
theorem rec_reached (c : Dev nD) (k : KI) : (records A B K : sProp 𝕄) ⊢ reached ER (kc c k) 0 := by
  unfold records
  iintro ⟨-, H, -⟩
  iapply (mark_at (F := F) (c, k)); iexact H
/-- The order of the cells. -/
def Levs : sProp 𝕄 := levAts L lv
instance : BI.Persistent (Levs (F := F)) := by unfold Levs; infer_instance
theorem rec_lev : (records A B K : sProp 𝕄) ⊢ Levs := by
  unfold records Levs
  iintro ⟨-, -, H⟩
  iexact H

/-- What `c` owes after `n` payments. -/
def Ow (c : Dev nD) (n : ℕ) : sProp 𝕄 := iprop(∃ W, owes (c : Thread nD τ) (owedFrom n c) W)

/-- What `c` has for transfer `(t, j)` before the barrier; once the band to send into is in hand; when sent; when waited for. -/
def Kit0 (c : Dev nD) (k : Tx) : sProp 𝕄 :=
  iprop(atPos ER (sndC c k.1 k.2) 0 ∅ 0 ∗ atPos ER (rcvC c k.1 k.2) 0 ∅ 0 ∗ dutyTok ER (sndC c k.1 k.2) 0 0
    ∗ dutyTok ER (rcvC (peer k.1 k.2 c) k.1 k.2) 0 0 ∗ cred (tallyAt (rcvC c k.1 k.2) () (amt k.2)))
def Kit (c : Dev nD) (t : Fin 3) (j : Fin 12) : sProp 𝕄 := iprop(Kit0 c (t, j) ∗ Land (peer t j c) (t, j))
def WS (c : Dev nD) (t : Fin 3) (j : Fin 12) : sProp 𝕄 := iprop(atPos ER (sndC c t j) 0 ∅ 0 ∗ cred (tallyAt (sndC c t j) () (amt j)))
def WR (c : Dev nD) (t : Fin 3) (j : Fin 12) : sProp 𝕄 := iprop(atPos ER (rcvC c t j) 0 ∅ 0 ∗ cred (tallyAt (rcvC c t j) () (amt j)))
def ZS (c : Dev nD) (t : Fin 3) (j : Fin 12) : sProp 𝕄 := semVal (sndC c t j) 0
def ZR (c : Dev nD) (t : Fin 3) (j : Fin 12) : sProp 𝕄 := semVal (rcvC c t j) 0

/-! ## One transfer -/

theorem cast_slice_amount {m : Memref sig .tc .vmem S1536x512 .bf16} {off : Fin 2 → ℕ} {h : ℕ}
    {inb : ∀ a, off a + (![h, 512] : Fin 2 → ℕ) a ≤ S1536x512.size a} {hs : ∀ a, (Rect.unit (s := S1536x512) off ![h, 512] inb).stride a = 1} :
    (m.slice (Rect.unit (s := S1536x512) off ![h, 512] inb) hs).view.dmaCredit = Ref.dmaCredit m.view.ref ⟨2, ![h, 512]⟩ .bf16 := rfl

/-- A band sent: it is lent until the send is waited for, and the partner's band is given up to the landing. -/
theorem wp_send_band (t : Fin 3) (j : Fin 12) (n : ℕ) (hn : n = 6 + ordj j t) (c : Dev nD) {g : S1536x512.Idx → Elt F .bf16}
    (hg : ∀ i ∈ R (slo t j c) (hgt j), g i = V A B t j c i)
    {sM dM : Memref sig .tc .vmem S1536x512 .bf16} (hsM : sM = srcM t j) (hdM : dM = dstM t j) {h : ℕ} (hh : h = hgt j)
    {so : Fin 2 → ℕ} (hso : so = ![slo t j c, 0]) {dO : Fin 2 → ℕ} (hdo : dO = ![dlo t j (peer t j c), 0])
    {d : Dev nD} (hd : d = peer t j c) {ss rs : DmaSem sig} (hss : ss = sendS t j) (hrs : rs = recvS t j)
    {inb : ∀ a, so a + (![h, 512] : Fin 2 → ℕ) a ≤ S1536x512.size a} {inb' : ∀ a, dO a + (![h, 512] : Fin 2 → ℕ) a ≤ S1536x512.size a}
    {hs : ∀ a, (Rect.unit (s := S1536x512) so ![h, 512] inb).stride a = 1}
    {hs' : ∀ a, (Rect.unit (s := S1536x512) dO ![h, 512] inb').stride a = 1}
    {hsc : (dM.slice (Rect.unit (s := S1536x512) dO ![h, 512] inb') hs' : Memref sig (Dev.tc d : Thread nD τ).2.kind .vmem _ .bf16).view.ref.isScScratch = false}
    {hsrc : (sM.slice (Rect.unit (s := S1536x512) so ![h, 512] inb) hs).view.WordExact}
    {hdst : (dM.slice (Rect.unit (s := S1536x512) dO ![h, 512] inb') hs').view.WordExact}
    {hsem : DmaTarget.Typed .vmem (.dma rs) (.remote (Dev.tc d : Thread nD τ) (dM.slice (Rect.unit (s := S1536x512) dO ![h, 512] inb') hs') (.dma ss) hsc)}
    {k : PUnit → Prog (TpuEff nD τ sig (Elt F) Λ₀ .tc) α} {Q : α → sProp 𝕄} :
    iprop(records A B K ∗ Own sM c (R (slo t j c) (hgt j)) (qs j) g ∗ Kit c t j ∗ Ow c n)
      ⊢ iprop((((WS c t j ∗ WR c t j) ∗ Ow c (n + 1)) -∗ wpc c (k ⟨⟩) Q)
        -∗ wpc c (.op (.enqueueDma (sM.slice (Rect.unit (s := S1536x512) so ![h, 512] inb) hs)
          (.remote (Dev.tc d : Thread nD τ) (dM.slice (Rect.unit (s := S1536x512) dO ![h, 512] inb') hs') (.dma ss) hsc) (.dma rs) hsrc hdst hsem) k) Q) := by
  subst hd hh hss hrs hsM hdM
  have hslt : 6 + ordj j t < 48 := by have := (sendOrd_ord t j).2; omega
  obtain ⟨hk, hq⟩ := ik_send t j ⟨6 + ordj j t, hslt⟩ rfl
  subst hn
  unfold Kit Kit0 Ow Land Any WS WR
  dsimp only
  iintro ⟨#Hrec, Hs, ⟨⟨HaS, HaR, HtS, HtR, HcR⟩, ⟨%gd, Hd⟩⟩, ⟨%W, HO⟩⟩ Hk
  have e1 := unit5_set (inb := inb) hso
  have e2 := unit5_set (inb := inb') hdo
  have hgx : ∀ x, g ((Rect.unit (s := S1536x512) so ![hgt j, 512] inb).emb x) = V A B t j c ((Rect.unit (s := S1536x512) so ![hgt j, 512] inb).emb x) :=
    fun x => hg _ (e1 ▸ (Rect.unit (s := S1536x512) so ![hgt j, 512] inb).toLoadRect.idx_mem x)
  rw [← e1, ← e2]
  ihave Hs := (own_as_slice _ hs) $$ Hs
  icases Hs with ⟨%fs, %hfs, Hs⟩
  ihave Hd := (own_as_slice _ hs') $$ Hd
  icases Hd with ⟨%fd, %hfd, Hd⟩
  iapply (Rounds.wp_send_pointsTo 𝒱₀ ER (Rd A B) (c : Thread nD τ) none (sS := .dma (sendS t j)) (sem := .dma (recvS t j)) (κ₁ := K (c, .inr (false, (t, j)))) (κ₂ := K (peer t j c, .inr (true, (t, j))))
    (r₁ := 0) (r₂ := 0) (d₁ := 0) (d₂ := 0) (fs := fs) (fd := fd)
    (duty_x A B c (false, (t, j))) (duty_x A B (peer t j c) (true, (t, j)))
    () () (amt j) (amt_dst t j _ rfl) (amount_k A B c (.inr (false, (t, j))) 0) (amount_k A B (peer t j c) (.inr (true, (t, j))) 0)
    (owedFrom (6 + ordj j t + 1) c) (by
      refine (owed_peel ⟨6 + ordj j t, hslt⟩ c).trans ?_
      unfold icell
      rw [hk, hq, ← peer_eq]; rfl) (W := W)
    (by
      show _ ⊢ (Rd A B).payload (kc c (.inr (false, (t, j)))) 0 0
      rw [payload_k A B c (.inr (false, (t, j)))]
      show _ ⊢ Lent A B c t j
      unfold Lent
      rw [← e1]
      exact own_of_slice _ hs fs (fun x => (hfs x).trans (hgx x)))
    (by
      show _ ⊢ (Rd A B).payload (kc (peer t j c) (.inr (true, (t, j)))) 0 0
      rw [payload_k A B (peer t j c) (.inr (true, (t, j)))]
      show _ ⊢ Landed A B (peer t j c) t j
      unfold Landed
      rw [← e2]
      refine own_of_slice _ hs' _ (fun x => ?_)
      rw [View.read_write_univ, hfs x, hgx x, unit5_idx hso x, unit5_idx hdo x]
      have h1 := dlo_le t j (peer t j c)
      have hx0 := row_lt (n := hgt j) (w := 512) x
      have hx1 := col_lt (n := hgt j) (w := 512) x
      rw [landV_ix A B t j (peer t j c) _ _ (by omega) hx1, peer_peer])) $$ [Hs Hd HO HtS HtR]
  · isplitr; · iapply (rec_inv A B K c (.inr (false, (t, j)))); iexact Hrec
    isplitr; · iapply (rec_inv A B K (peer t j c) (.inr (true, (t, j)))); iexact Hrec
    isplitl [Hs]; · iexact Hs
    isplitl [Hd]; · iexact Hd
    isplitl [HO]; · iexact HO
    isplitl [HtS]; · iexact HtS
    isplitr; · iapply (rec_reached A B K c (.inr (false, (t, j)))); iexact Hrec
    isplitl [HtR]; · iexact HtR
    iapply (rec_reached A B K (peer t j c) (.inr (true, (t, j)))); iexact Hrec
  iintro ⟨HcS, HO⟩
  iapply Hk
  isplitl [HaS HaR HcR HcS]
  · isplitl [HaS HcS]
    · isplitl [HaS]
      · iexact HaS
      · iexact HcS
    · isplitl [HaR]
      · iexact HaR
      · iexact HcR
  · iexists W; iexact HO

/-- The cell of a transfer closes once its wait is over. -/
theorem close_k (c : Dev nD) (k : KI) :
    iprop(records A B K ∗ atPos ER (kc c k) 1 ∅ 0) ⊢ (|={Set.univ}=> semVal (kc c k) 0 : sProp 𝕄) := by
  iintro ⟨#Hrec, Ha⟩
  iapply (Rounds.cell_close ER (Rd A B) (Set.mem_univ (K (c, k))) (fun h => h) (R := 1) (duties_later A B (kc c k)))
  isplitr
  · iapply (rec_inv A B K c k); iexact Hrec
  · iexact Ha

/-- The wait for a send: the lent band is back. -/
theorem wp_wait_send (t : Fin 3) (j : Fin 12) (n : ℕ) (c : Dev nD)
    {sp' : Space} {s' : Shape} {e' : EltTy} {src : Memref sig .tc sp' s' e'}
    {s : Shape} {e : EltTy} {dst : Memref sig .tc .vmem s e} (ha : dst.view.dmaCredit = amt j)
    {ss : DmaSem sig} (hss : ss = sendS t j) {hsrc : src.view.WordExact} {hdst : dst.view.WordExact}
    {k : PUnit → Prog (TpuEff nD τ sig (Elt F) Λ₀ .tc) α} {Q : α → sProp 𝕄} :
    iprop(records A B K ∗ WS c t j ∗ Ow c n)
      ⊢ iprop(((ZS c t j ∗ Lent A B c t j ∗ Ow c n) -∗ wpc c (k ⟨⟩) Q)
        -∗ wpc c (.op (.waitDma2 ss src dst hsrc hdst) k) Q) := by
  subst hss
  unfold WS Ow ZS
  iintro ⟨#Hrec, ⟨Hat, Hcr⟩, ⟨%W, HO⟩⟩ Hk
  ihave #Hlev := (@rec_lev F _ A B K) $$ Hrec
  iapply (Rounds.wp_wait_rest_token 𝒱₀ ER (Rd A B) (c : Thread nD τ) none (κ := K (c, .inr (false, (t, j))))
    (wpE_waitDma2_eq 𝒱₀ (c : Thread nD τ) none Set.univ) (Set.mem_univ _) () (O := owedFrom n c) (W := W) (R := 0) (m := 0) (T := ∅)
    (by
      rw [Nat.zero_add, ha]
      exact ((expect_k A B c (.inr (false, (t, j)))).trans (by show 1 * amt j = amt j; omega)).symm)) $$ [Hat Hcr HO]
  · isplitr; · iapply (rec_inv A B K c (.inr (false, (t, j)))); iexact Hrec
    isplitl [Hcr]; · rw [ha]; iexact Hcr
    isplitl [HO]; · iexact HO
    isplitr
    · unfold Levs; iapply (mayWait_at c (csem (.inr (false, (t, j)))) n 0 (by rw [dec_csem]; exact Nat.le_refl 0)
        (fun i _ => by rw [ilev]; split; · omega
                       split <;> omega))
      iexact Hlev
    iexact Hat
  rw [show bigSep ((Rd A B).duties ((c : Thread nD τ), .dma (sendS t j)) 0 \ ∅) (fun d => (Rd A B).payload ((c : Thread nD τ), .dma (sendS t j)) 0 d)
    = Lent A B c t j from (rest_k A B c (.inr (false, (t, j)))).trans (bigSep_singleton (i := (0 : Fin 6)))]
  iintro ⟨HO, Hat, -, Hpay⟩
  imod (close_k A B K c (.inr (false, (t, j)))) $$ [Hat] with Hz
  · isplitr; · iexact Hrec
    iexact Hat
  iapply Hk
  isplitl [Hz]; · iexact Hz
  isplitl [Hpay]; · iexact Hpay
  iexists _; iexact HO

/-- The wait for a landing: the band, known. -/
theorem wp_wait_recv (t : Fin 3) (j : Fin 12) (n : ℕ) (hn : 6 + ordj j t < n) (c : Dev nD)
    {sp' : Space} {s' : Shape} {e' : EltTy} {src : Memref sig .tc sp' s' e'}
    {s : Shape} {e : EltTy} {dst : Memref sig .tc .vmem s e} (ha : dst.view.dmaCredit = amt j)
    {ss : DmaSem sig} (hss : ss = recvS t j) {hsrc : src.view.WordExact} {hdst : dst.view.WordExact}
    {k : PUnit → Prog (TpuEff nD τ sig (Elt F) Λ₀ .tc) α} {Q : α → sProp 𝕄} :
    iprop(records A B K ∗ WR c t j ∗ Ow c n)
      ⊢ iprop(((ZR c t j ∗ Landed A B c t j ∗ Ow c n) -∗ wpc c (k ⟨⟩) Q)
        -∗ wpc c (.op (.waitDma2 ss src dst hsrc hdst) k) Q) := by
  subst hss
  unfold WR Ow ZR
  have h36 := (sendOrd_ord t j).2
  iintro ⟨#Hrec, ⟨Hat, Hcr⟩, ⟨%W, HO⟩⟩ Hk
  ihave #Hlev := (@rec_lev F _ A B K) $$ Hrec
  iapply (Rounds.wp_wait_rest_token 𝒱₀ ER (Rd A B) (c : Thread nD τ) none (κ := K (c, .inr (true, (t, j))))
    (wpE_waitDma2_eq 𝒱₀ (c : Thread nD τ) none Set.univ) (Set.mem_univ _) () (O := owedFrom n c) (W := W) (R := 0) (m := 0) (T := ∅)
    (by
      rw [Nat.zero_add, ha]
      exact ((expect_k A B c (.inr (true, (t, j)))).trans (by show 1 * amt j = amt j; omega)).symm)) $$ [Hat Hcr HO]
  · isplitr; · iapply (rec_inv A B K c (.inr (true, (t, j)))); iexact Hrec
    isplitl [Hcr]; · rw [ha]; iexact Hcr
    isplitl [HO]; · iexact HO
    isplitr
    · unfold Levs; iapply (mayWait_at c (csem (.inr (true, (t, j)))) n (2 + ordj j t) (by rw [dec_csem]; exact Nat.le_refl _)
        (fun i hi => by rw [ilev, if_neg (by omega)]; split <;> omega))
      iexact Hlev
    iexact Hat
  rw [show bigSep ((Rd A B).duties ((c : Thread nD τ), .dma (recvS t j)) 0 \ ∅) (fun d => (Rd A B).payload ((c : Thread nD τ), .dma (recvS t j)) 0 d)
    = Landed A B c t j from (rest_k A B c (.inr (true, (t, j)))).trans (bigSep_singleton (i := (0 : Fin 6)))]
  iintro ⟨HO, Hat, -, Hpay⟩
  imod (close_k A B K c (.inr (true, (t, j)))) $$ [Hat] with Hz
  · isplitr; · iexact Hrec
    iexact Hat
  iapply Hk
  isplitl [Hz]; · iexact Hz
  isplitl [Hpay]; · iexact Hpay
  iexists _; iexact HO

/-! ## Barrier and exit -/

/-- A unit to partner `q`'s barrier or exit semaphore. -/
theorem wp_unit (b : Bool) (q : Fin 6) (n : Fin 48) (hki : iki n = .inl b) (hiq : iq n = q) (c : Dev nD) {d : Dev nD} (hd : d = pr (mask6 q) c)
    {sm : Sem sig} (hsm : SemLoc.reg sm = csem (.inl b)) {k' : ℕ} (hk' : k' = 1)
    {k : PUnit → Prog (TpuEff nD τ sig (Elt F) Λ₀ .tc) α} {Q : α → sProp 𝕄} :
    iprop(records A B K ∗ dutyTok ER (kc (pr (mask6 q) c) (.inl b)) 0 q ∗ kpay A B (pr (mask6 q) c) q (some (.inl b)) ∗ Ow c n.val)
      ⊢ iprop((Ow c (n.val + 1) -∗ wpc c (k ⟨⟩) Q)
        -∗ wpc c (.op (.semSignal (Dev.tc d : Thread nD τ) sm k') k) Q) := by
  subst hd hk'
  have hc : (((pr (mask6 q) c : Dev nD) : Thread nD τ), SemLoc.reg sm) = kc (pr (mask6 q) c) (.inl b) := by rw [hsm]
  unfold Ow
  iintro ⟨#Hrec, Ht, Hp, ⟨%W, HO⟩⟩ Hk
  iapply (Rounds.wp_signal 𝒱₀ ER (Rd A B) (c : Thread nD τ) none (dst := (pr (mask6 q) c : Thread nD τ)) (κ := K (pr (mask6 q) c, .inl b)) (r := 0)
      (d := q) (by rw [hc]; exact duty_r A B _ b q) (by rw [hc]; exact amount_k A B _ _ q) () (owedFrom (n.val + 1) c) (by
        refine (owed_peel n c).trans ?_
        unfold icell
        rw [hki, hiq, hc]; rfl))
    $$ [HO Ht Hp]
  · rw [hc]
    isplitr; · iapply (rec_inv A B K (pr (mask6 q) c) (.inl b)); iexact Hrec
    isplitl [HO]; · iexact HO
    isplitl [Ht]; · iexact Ht
    isplitl [Hp]; · rw [payload_k]; iexact Hp
    iapply (rec_reached A B K (pr (mask6 q) c) (.inl b)); iexact Hrec
  iintro HO
  iapply Hk
  iexists W; iexact HO

/-- The wait for all six partners' units. -/
theorem wp_units (b : Bool) (n : ℕ) (hn : ∀ i : Fin 48, n ≤ i.val → klev (some (.inl b)) < klev (some (iki i))) (c : Dev nD)
    {sm : Sem sig} (hsm : SemLoc.reg sm = csem (.inl b)) {k' : ℕ} (hk' : k' = 6)
    {k : PUnit → Prog (TpuEff nD τ sig (Elt F) Λ₀ .tc) α} {Q : α → sProp 𝕄} :
    iprop(records A B K ∗ atPos ER (kc c (.inl b)) 0 ∅ 0 ∗ cred (tallyAt (kc c (.inl b)) () 6) ∗ Ow c n)
      ⊢ iprop(((semVal (kc c (.inl b)) 0 ∗ (bigSep Finset.univ fun q => kpay A B c q (some (.inl b))) ∗ Ow c n) -∗ wpc c (k ⟨⟩) Q)
        -∗ wpc c (.op (.semWait sm k') k) Q) := by
  subst hk'
  have hc : (((c : Dev nD) : Thread nD τ), SemLoc.reg sm) = kc c (.inl b) := by rw [hsm]
  unfold Ow
  iintro ⟨#Hrec, Hat, Hcr, ⟨%W, HO⟩⟩ Hk
  ihave #Hlev := (@rec_lev F _ A B K) $$ Hrec
  iapply (Rounds.wp_wait_rest_token 𝒱₀ ER (Rd A B) (c : Thread nD τ) none (κ := K (c, .inl b))
    (wpE_semWait_eq 𝒱₀ (c : Thread nD τ) none Set.univ) (Set.mem_univ _) () (O := owedFrom n c) (W := W) (R := 0) (m := 0) (T := ∅)
    (by
      rw [hc, Nat.zero_add]
      exact ((expect_k A B c (.inl b)).trans (by show Finset.card (Finset.univ : Finset (Fin 6)) * 1 = 6; rfl)).symm)) $$ [Hat Hcr HO]
  · rw [hc]
    isplitr; · iapply (rec_inv A B K c (.inl b)); iexact Hrec
    isplitl [Hcr]; · iexact Hcr
    isplitl [HO]; · iexact HO
    isplitr
    · rw [hsm]
      unfold Levs; iapply (mayWait_at c (csem (.inl b)) n (klev (some (.inl b))) (by rw [dec_csem]) hn)
      iexact Hlev
    iexact Hat
  rw [hc]
  iintro ⟨HO, Hat, -, Hpay⟩
  ihave Hpay := (Entails.of_eq (rest_k A B c (.inl b))) $$ Hpay
  imod (close_k A B K c (.inl b)) $$ [Hat] with Hz
  · isplitr; · iexact Hrec
    iexact Hat
  iapply Hk
  isplitl [Hz]; · iexact Hz
  isplitl [Hpay]; · iexact Hpay
  iexists _; iexact HO

/-- The landing bands of `c`, gathered by the partner they go to. -/
theorem lands_out (c : Dev nD) :
    (bigSep Finset.univ fun k : Tx => (Land (F := F) c k : sProp 𝕄)) = bigSep Finset.univ fun q : Fin 6 => Hand (F := F) c q := by
  unfold Hand
  simp only [bigSep_filter]
  rw [bigSep_univ_comm]
  refine bigSep_congr fun k _ => ?_
  rw [← bigSep_filter, show (Finset.univ.filter fun q : Fin 6 => mq k.1 k.2 = q) = {mq k.1 k.2} from by ext q; simp [eq_comm], bigSep_singleton]

/-- What all partners handed over: a band to send into for every transfer. -/
theorem lands_in (c : Dev nD) :
    (bigSep Finset.univ fun q : Fin 6 => (kpay A B c q (some (.inl false)) : sProp 𝕄))
      = bigSep Finset.univ fun k : Tx => Land (F := F) (peer k.1 k.2 c) k := by
  show (bigSep Finset.univ fun q : Fin 6 => Hand (F := F) (pr (mask6 q) c) q) = _
  unfold Hand
  simp only [bigSep_filter]
  rw [bigSep_univ_comm]
  refine bigSep_congr fun k _ => ?_
  rw [← bigSep_filter, show (Finset.univ.filter fun q : Fin 6 => mq k.1 k.2 = q) = {mq k.1 k.2} from by ext q; simp [eq_comm], bigSep_singleton,
    peer_eq]

end Sch

end Cert.GemmProof
-- ==== Proof.Offsets.lean ====
/-
# The printed offsets

Where each access of the kernel starts, as the geometry names it.
-/
module

public import proofs.«01_k».proof.Proof.Geometry

@[expose] public section

namespace Cert.GemmProof

open Cert.KernelIdeal Cert.KernelIdeal.Gen
open Idealize.ShloMosaic

/-! ## The product: the operand's rows, the accumulator, the band narrowed, the band sent -/

theorem o1 : ∀ c, k0_off1 c = ![slo 0 0 c, 0] := by decide +kernel
theorem o2 : ∀ c, k0_off2 c = ![slo 0 0 c, 0] := by decide +kernel
theorem o3 : ∀ c, k0_off3 c = ![slo 0 0 c, 0] := by decide +kernel
theorem o4 : ∀ c, k0_off4 c = ![slo 0 0 c, 0] := by decide +kernel
theorem o5 : ∀ c, k0_off5 c 3#32 = ![slo 1 0 c, 0] ∧ k0_off5 c 1#32 = ![slo 2 0 c, 0] := by decide +kernel
theorem o6 : ∀ c, k0_off6 c = ![slo 1 0 c, 512] := by decide +kernel
theorem o7 : ∀ c, k0_off7 c 3#32 = ![slo 1 0 c, 0] ∧ k0_off7 c 1#32 = ![slo 2 0 c, 0] := by decide +kernel
theorem o8 : ∀ c, k0_off8 c 3#32 = ![slo 1 0 c, 0] ∧ k0_off8 c 1#32 = ![slo 2 0 c, 0] := by decide +kernel
theorem o9 : ∀ c, k0_off9 c = ![slo 2 0 c, 1024] := by decide +kernel
theorem o10 : ∀ c, k0_off10 c = ![lo 0 1 c, 0] := by decide +kernel
theorem o11 : ∀ c, k0_off11 c = ![lo 0 1 c, 0] := by decide +kernel
theorem o12 : ∀ c, k0_off12 c 3#32 = ![lo 1 1 c, 0] ∧ k0_off12 c 1#32 = ![lo 2 1 c, 0] := by decide +kernel
theorem o13 : ∀ c, k0_off13 c = ![lo 1 1 c, 512] := by decide +kernel
theorem o14 : ∀ c, k0_off14 c = ![lo 2 1 c, 1024] := by decide +kernel

/-! ## The second halving: sent, then kept -/

theorem o15 : ∀ c, k0_off15 c = ![slo 0 1 c, 0] := by decide +kernel
theorem o16 : ∀ c, k0_off16 c 1#32 = ![dlo 0 0 c + (slo 0 1 c - lo 0 1 c), 0] ∧ k0_off16 c 3#32 = ![dlo 2 0 c + (slo 2 1 c - lo 2 1 c), 0] := by decide +kernel
theorem o17 : ∀ c, k0_off17 c = ![slo 0 1 c, 0] := by decide +kernel
theorem o18 : ∀ c, k0_off18 c = ![slo 0 1 c, 0] := by decide +kernel
theorem o19 : ∀ c, k0_off19 c = ![slo 1 1 c, 512] := by decide +kernel
theorem o20 : ∀ c, k0_off20 c = ![dlo 1 0 c + (slo 1 1 c - lo 1 1 c), 0] := by decide +kernel
theorem o21 : ∀ c, k0_off21 c = ![slo 1 1 c, 0] := by decide +kernel
theorem o22 : ∀ c, k0_off22 c = ![slo 1 1 c, 0] := by decide +kernel
theorem o23 : ∀ c, k0_off23 c = ![slo 2 1 c, 1024] := by decide +kernel
theorem o24 : ∀ c, k0_off24 c = ![slo 2 1 c, 0] := by decide +kernel
theorem o25 : ∀ c, k0_off25 c = ![slo 2 1 c, 0] := by decide +kernel
theorem o26 : ∀ c, k0_off26 c = ![lo 0 2 c, 0] := by decide +kernel
theorem o27 : ∀ c, k0_off27 c 1#32 = ![dlo 0 0 c + (lo 0 2 c - lo 0 1 c), 0] ∧ k0_off27 c 3#32 = ![dlo 2 0 c + (lo 2 2 c - lo 2 1 c), 0] := by decide +kernel
theorem o28 : ∀ c, k0_off28 c = ![lo 1 2 c, 512] := by decide +kernel
theorem o29 : ∀ c, k0_off29 c = ![dlo 1 0 c + (lo 1 2 c - lo 1 1 c), 0] := by decide +kernel
theorem o30 : ∀ c, k0_off30 c = ![lo 2 2 c, 1024] := by decide +kernel

/-! ## The third halving -/

theorem o31 : ∀ c, k0_off31 c = ![slo 0 2 c, 0] := by decide +kernel
theorem o32 : ∀ c, k0_off32 c 3#32 = ![dlo 0 1 c + (slo 0 2 c - lo 0 2 c), 0] ∧ k0_off32 c 1#32 = ![dlo 1 1 c + (slo 1 2 c - lo 1 2 c), 0] := by
  decide +kernel
theorem o33 : ∀ c, k0_off33 c = ![slo 0 2 c, 0] := by decide +kernel
theorem o34 : ∀ c, k0_off34 c = ![slo 0 2 c, 0] := by decide +kernel
theorem o35 : ∀ c, k0_off35 c = ![slo 1 2 c, 512] := by decide +kernel
theorem o36 : ∀ c, k0_off36 c = ![slo 1 2 c, 0] := by decide +kernel
theorem o37 : ∀ c, k0_off37 c = ![slo 1 2 c, 0] := by decide +kernel
theorem o38 : ∀ c, k0_off38 c = ![slo 2 2 c, 1024] := by decide +kernel
theorem o39 : ∀ c, k0_off39 c = ![dlo 2 1 c + (slo 2 2 c - lo 2 2 c), 0] := by decide +kernel
theorem o40 : ∀ c, k0_off40 c = ![slo 2 2 c, 0] := by decide +kernel
theorem o41 : ∀ c, k0_off41 c = ![slo 2 2 c, 0] := by decide +kernel
theorem o42 : ∀ c, k0_off42 c = ![lo 0 3 c, 0] := by decide +kernel
theorem o43 : ∀ c, k0_off43 c 3#32 = ![dlo 0 1 c + (lo 0 3 c - lo 0 2 c), 0] ∧ k0_off43 c 1#32 = ![dlo 1 1 c + (lo 1 3 c - lo 1 2 c), 0] := by
  decide +kernel
theorem o44 : ∀ c, k0_off44 c = ![lo 1 3 c, 512] := by decide +kernel
theorem o45 : ∀ c, k0_off45 c = ![lo 2 3 c, 1024] := by decide +kernel
theorem o46 : ∀ c, k0_off46 c = ![dlo 2 1 c + (lo 2 3 c - lo 2 2 c), 0] := by decide +kernel

/-! ## Within the quad -/

theorem o47 : ∀ c, k0_off47 c = ![slo 0 3 c, 0] := by decide +kernel
theorem o48 : ∀ (t : Fin 3) (c : Dev nD), k0_off48 c = ![dlo t 2 c + (slo t 3 c - lo t 3 c), 0] := by decide +kernel
theorem o49 : ∀ c, k0_off49 c = ![slo 0 3 c, 0] := by decide +kernel
theorem o50 : ∀ c, k0_off50 c = ![slo 0 3 c, 0] := by decide +kernel
theorem o51 : ∀ c, k0_off51 c = ![slo 0 4 c, 0] := by decide +kernel
theorem o52 : ∀ (t : Fin 3) (c : Dev nD), k0_off52 c = ![dlo t 2 c + (slo t 4 c - lo t 3 c), 0] := by decide +kernel
theorem o53 : ∀ c, k0_off53 c = ![slo 0 4 c, 0] := by decide +kernel
theorem o54 : ∀ c, k0_off54 c = ![slo 0 4 c, 0] := by decide +kernel
theorem o55 : ∀ c, k0_off55 c = ![slo 0 5 c, 0] := by decide +kernel
theorem o56 : ∀ (t : Fin 3) (c : Dev nD), k0_off56 c = ![dlo t 2 c + (slo t 5 c - lo t 3 c), 0] := by decide +kernel
theorem o57 : ∀ c, k0_off57 c = ![slo 0 5 c, 0] := by decide +kernel
theorem o58 : ∀ c, k0_off58 c = ![slo 0 5 c, 0] := by decide +kernel
theorem o59 : ∀ c, k0_off59 c = ![slo 1 3 c, 512] := by decide +kernel
theorem o60 : ∀ c, k0_off60 c = ![slo 1 3 c, 0] := by decide +kernel
theorem o61 : ∀ c, k0_off61 c = ![slo 1 3 c, 0] := by decide +kernel
theorem o62 : ∀ c, k0_off62 c = ![slo 1 4 c, 512] := by decide +kernel
theorem o63 : ∀ c, k0_off63 c = ![slo 1 4 c, 0] := by decide +kernel
theorem o64 : ∀ c, k0_off64 c = ![slo 1 4 c, 0] := by decide +kernel
theorem o65 : ∀ c, k0_off65 c = ![slo 1 5 c, 512] := by decide +kernel
theorem o66 : ∀ c, k0_off66 c = ![slo 1 5 c, 0] := by decide +kernel
theorem o67 : ∀ c, k0_off67 c = ![slo 1 5 c, 0] := by decide +kernel
theorem o68 : ∀ c, k0_off68 c = ![slo 2 3 c, 1024] := by decide +kernel
theorem o69 : ∀ c, k0_off69 c = ![slo 2 3 c, 0] := by decide +kernel
theorem o70 : ∀ c, k0_off70 c = ![slo 2 3 c, 0] := by decide +kernel
theorem o71 : ∀ c, k0_off71 c = ![slo 2 4 c, 1024] := by decide +kernel
theorem o72 : ∀ c, k0_off72 c = ![slo 2 4 c, 0] := by decide +kernel
theorem o73 : ∀ c, k0_off73 c = ![slo 2 4 c, 0] := by decide +kernel
theorem o74 : ∀ c, k0_off74 c = ![slo 2 5 c, 1024] := by decide +kernel
theorem o75 : ∀ c, k0_off75 c = ![slo 2 5 c, 0] := by decide +kernel
theorem o76 : ∀ c, k0_off76 c = ![slo 2 5 c, 0] := by decide +kernel
theorem o77 : ∀ c, k0_off77 c = ![own 0 c, 0] := by decide +kernel
theorem o78 : ∀ (t : Fin 3) (c : Dev nD), k0_off78 c = ![dlo t 2 c + (own t c - lo t 3 c), 0] := by decide +kernel
theorem o79 : ∀ c, k0_off79 c = ![own 1 c, 512] := by decide +kernel
theorem o80 : ∀ c, k0_off80 c = ![own 2 c, 1024] := by decide +kernel

/-! ## The finished rows, passed back up -/

theorem o81 : ∀ c, k0_off81 c = ![own 0 c, 0] := by decide +kernel
theorem o82 : ∀ c, k0_off82 c = ![own 1 c, 0] := by decide +kernel
theorem o83 : ∀ c, k0_off83 c = ![own 2 c, 0] := by decide +kernel
theorem o84 : ∀ c, k0_off84 c = ![own 0 c, 0] := by decide +kernel
theorem o85 : ∀ c, k0_off85 c = ![own 1 c, 0] := by decide +kernel
theorem o86 : ∀ c, k0_off86 c = ![own 2 c, 0] := by decide +kernel
theorem o87 : ∀ c, k0_off87 c = ![lo 0 3 c, 0] := by decide +kernel
theorem o88 : ∀ c, k0_off88 c = ![lo 0 3 c, 0] := by decide +kernel
theorem o89 : ∀ c, k0_off89 c = ![lo 1 3 c, 0] := by decide +kernel
theorem o90 : ∀ c, k0_off90 c = ![lo 1 3 c, 0] := by decide +kernel
theorem o91 : ∀ c, k0_off91 c = ![lo 2 3 c, 0] := by decide +kernel
theorem o92 : ∀ c, k0_off92 c = ![lo 2 3 c, 0] := by decide +kernel
theorem o93 : ∀ c, k0_off93 c = ![lo 0 2 c, 0] := by decide +kernel
theorem o94 : ∀ c, k0_off94 c = ![dlo 0 9 c, 0] := by decide +kernel
theorem o95 : ∀ c, k0_off95 c = ![dlo 0 9 c, 0] := by decide +kernel
theorem o96 : ∀ c, k0_off96 c = ![lo 1 2 c, 0] := by decide +kernel
theorem o97 : ∀ c, k0_off97 c = ![dlo 1 9 c, 0] := by decide +kernel
theorem o98 : ∀ c, k0_off98 c = ![dlo 1 9 c, 512] := by decide +kernel
theorem o99 : ∀ c, k0_off99 c = ![lo 2 2 c, 0] := by decide +kernel
theorem o100 : ∀ c, k0_off100 c = ![dlo 2 9 c, 0] := by decide +kernel
theorem o101 : ∀ c, k0_off101 c = ![dlo 2 9 c, 1024] := by decide +kernel
theorem o102 : ∀ c, k0_off102 c = ![lo 0 1 c, 0] := by decide +kernel
theorem o103 : ∀ c, k0_off103 c = ![dlo 0 10 c, 0] := by decide +kernel
theorem o104 : ∀ c, k0_off104 c = ![dlo 0 10 c, 0] := by decide +kernel
theorem o105 : ∀ c, k0_off105 c = ![lo 1 1 c, 0] := by decide +kernel
theorem o106 : ∀ c, k0_off106 c = ![dlo 1 10 c, 0] := by decide +kernel
theorem o107 : ∀ c, k0_off107 c = ![dlo 1 10 c, 512] := by decide +kernel
theorem o108 : ∀ c, k0_off108 c = ![lo 2 1 c, 0] := by decide +kernel
theorem o109 : ∀ c, k0_off109 c = ![dlo 2 10 c, 0] := by decide +kernel
theorem o110 : ∀ c, k0_off110 c = ![dlo 2 10 c, 1024] := by decide +kernel
theorem o111 : ∀ c, k0_off111 c = ![dlo 0 11 c, 0] := by decide +kernel
theorem o112 : ∀ c, k0_off112 c = ![dlo 0 11 c, 0] := by decide +kernel
theorem o113 : ∀ c, k0_off113 c = ![dlo 1 11 c, 0] := by decide +kernel
theorem o114 : ∀ c, k0_off114 c = ![dlo 1 11 c, 512] := by decide +kernel
theorem o115 : ∀ c, k0_off115 c = ![dlo 2 11 c, 0] := by decide +kernel
theorem o116 : ∀ c, k0_off116 c = ![dlo 2 11 c, 1024] := by decide +kernel

/-- What is passed back up lands, at the partner, in the rows it came from. -/
theorem o_back {t : Fin 3} {j : Fin 12} {c : Dev nD} {o : Fin 2 → ℕ} (hj : 6 ≤ j.val) (h : o = ![slo t j c, 0]) :
    o = ![dlo t j (peer t j c), 0] := by rw [h, dlo_back _ _ _ hj, peer_peer]

/-! ## The printed partners -/

theorem v7 : ∀ c, k0_dev7 c = (peer 0 0 c).val ∧ k0_dev8 c = (peer 1 0 c).val ∧ k0_dev9 c = (peer 2 0 c).val
    ∧ k0_dev10 c = (peer 0 1 c).val ∧ k0_dev11 c = (peer 1 1 c).val ∧ k0_dev12 c = (peer 2 1 c).val
    ∧ k0_dev13 c = (peer 0 2 c).val ∧ k0_dev14 c = (peer 1 2 c).val ∧ k0_dev15 c = (peer 2 2 c).val := by decide +kernel
theorem v16 : ∀ c, k0_dev16 c = (peer 0 3 c).val ∧ k0_dev17 c = (peer 0 4 c).val ∧ k0_dev18 c = (peer 0 5 c).val
    ∧ k0_dev19 c = (peer 1 3 c).val ∧ k0_dev20 c = (peer 1 4 c).val ∧ k0_dev21 c = (peer 1 5 c).val
    ∧ k0_dev22 c = (peer 2 3 c).val ∧ k0_dev23 c = (peer 2 4 c).val ∧ k0_dev24 c = (peer 2 5 c).val := by decide +kernel
theorem v25 : ∀ c, k0_dev25 c = (peer 0 6 c).val ∧ k0_dev26 c = (peer 0 7 c).val ∧ k0_dev27 c = (peer 0 8 c).val
    ∧ k0_dev28 c = (peer 1 6 c).val ∧ k0_dev29 c = (peer 1 7 c).val ∧ k0_dev30 c = (peer 1 8 c).val
    ∧ k0_dev31 c = (peer 2 6 c).val ∧ k0_dev32 c = (peer 2 7 c).val ∧ k0_dev33 c = (peer 2 8 c).val := by decide +kernel
theorem v34 : ∀ c, k0_dev34 c = (peer 0 9 c).val ∧ k0_dev35 c = (peer 1 9 c).val ∧ k0_dev36 c = (peer 2 9 c).val
    ∧ k0_dev37 c = (peer 0 10 c).val ∧ k0_dev38 c = (peer 1 10 c).val ∧ k0_dev39 c = (peer 2 10 c).val
    ∧ k0_dev40 c = (peer 0 11 c).val ∧ k0_dev41 c = (peer 1 11 c).val ∧ k0_dev42 c = (peer 2 11 c).val := by decide +kernel
theorem v43 : ∀ c, k0_dev43 c = (pr 1 c).val ∧ k0_dev44 c = (pr 3 c).val ∧ k0_dev45 c = (pr 4 c).val
    ∧ k0_dev46 c = (pr 8 c).val ∧ k0_dev47 c = (pr 16 c).val ∧ k0_dev48 c = (pr 20 c).val := by decide +kernel

end Cert.GemmProof
-- ==== Proof.Moves.lean ====
/-
# The kernel's moves

The kernel goes through a handful of moves over and over: multiply a half, narrow a band, send it, wait for it, add what
landed, finish the own rows, write a finished band to the result. Each is one rule here, for every stream and stage.
A transfer goes from `Fresh` (its band unfilled) through `Full`, `Sent`, `Half` (its send waited for) to `Came`.
-/
module

public import proofs.«01_k».proof.Proof.Sched
public import proofs.«01_k».proof.Proof.Offsets

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]
variable {α : Type}

local notation "𝕄" => MT nD τ sig Unit (Elt F) ℕ UU ℕ

variable (A : Dev nD → S1536x768.Idx → F .bf16) (B : Dev nD → S768x1536.Idx → F .bf16) (K : Dev nD × KI → ℕ)

/-! ## A transfer's states -/

def Fresh (c : Dev nD) (t : Fin 3) (j : Fin 12) : sProp 𝕄 := iprop(Kit c t j ∗ Any (srcM t j) c (R (slo t j c) (hgt j)))
def Full (c : Dev nD) (t : Fin 3) (j : Fin 12) : sProp 𝕄 :=
  iprop(Kit c t j ∗ Own (srcM t j) c (R (slo t j c) (hgt j)) (qs j) (V A B t j c))
def Sent (c : Dev nD) (t : Fin 3) (j : Fin 12) : sProp 𝕄 := iprop(WS c t j ∗ WR c t j)
def Half (c : Dev nD) (t : Fin 3) (j : Fin 12) : sProp 𝕄 := iprop((ZS c t j ∗ Lent A B c t j) ∗ WR c t j)
def Came (c : Dev nD) (t : Fin 3) (j : Fin 12) : sProp 𝕄 := iprop((ZS c t j ∗ Lent A B c t j) ∗ ZR c t j ∗ Landed A B c t j)
/-- The transfer's two semaphores, back at zero. -/
def Done (c : Dev nD) (t : Fin 3) (j : Fin 12) : sProp 𝕄 := iprop(ZS c t j ∗ ZR c t j)

/-- The operands. -/
def Ops (c : Dev nD) : sProp 𝕄 := iprop(Own aM c Finset.univ fullShare (A c) ∗ Own bM c Finset.univ fullShare (B c))
/-- Finished rows held. -/
def Ag (c : Dev nD) (t : Fin 3) (l n : ℕ) (q : PosShare TreeShare) : sProp 𝕄 := Own (agM t) c (R l n) q (Gt A B t)
/-- A finished row, widened. -/
def Ge (t : Fin 3) (i : S1536x512.Idx) : F .f32 := ex (Gt A B t i)

/-! ## Multiply a half -/

section
variable {A B}
/-- The rest of the move, once the operand's rows are read. -/
theorem s_mm' (t : Fin 3) (c : Dev nD) (r : ℕ) (hr : r = 0 ∨ r = 768) {L : List (Wd F)}
    {va : S768x768.Idx → Elt F .bf16} (hva : va = fun x => A c (ax (r + row (n := 768) (w := 768) x) (col (n := 768) (w := 768) x)))
    {ob : Fin 2 → ℕ} (hob : ob = ![0, 512 * t.val]) {oz : Fin 2 → ℕ} (hoz : oz = ![r, 512 * t.val])
    {inb : ∀ a, ob a + S768x512.size a ≤ S768x1536.size a} {hv : bM.view.LoadsAt (Rect.unit (s := S768x1536) ob S768x512.size inb).toLoadRect}
    {inz : ∀ a, oz a + (![768, 512] : Fin 2 → ℕ) a ≤ S1536x1536.size a}
    {hvz : zM.view.LoadsAt (Rect.unit (s := S1536x1536) oz ![768, 512] inz).toLoadRect}
    {P : (S768x768.Idx → Elt F .bf16) → (S768x512.Idx → Elt F .bf16) → (⟨2, ![768, 512]⟩ : Shape).Idx → Elt F .f32} (hP : P = k0_pay1)
    {hx : (zM.access (Rect.unit (s := S1536x1536) oz ![768, 512] inz)).Stores Finset.univ}
    {hm : (Finset.univ : Finset (Rect.unit (s := S1536x1536) oz ![768, 512] inz).shape.Idx) = Finset.univ
      ∨ ∀ a, (Rect.unit (s := S1536x1536) oz ![768, 512] inz).stride a = 1}
    {k : PUnit → Prog (TpuEff nD τ sig (Elt F) Λ₀ .tc) α} {Q : α → sProp 𝕄} :
    iprop(Ops A B c ∗ ZW zM t c L)
      ⊢ iprop(((Ops A B c ∗ ZW zM t c [(r, 768, Acc A B t 0 c)]) -∗ wpc c (k ⟨⟩) Q)
        -∗ wpc c (.op (.load bM (Rect.unit (s := S768x1536) ob S768x512.size inb).toLoadRect hv) fun vb =>
          .op (.load zM (Rect.unit (s := S1536x1536) oz ![768, 512] inz).toLoadRect hvz) fun _ =>
          .op (.store zM (Rect.unit (s := S1536x1536) oz ![768, 512] inz) (P va vb) Finset.univ hx hm) k) Q) := by
  subst hP hva
  unfold Ops
  iintro ⟨⟨HA, HB⟩, HZ⟩ Hk
  iapply (b_load t hob) $$ HB
  iintro HB
  iapply (zstore (Acc A B t 0 c) r (K := []) hoz (fun w hw => absurd hw List.not_mem_nil) (fun x => mm_half A B t c r hr x)) $$ HZ
  iintro HZ
  iapply Hk
  isplitr [HZ]
  · isplitl [HA] <;> iassumption
  · iexact HZ

theorem s_mm (t : Fin 3) (c : Dev nD) (r : ℕ) (hr : r = 0 ∨ r = 768) {L : List (Wd F)}
    {oa : Fin 2 → ℕ} (hoa : oa = ![r, 0]) {ina : ∀ a, oa a + S768x768.size a ≤ S1536x768.size a}
    {hva : aM.view.LoadsAt (Rect.unit (s := S1536x768) oa S768x768.size ina).toLoadRect}
    {ob : Fin 2 → ℕ} (hob : ob = ![0, 512 * t.val]) {oz : Fin 2 → ℕ} (hoz : oz = ![r, 512 * t.val])
    {inb : ∀ a, ob a + S768x512.size a ≤ S768x1536.size a} {hv : bM.view.LoadsAt (Rect.unit (s := S768x1536) ob S768x512.size inb).toLoadRect}
    {inz : ∀ a, oz a + (![768, 512] : Fin 2 → ℕ) a ≤ S1536x1536.size a}
    {hvz : zM.view.LoadsAt (Rect.unit (s := S1536x1536) oz ![768, 512] inz).toLoadRect}
    {P : (S768x768.Idx → Elt F .bf16) → (S768x512.Idx → Elt F .bf16) → (⟨2, ![768, 512]⟩ : Shape).Idx → Elt F .f32} (hP : P = k0_pay1)
    {hx : (zM.access (Rect.unit (s := S1536x1536) oz ![768, 512] inz)).Stores Finset.univ}
    {hm : (Finset.univ : Finset (Rect.unit (s := S1536x1536) oz ![768, 512] inz).shape.Idx) = Finset.univ
      ∨ ∀ a, (Rect.unit (s := S1536x1536) oz ![768, 512] inz).stride a = 1}
    {k : PUnit → Prog (TpuEff nD τ sig (Elt F) Λ₀ .tc) α} {Q : α → sProp 𝕄} :
    iprop(Ops A B c ∗ ZW zM t c L)
      ⊢ iprop(((Ops A B c ∗ ZW zM t c [(r, 768, Acc A B t 0 c)]) -∗ wpc c (k ⟨⟩) Q)
        -∗ wpc c (.op (.load aM (Rect.unit (s := S1536x768) oa S768x768.size ina).toLoadRect hva) fun va =>
          .op (.load bM (Rect.unit (s := S768x1536) ob S768x512.size inb).toLoadRect hv) fun vb =>
          .op (.load zM (Rect.unit (s := S1536x1536) oz ![768, 512] inz).toLoadRect hvz) fun _ =>
          .op (.store zM (Rect.unit (s := S1536x1536) oz ![768, 512] inz) (P va vb) Finset.univ hx hm) k) Q) := by
  iintro ⟨HO, HZ⟩ Hk
  unfold Ops
  icases HO with ⟨HA, HB⟩
  iapply (aload r hoa) $$ HA
  iintro HA
  iapply (s_mm' (A := A) (B := B) t c r hr (L := L) rfl hob hoz hP) $$ [HA HB HZ]
  · unfold Ops
    isplitr [HZ]
    · isplitl [HA] <;> iassumption
    · iexact HZ
  · unfold Ops
    iexact Hk
end

/-! ## Narrow a band -/

section
variable {A B}
theorem s_cast (t : Fin 3) (j : Fin 12) (c : Dev nD) (hj : j.val < 6) (G : S1536x512.Idx → F .f32) (hG : ∀ i, tr (G i) = V A B t j c i)
    {L : List (Wd F)} {h : ℕ} (hh : h = hgt j)
    {oz : Fin 2 → ℕ} (hoz : oz = ![slo t j c, 512 * t.val]) {inz : ∀ a, oz a + (![h, 512] : Fin 2 → ℕ) a ≤ S1536x1536.size a}
    {hvz : zM.view.LoadsAt (Rect.unit (s := S1536x1536) oz ![h, 512] inz).toLoadRect}
    {m : Memref sig .tc .vmem S1536x512 .bf16} (hm : m = srcM t j)
    {o : Fin 2 → ℕ} (ho : o = ![slo t j c, 0]) {inb : ∀ a, o a + (![h, 512] : Fin 2 → ℕ) a ≤ S1536x512.size a}
    {hv : m.view.LoadsAt (Rect.unit (s := S1536x512) o ![h, 512] inb).toLoadRect}
    {P : ((⟨2, ![h, 512]⟩ : Shape).Idx → Elt F .f32) → (⟨2, ![h, 512]⟩ : Shape).Idx → Elt F .bf16} (hP : ∀ v x, P v x = tr (v x))
    {hx : (m.access (Rect.unit (s := S1536x512) o ![h, 512] inb)).Stores Finset.univ}
    {hs : (Finset.univ : Finset (Rect.unit (s := S1536x512) o ![h, 512] inb).shape.Idx) = Finset.univ
      ∨ ∀ a, (Rect.unit (s := S1536x512) o ![h, 512] inb).stride a = 1}
    {k : PUnit → Prog (TpuEff nD τ sig (Elt F) Λ₀ .tc) α} {Q : α → sProp 𝕄} :
    iprop(ZW zM t c ((slo t j c, hgt j, G) :: L) ∗ Fresh c t j)
      ⊢ iprop(((ZW zM t c L ∗ Full A B c t j) -∗ wpc c (k ⟨⟩) Q)
        -∗ wpc c (.op (.load zM (Rect.unit (s := S1536x1536) oz ![h, 512] inz).toLoadRect hvz) fun v =>
          .op (.load m (Rect.unit (s := S1536x512) o ![h, 512] inb).toLoadRect hv) fun _ =>
          .op (.store m (Rect.unit (s := S1536x512) o ![h, 512] inb) (P v) Finset.univ hx hs) k) Q) := by
  subst hh hm
  unfold Fresh Full
  iintro ⟨HZ, Hkit, Hb⟩ Hk
  iapply (zload (slo t j c) (hgt j) G (slo t j c) (.head _) hoz le_rfl le_rfl) $$ HZ
  iintro HZ
  iapply (bstore (V A B t j c) (slo t j c) ho (fun x => (hP _ x).trans (hG _))) $$ Hb
  iintro Hb
  iapply Hk
  ihave HZ := (zw_mono (L' := L) (fun w hw => ⟨w, .tail _ hw, rfl, le_rfl, le_rfl⟩)) $$ HZ
  isplitl [HZ]; · iexact HZ
  isplitl [Hkit]; · iexact Hkit
  rw [show qs j = fullShare from if_pos hj]
  iexact Hb
end

/-! ## Send, and wait -/

section
variable {A B K}
theorem s_send (t : Fin 3) (j : Fin 12) (n : ℕ) (hn : n = 6 + ordj j t) (c : Dev nD)
    {sM dM : Memref sig .tc .vmem S1536x512 .bf16} (hsM : sM = srcM t j) (hdM : dM = dstM t j) {h : ℕ} (hh : h = hgt j)
    {so : Fin 2 → ℕ} (hso : so = ![slo t j c, 0]) {dO : Fin 2 → ℕ} (hdo : dO = ![dlo t j (peer t j c), 0])
    {d : Dev nD} (hd : d.val = (peer t j c).val) {ss rs : DmaSem sig} (hss : ss = sendS t j) (hrs : rs = recvS t j)
    {inb : ∀ a, so a + (![h, 512] : Fin 2 → ℕ) a ≤ S1536x512.size a} {inb' : ∀ a, dO a + (![h, 512] : Fin 2 → ℕ) a ≤ S1536x512.size a}
    {hs : ∀ a, (Rect.unit (s := S1536x512) so ![h, 512] inb).stride a = 1}
    {hs' : ∀ a, (Rect.unit (s := S1536x512) dO ![h, 512] inb').stride a = 1}
    {hsc : (dM.slice (Rect.unit (s := S1536x512) dO ![h, 512] inb') hs' : Memref sig (Dev.tc d : Thread nD τ).2.kind .vmem _ .bf16).view.ref.isScScratch = false}
    {hsrc : (sM.slice (Rect.unit (s := S1536x512) so ![h, 512] inb) hs).view.WordExact}
    {hdst : (dM.slice (Rect.unit (s := S1536x512) dO ![h, 512] inb') hs').view.WordExact}
    {hsem : DmaTarget.Typed .vmem (.dma rs) (.remote (Dev.tc d : Thread nD τ) (dM.slice (Rect.unit (s := S1536x512) dO ![h, 512] inb') hs') (.dma ss) hsc)}
    {k : PUnit → Prog (TpuEff nD τ sig (Elt F) Λ₀ .tc) α} {Q : α → sProp 𝕄} :
    iprop(records A B K ∗ Full A B c t j ∗ Ow c n)
      ⊢ iprop(((Sent c t j ∗ Ow c (n + 1)) -∗ wpc c (k ⟨⟩) Q)
        -∗ wpc c (.op (.enqueueDma (sM.slice (Rect.unit (s := S1536x512) so ![h, 512] inb) hs)
          (.remote (Dev.tc d : Thread nD τ) (dM.slice (Rect.unit (s := S1536x512) dO ![h, 512] inb') hs') (.dma ss) hsc) (.dma rs) hsrc hdst hsem) k) Q) := by
  unfold Full Sent
  iintro ⟨#Hrec, ⟨Hkit, Hb⟩, HO⟩
  iapply (wp_send_band A B K t j n hn c (fun _ _ => rfl) hsM hdM hh hso hdo (Fin.ext hd) hss hrs)
  isplitr; · iexact Hrec
  isplitl [Hb]
  · subst hsM; iexact Hb
  isplitl [Hkit] <;> iassumption

theorem s_wait1 (t : Fin 3) (j : Fin 12) (n : ℕ) (c : Dev nD)
    {sp' : Space} {s' : Shape} {e' : EltTy} {src : Memref sig .tc sp' s' e'}
    {s : Shape} {e : EltTy} {dst : Memref sig .tc .vmem s e} (ha : dst.view.dmaCredit = amt j)
    {ss : DmaSem sig} (hss : ss = sendS t j) {hsrc : src.view.WordExact} {hdst : dst.view.WordExact}
    {k : PUnit → Prog (TpuEff nD τ sig (Elt F) Λ₀ .tc) α} {Q : α → sProp 𝕄} :
    iprop(records A B K ∗ Sent c t j ∗ Ow c n)
      ⊢ iprop(((Half A B c t j ∗ Ow c n) -∗ wpc c (k ⟨⟩) Q)
        -∗ wpc c (.op (.waitDma2 ss src dst hsrc hdst) k) Q) := by
  unfold Sent Half
  iintro ⟨#Hrec, ⟨HS, HR⟩, HO⟩ Hk
  iapply (wp_wait_send A B K t j n c ha hss) $$ [HS HO]
  · isplitr; · iexact Hrec
    isplitl [HS] <;> iassumption
  iintro ⟨HZ, HL, HO⟩
  iapply Hk
  isplitr [HO]
  · isplitr [HR]
    · isplitl [HZ] <;> iassumption
    · iexact HR
  · iexact HO

theorem s_wait2 (t : Fin 3) (j : Fin 12) (n : ℕ) (hn : 6 + ordj j t < n) (c : Dev nD)
    {sp' : Space} {s' : Shape} {e' : EltTy} {src : Memref sig .tc sp' s' e'}
    {s : Shape} {e : EltTy} {dst : Memref sig .tc .vmem s e} (ha : dst.view.dmaCredit = amt j)
    {ss : DmaSem sig} (hss : ss = recvS t j) {hsrc : src.view.WordExact} {hdst : dst.view.WordExact}
    {k : PUnit → Prog (TpuEff nD τ sig (Elt F) Λ₀ .tc) α} {Q : α → sProp 𝕄} :
    iprop(records A B K ∗ Half A B c t j ∗ Ow c n)
      ⊢ iprop(((Came A B c t j ∗ Ow c n) -∗ wpc c (k ⟨⟩) Q)
        -∗ wpc c (.op (.waitDma2 ss src dst hsrc hdst) k) Q) := by
  unfold Half Came
  iintro ⟨#Hrec, ⟨HS, HR⟩, HO⟩ Hk
  iapply (wp_wait_recv A B K t j n hn c ha hss) $$ [HR HO]
  · isplitr; · iexact Hrec
    isplitl [HR] <;> iassumption
  iintro ⟨HZ, HL, HO⟩
  iapply Hk
  isplitr [HO]
  · isplitl [HS]
    · iexact HS
    · isplitl [HZ] <;> iassumption
  · iexact HO

/-- Both waits of a transfer. -/
theorem s_wait (t : Fin 3) (j : Fin 12) (n : ℕ) (hn : 6 + ordj j t < n) (c : Dev nD)
    {sp₁ sp₂ : Space} {s₁ s₂ : Shape} {e₁ e₂ : EltTy} {src₁ : Memref sig .tc sp₁ s₁ e₁} {src₂ : Memref sig .tc sp₂ s₂ e₂}
    {d₁ d₂ : Shape} {f₁ f₂ : EltTy} {dst₁ : Memref sig .tc .vmem d₁ f₁} {dst₂ : Memref sig .tc .vmem d₂ f₂}
    (ha₁ : dst₁.view.dmaCredit = amt j) (ha₂ : dst₂.view.dmaCredit = amt j)
    {ss rs : DmaSem sig} (hss : ss = sendS t j) (hrs : rs = recvS t j)
    {h₁ : src₁.view.WordExact} {h₁' : dst₁.view.WordExact} {h₂ : src₂.view.WordExact} {h₂' : dst₂.view.WordExact}
    {k : PUnit → Prog (TpuEff nD τ sig (Elt F) Λ₀ .tc) α} {Q : α → sProp 𝕄} :
    iprop(records A B K ∗ Sent c t j ∗ Ow c n)
      ⊢ iprop(((Came A B c t j ∗ Ow c n) -∗ wpc c (k ⟨⟩) Q)
        -∗ wpc c (.op (.waitDma2 ss src₁ dst₁ h₁ h₁') fun _ => .op (.waitDma2 rs src₂ dst₂ h₂ h₂') k) Q) := by
  iintro ⟨#Hrec, HS, HO⟩ Hk
  iapply (s_wait1 (A := A) (B := B) (K := K) t j n c ha₁ hss) $$ [HS HO]
  · isplitr; · iexact Hrec
    isplitl [HS] <;> iassumption
  iintro ⟨HS, HO⟩
  iapply (s_wait2 (A := A) (B := B) (K := K) t j n hn c ha₂ hrs) $$ [HS HO]
  · isplitr; · iexact Hrec
    isplitl [HS] <;> iassumption
  iexact Hk
end

/-! ## Add what landed -/

section
variable {A B}
/-- What landed, read. -/
theorem s_land (t : Fin 3) (j : Fin 12) (c : Dev nD) (r : ℕ) {h : ℕ} (hl : dlo t j c ≤ r) (hn : r + h ≤ dlo t j c + hgt j)
    {m : Memref sig .tc .vmem S1536x512 .bf16} (hm : m = dstM t j) {o : Fin 2 → ℕ} (ho : o = ![r, 0])
    {inb : ∀ a, o a + (![h, 512] : Fin 2 → ℕ) a ≤ S1536x512.size a}
    {hv : m.view.LoadsAt (Rect.unit (s := S1536x512) o ![h, 512] inb).toLoadRect}
    {k : ((⟨2, ![h, 512]⟩ : Shape).Idx → Elt F .bf16) → Prog (TpuEff nD τ sig (Elt F) Λ₀ .tc) α} {Q : α → sProp 𝕄} :
    (Came A B c t j : sProp 𝕄)
      ⊢ iprop((Came A B c t j
          -∗ wpc c (k fun x => landV A B t j c (ix (r + row (n := h) (w := 512) x) (col (n := h) (w := 512) x))) Q)
        -∗ wpc c (.op (.load m (Rect.unit (s := S1536x512) o ![h, 512] inb).toLoadRect hv) k) Q) := by
  subst hm
  unfold Came Landed
  iintro ⟨HS, HZ, HL⟩ Hk
  iapply (bload (dlo t j c) (hgt j) r ho hl hn) $$ HL
  iintro HL
  iapply Hk
  isplitl [HS]; · iexact HS
  isplitl [HZ] <;> iassumption

/-- The rest of the move, once the accumulator's rows are read. -/
theorem s_add' (t s : Fin 3) (c : Dev nD) (r h : ℕ) {L : List (Wd F)}
    (hz : lo t (s.val + 1) c ≤ r) (hb : r + h ≤ lo t (s.val + 1) c + hgt ⟨s.val, by omega⟩)
    (hL : ∀ w ∈ L, w.1 + w.2.1 ≤ r ∨ r + h ≤ w.1)
    {va : (⟨2, ![h, 512]⟩ : Shape).Idx → Elt F .f32}
    (hva : ∀ x, va x = Acc A B t s.val c (ix (r + row (n := h) (w := 512) x) (col (n := h) (w := 512) x)))
    {m : Memref sig .tc .vmem S1536x512 .bf16} (hm : m = rsM t)
    {o : Fin 2 → ℕ} (ho : o = ![dlo t ⟨s.val, by omega⟩ c + (r - lo t (s.val + 1) c), 0])
    {inb : ∀ a, o a + (![h, 512] : Fin 2 → ℕ) a ≤ S1536x512.size a}
    {hv : m.view.LoadsAt (Rect.unit (s := S1536x512) o ![h, 512] inb).toLoadRect}
    {oz : Fin 2 → ℕ} (hoz : oz = ![r, 512 * t.val]) {inz : ∀ a, oz a + (![h, 512] : Fin 2 → ℕ) a ≤ S1536x1536.size a}
    {hvz : zM.view.LoadsAt (Rect.unit (s := S1536x1536) oz ![h, 512] inz).toLoadRect}
    {P : ((⟨2, ![h, 512]⟩ : Shape).Idx → Elt F .f32) → ((⟨2, ![h, 512]⟩ : Shape).Idx → Elt F .bf16) → (⟨2, ![h, 512]⟩ : Shape).Idx → Elt F .f32}
    (hP : ∀ u v x, P u v x = ad (u x) (ex (v x)))
    {hx : (zM.access (Rect.unit (s := S1536x1536) oz ![h, 512] inz)).Stores Finset.univ}
    {hs : (Finset.univ : Finset (Rect.unit (s := S1536x1536) oz ![h, 512] inz).shape.Idx) = Finset.univ
      ∨ ∀ a, (Rect.unit (s := S1536x1536) oz ![h, 512] inz).stride a = 1}
    {k : PUnit → Prog (TpuEff nD τ sig (Elt F) Λ₀ .tc) α} {Q : α → sProp 𝕄} :
    iprop(ZW zM t c ((r, h, Acc A B t s.val c) :: L) ∗ Came A B c t ⟨s.val, by omega⟩)
      ⊢ iprop(((ZW zM t c ((r, h, Acc A B t (s.val + 1) c) :: L) ∗ Came A B c t ⟨s.val, by omega⟩) -∗ wpc c (k ⟨⟩) Q)
        -∗ wpc c (.op (.load m (Rect.unit (s := S1536x512) o ![h, 512] inb).toLoadRect hv) fun vb =>
          .op (.load zM (Rect.unit (s := S1536x1536) oz ![h, 512] inz).toLoadRect hvz) fun _ =>
          .op (.store zM (Rect.unit (s := S1536x1536) oz ![h, 512] inz) (P va vb) Finset.univ hx hs) k) Q) := by
  have h6 : s.val < 6 := by omega
  have h12 : s.val < 12 := by omega
  have hmd : m = dstM t ⟨s.val, by omega⟩ := hm.trans (if_pos h6).symm
  iintro ⟨HZ, HC⟩ Hk
  iapply (s_land (A := A) (B := B) t ⟨s.val, h12⟩ c (dlo t ⟨s.val, h12⟩ c + (r - lo t (s.val + 1) c)) (by omega) (by omega) hmd ho) $$ HC
  iintro HC
  iapply (zstore (Acc A B t (s.val + 1) c) r (K := L) hoz (fun w hw => ⟨.tail _ hw, hL w hw⟩) (fun x => by
    have hx0 := row_lt (n := h) (w := 512) x
    have hx1 := col_lt (n := h) (w := 512) x
    rw [hP, hva]
    exact add_landed A B t s c r (dlo t ⟨s.val, by omega⟩ c + (r - lo t (s.val + 1) c)) _ _ hz (by omega) (by omega) hx1)) $$ HZ
  iintro HZ
  iapply Hk
  isplitl [HZ] <;> iassumption

theorem s_add (t s : Fin 3) (c : Dev nD) (r h : ℕ) {L : List (Wd F)}
    (hz : lo t (s.val + 1) c ≤ r) (hb : r + h ≤ lo t (s.val + 1) c + hgt ⟨s.val, by omega⟩)
    (hL : ∀ w ∈ L, w.1 + w.2.1 ≤ r ∨ r + h ≤ w.1)
    {oz' : Fin 2 → ℕ} (hoz' : oz' = ![r, 512 * t.val]) {inz' : ∀ a, oz' a + (![h, 512] : Fin 2 → ℕ) a ≤ S1536x1536.size a}
    {hvz' : zM.view.LoadsAt (Rect.unit (s := S1536x1536) oz' ![h, 512] inz').toLoadRect}
    {m : Memref sig .tc .vmem S1536x512 .bf16} (hm : m = rsM t)
    {o : Fin 2 → ℕ} (ho : o = ![dlo t ⟨s.val, by omega⟩ c + (r - lo t (s.val + 1) c), 0])
    {inb : ∀ a, o a + (![h, 512] : Fin 2 → ℕ) a ≤ S1536x512.size a}
    {hv : m.view.LoadsAt (Rect.unit (s := S1536x512) o ![h, 512] inb).toLoadRect}
    {oz : Fin 2 → ℕ} (hoz : oz = ![r, 512 * t.val]) {inz : ∀ a, oz a + (![h, 512] : Fin 2 → ℕ) a ≤ S1536x1536.size a}
    {hvz : zM.view.LoadsAt (Rect.unit (s := S1536x1536) oz ![h, 512] inz).toLoadRect}
    {P : ((⟨2, ![h, 512]⟩ : Shape).Idx → Elt F .f32) → ((⟨2, ![h, 512]⟩ : Shape).Idx → Elt F .bf16) → (⟨2, ![h, 512]⟩ : Shape).Idx → Elt F .f32}
    (hP : ∀ u v x, P u v x = ad (u x) (ex (v x)))
    {hx : (zM.access (Rect.unit (s := S1536x1536) oz ![h, 512] inz)).Stores Finset.univ}
    {hs : (Finset.univ : Finset (Rect.unit (s := S1536x1536) oz ![h, 512] inz).shape.Idx) = Finset.univ
      ∨ ∀ a, (Rect.unit (s := S1536x1536) oz ![h, 512] inz).stride a = 1}
    {k : PUnit → Prog (TpuEff nD τ sig (Elt F) Λ₀ .tc) α} {Q : α → sProp 𝕄} :
    iprop(ZW zM t c ((r, h, Acc A B t s.val c) :: L) ∗ Came A B c t ⟨s.val, by omega⟩)
      ⊢ iprop(((ZW zM t c ((r, h, Acc A B t (s.val + 1) c) :: L) ∗ Came A B c t ⟨s.val, by omega⟩) -∗ wpc c (k ⟨⟩) Q)
        -∗ wpc c (.op (.load zM (Rect.unit (s := S1536x1536) oz' ![h, 512] inz').toLoadRect hvz') fun va =>
          .op (.load m (Rect.unit (s := S1536x512) o ![h, 512] inb).toLoadRect hv) fun vb =>
          .op (.load zM (Rect.unit (s := S1536x1536) oz ![h, 512] inz).toLoadRect hvz) fun _ =>
          .op (.store zM (Rect.unit (s := S1536x1536) oz ![h, 512] inz) (P va vb) Finset.univ hx hs) k) Q) := by
  iintro ⟨HZ, HC⟩ Hk
  iapply (zload r h (Acc A B t s.val c) r (.head _) hoz' le_rfl le_rfl) $$ HZ
  iintro HZ
  iapply (s_add' (A := A) (B := B) t s c r h hz hb hL (fun _ => rfl) hm ho hoz hP) $$ [HZ HC]
  · isplitl [HZ] <;> iassumption
  iexact Hk

/-- A window cut into the half to send and the half to keep. -/
theorem z_halves (t : Fin 3) (c : Dev nD) (G : S1536x512.Idx → F .f32) :
    (ZW zM t c [(lo t 1 c, 768, G)] ⊢ (ZW zM t c [(slo t 1 c, 384, G), (lo t 2 c, 384, G)] : sProp 𝕄))
    ∧ (ZW zM t c [(lo t 2 c, 384, G)] ⊢ (ZW zM t c [(slo t 2 c, 192, G), (lo t 3 c, 192, G)] : sProp 𝕄)) := by
  have hh := halves t c
  constructor <;>
  · refine zw_mono fun w hw => ⟨_, .head _, ?_⟩
    rcases List.mem_cons.1 hw with rfl | hw
    · exact ⟨rfl, by dsimp only; omega, by dsimp only; omega⟩
    · rcases List.mem_cons.1 hw with rfl | hw
      · exact ⟨rfl, by dsimp only; omega, by dsimp only; omega⟩
      · exact absurd hw List.not_mem_nil

/-- The last window cut into the quad's four parts. -/
theorem z_quads (t : Fin 3) (c : Dev nD) (G : S1536x512.Idx → F .f32) :
    ZW zM t c [(lo t 3 c, 192, G)]
      ⊢ (ZW zM t c [(slo t 3 c, 48, G), (slo t 4 c, 48, G), (slo t 5 c, 48, G), (own t c, 48, G)] : sProp 𝕄) := by
  have hq := quads t c
  have hs := slo_quads t c
  refine zw_mono fun w hw => ⟨_, .head _, ?_⟩
  rcases List.mem_cons.1 hw with rfl | hw
  · exact ⟨rfl, by dsimp only; omega, by dsimp only; omega⟩
  rcases List.mem_cons.1 hw with rfl | hw
  · exact ⟨rfl, by dsimp only; omega, by dsimp only; omega⟩
  rcases List.mem_cons.1 hw with rfl | hw
  · exact ⟨rfl, by dsimp only; omega, by dsimp only; omega⟩
  rcases List.mem_cons.1 hw with rfl | hw
  · exact ⟨rfl, by dsimp only; omega, by dsimp only; omega⟩
  exact absurd hw List.not_mem_nil
end

/-! ## A finished band, to the result -/

section
variable {A B}
theorem s_out (t : Fin 3) (c : Dev nD) (l n r h : ℕ) (hl : l ≤ r) (hn : r + h ≤ l + n) {q : PosShare TreeShare} {L : List (Wd F)}
    (hL : ∀ w ∈ L, w.1 + w.2.1 ≤ r ∨ r + h ≤ w.1)
    {m : Memref sig .tc .vmem S1536x512 .bf16} (hm : m = agM t) {o : Fin 2 → ℕ} (ho : o = ![r, 0])
    {inb : ∀ a, o a + (![h, 512] : Fin 2 → ℕ) a ≤ S1536x512.size a}
    {hv : m.view.LoadsAt (Rect.unit (s := S1536x512) o ![h, 512] inb).toLoadRect}
    {oz : Fin 2 → ℕ} (hoz : oz = ![r, 512 * t.val]) {inz : ∀ a, oz a + (![h, 512] : Fin 2 → ℕ) a ≤ S1536x1536.size a}
    {hvz : oM.view.LoadsAt (Rect.unit (s := S1536x1536) oz ![h, 512] inz).toLoadRect}
    {P : ((⟨2, ![h, 512]⟩ : Shape).Idx → Elt F .bf16) → (⟨2, ![h, 512]⟩ : Shape).Idx → Elt F .f32} (hP : ∀ v x, P v x = ex (v x))
    {hx : (oM.access (Rect.unit (s := S1536x1536) oz ![h, 512] inz)).Stores Finset.univ}
    {hs : (Finset.univ : Finset (Rect.unit (s := S1536x1536) oz ![h, 512] inz).shape.Idx) = Finset.univ
      ∨ ∀ a, (Rect.unit (s := S1536x1536) oz ![h, 512] inz).stride a = 1}
    {k : PUnit → Prog (TpuEff nD τ sig (Elt F) Λ₀ .tc) α} {Q : α → sProp 𝕄} :
    iprop(Ag A B c t l n q ∗ ZW oM t c L)
      ⊢ iprop(((Ag A B c t l n q ∗ ZW oM t c ((r, h, Ge A B t) :: L)) -∗ wpc c (k ⟨⟩) Q)
        -∗ wpc c (.op (.load m (Rect.unit (s := S1536x512) o ![h, 512] inb).toLoadRect hv) fun vb =>
          .op (.load oM (Rect.unit (s := S1536x1536) oz ![h, 512] inz).toLoadRect hvz) fun _ =>
          .op (.store oM (Rect.unit (s := S1536x1536) oz ![h, 512] inz) (P vb) Finset.univ hx hs) k) Q) := by
  subst hm
  unfold Ag
  iintro ⟨HA, HZ⟩ Hk
  iapply (bload l n r ho hl hn) $$ HA
  iintro HA
  iapply (zstore (Ge A B t) r (K := L) hoz (fun w hw => ⟨hw, hL w hw⟩) (fun x => hP _ x)) $$ HZ
  iintro HZ
  iapply Hk
  isplitl [HA] <;> iassumption

/-- The own rows finished: the sum of the quad, gated, kept for the partners. -/
theorem s_own (t : Fin 3) (c : Dev nD) {L : List (Wd F)}
    {oz : Fin 2 → ℕ} (hoz : oz = ![own t c, 512 * t.val]) {inz : ∀ a, oz a + (![48, 512] : Fin 2 → ℕ) a ≤ S1536x1536.size a}
    {hvz : zM.view.LoadsAt (Rect.unit (s := S1536x1536) oz ![48, 512] inz).toLoadRect}
    {m : Memref sig .tc .vmem S1536x512 .bf16} (hm : m = rsM t)
    {i₃ : ∀ a, (![1344, 0] : Fin 2 → ℕ) a + (![48, 512] : Fin 2 → ℕ) a ≤ S1536x512.size a}
    {v₃ : m.view.LoadsAt (Rect.unit (s := S1536x512) ![1344, 0] ![48, 512] i₃).toLoadRect}
    {i₄ : ∀ a, (![1392, 0] : Fin 2 → ℕ) a + (![48, 512] : Fin 2 → ℕ) a ≤ S1536x512.size a}
    {v₄ : m.view.LoadsAt (Rect.unit (s := S1536x512) ![1392, 0] ![48, 512] i₄).toLoadRect}
    {i₅ : ∀ a, (![1440, 0] : Fin 2 → ℕ) a + (![48, 512] : Fin 2 → ℕ) a ≤ S1536x512.size a}
    {v₅ : m.view.LoadsAt (Rect.unit (s := S1536x512) ![1440, 0] ![48, 512] i₅).toLoadRect}
    {oo : Fin 2 → ℕ} (hoo : oo = ![own t c, 512 * t.val]) {ino : ∀ a, oo a + (![48, 512] : Fin 2 → ℕ) a ≤ S1536x1536.size a}
    {hvo : oM.view.LoadsAt (Rect.unit (s := S1536x1536) oo ![48, 512] ino).toLoadRect}
    {P : ((⟨2, ![48, 512]⟩ : Shape).Idx → Elt F .f32) → ((⟨2, ![48, 512]⟩ : Shape).Idx → Elt F .bf16)
      → ((⟨2, ![48, 512]⟩ : Shape).Idx → Elt F .bf16) → ((⟨2, ![48, 512]⟩ : Shape).Idx → Elt F .bf16) → (⟨2, ![48, 512]⟩ : Shape).Idx → Elt F .f32}
    {N : ((⟨2, ![48, 512]⟩ : Shape).Idx → Elt F .f32) → ((⟨2, ![48, 512]⟩ : Shape).Idx → Elt F .bf16)
      → ((⟨2, ![48, 512]⟩ : Shape).Idx → Elt F .bf16) → ((⟨2, ![48, 512]⟩ : Shape).Idx → Elt F .bf16) → (⟨2, ![48, 512]⟩ : Shape).Idx → Elt F .bf16}
    (hN : ∀ z a b d x, N z a b d x = tr (sl (ad (ad (ad (z x) (ex (a x))) (ex (b x))) (ex (d x)))))
    {hx : (oM.access (Rect.unit (s := S1536x1536) oo ![48, 512] ino)).Stores Finset.univ}
    {hs : (Finset.univ : Finset (Rect.unit (s := S1536x1536) oo ![48, 512] ino).shape.Idx) = Finset.univ
      ∨ ∀ a, (Rect.unit (s := S1536x1536) oo ![48, 512] ino).stride a = 1}
    {ma : Memref sig .tc .vmem S1536x512 .bf16} (hma : ma = agM t)
    {o : Fin 2 → ℕ} (ho : o = ![own t c, 0]) {inb : ∀ a, o a + (![48, 512] : Fin 2 → ℕ) a ≤ S1536x512.size a}
    {hv : ma.view.LoadsAt (Rect.unit (s := S1536x512) o ![48, 512] inb).toLoadRect}
    {hx' : (ma.access (Rect.unit (s := S1536x512) o ![48, 512] inb)).Stores Finset.univ}
    {hs' : (Finset.univ : Finset (Rect.unit (s := S1536x512) o ![48, 512] inb).shape.Idx) = Finset.univ
      ∨ ∀ a, (Rect.unit (s := S1536x512) o ![48, 512] inb).stride a = 1}
    {k : PUnit → Prog (TpuEff nD τ sig (Elt F) Λ₀ .tc) α} {Q : α → sProp 𝕄} :
    iprop(ZW zM t c [(own t c, 48, Acc A B t 3 c)] ∗ (Came A B c t 3 ∗ Came A B c t 4 ∗ Came A B c t 5) ∗ ZW oM t c L
        ∗ Any (agM t) c (R (own t c) 48))
      ⊢ iprop(((ZW zM t c [] ∗ (Came A B c t 3 ∗ Came A B c t 4 ∗ Came A B c t 5) ∗ ZW oM t c [] ∗ Ag A B c t (own t c) 48 fullShare)
          -∗ wpc c (k ⟨⟩) Q)
        -∗ wpc c (.op (.load zM (Rect.unit (s := S1536x1536) oz ![48, 512] inz).toLoadRect hvz) fun z =>
          .op (.load m (Rect.unit (s := S1536x512) ![1344, 0] ![48, 512] i₃).toLoadRect v₃) fun x₃ =>
          .op (.load m (Rect.unit (s := S1536x512) ![1392, 0] ![48, 512] i₄).toLoadRect v₄) fun x₄ =>
          .op (.load m (Rect.unit (s := S1536x512) ![1440, 0] ![48, 512] i₅).toLoadRect v₅) fun x₅ =>
          .op (.load oM (Rect.unit (s := S1536x1536) oo ![48, 512] ino).toLoadRect hvo) fun _ =>
          .op (.store oM (Rect.unit (s := S1536x1536) oo ![48, 512] ino) (P z x₃ x₄ x₅) Finset.univ hx hs) fun _ =>
          .op (.load ma (Rect.unit (s := S1536x512) o ![48, 512] inb).toLoadRect hv) fun _ =>
          .op (.store ma (Rect.unit (s := S1536x512) o ![48, 512] inb) (N z x₃ x₄ x₅) Finset.univ hx' hs') k) Q) := by
  subst hm hma
  iintro ⟨HZ, ⟨H3, H4, H5⟩, HO, HA⟩ Hk
  iapply (zload (own t c) 48 (Acc A B t 3 c) (own t c) (.head _) hoz le_rfl le_rfl) $$ HZ
  iintro HZ
  iapply (s_land (A := A) (B := B) t 3 c 1344 (Nat.le_refl 1344) (Nat.le_refl (1344 + 48)) rfl rfl) $$ H3
  iintro H3
  iapply (s_land (A := A) (B := B) t 4 c 1392 (Nat.le_refl 1392) (Nat.le_refl (1392 + 48)) rfl rfl) $$ H4
  iintro H4
  iapply (s_land (A := A) (B := B) t 5 c 1440 (Nat.le_refl 1440) (Nat.le_refl (1440 + 48)) rfl rfl) $$ H5
  iintro H5
  iapply (zstore (fun i => P (fun x => Acc A B t 3 c (ix (own t c + row (n := 48) (w := 512) x) (col (n := 48) (w := 512) x)))
      (fun x => landV A B t 3 c (ix (1344 + row (n := 48) (w := 512) x) (col (n := 48) (w := 512) x)))
      (fun x => landV A B t 4 c (ix (1392 + row (n := 48) (w := 512) x) (col (n := 48) (w := 512) x)))
      (fun x => landV A B t 5 c (ix (1440 + row (n := 48) (w := 512) x) (col (n := 48) (w := 512) x)))
      (mk (n := 48) (w := 512) (by decide) (by decide) (rw5 i - own t c) (cl5 i))) (own t c) (K := []) hoo
    (fun w hw => absurd hw List.not_mem_nil) (fun x => by
      have hx0 := row_lt (n := 48) (w := 512) x
      have hx1 := col_lt (n := 48) (w := 512) x
      have := (lo_le t c).2.2.2
      refine congrArg _ (idx2_ext (n := 48) (w := 512) ?_ ?_)
      · show row (n := 48) (w := 512) x = ((own t c + row (n := 48) (w := 512) x) % 1536 - own t c) % 48
        omega
      · show col (n := 48) (w := 512) x = (col (n := 48) (w := 512) x % 512) % 512
        omega)) $$ HO
  iintro HO
  iapply (bstore (Gt A B t) (own t c) ho (fun x => by
    have hx0 := row_lt (n := 48) (w := 512) x
    have hx1 := col_lt (n := 48) (w := 512) x
    have hl := (lo_le t c).2.2.2
    have h3 := landV_ix A B t 3 c (row (n := 48) (w := 512) x) (col (n := 48) (w := 512) x) (by show 1344 + _ < 1536; omega) hx1
    have h4 := landV_ix A B t 4 c (row (n := 48) (w := 512) x) (col (n := 48) (w := 512) x) (by show 1392 + _ < 1536; omega) hx1
    have h5 := landV_ix A B t 5 c (row (n := 48) (w := 512) x) (col (n := 48) (w := 512) x) (by show 1440 + _ < 1536; omega) hx1
    obtain ⟨p3, p4, p5⟩ := slo_peer_quad t c
    rw [p3] at h3; rw [p4] at h4; rw [p5] at h5
    rw [hN]
    refine (congrArg₂ (fun u v => tr (sl (ad u (ex v)))) (congrArg₂ (fun u v => ad u (ex v)) (congrArg (fun v => ad _ (ex v)) h3) h4) h5).trans ?_
    unfold Gt
    rw [row_ix, Nat.mod_eq_of_lt (a := own t c + _) (by omega), owner_own t c ⟨_, hx0⟩]
    rfl)) $$ HA
  iintro HA
  iapply Hk
  ihave HZ := (zw_mono (L' := []) (fun w hw => absurd hw List.not_mem_nil)) $$ HZ
  ihave HO := (zw_mono (L' := []) (fun w hw => absurd hw List.not_mem_nil)) $$ HO
  isplitl [HZ]; · iexact HZ
  isplitl [H3 H4 H5]
  · isplitl [H3]; · iexact H3
    isplitl [H4] <;> iassumption
  isplitl [HO]; · iexact HO
  unfold Ag; iexact HA
end

end Cert.GemmProof
-- ==== Proof.Parts1.lean ====
/-
# The product, and the first halving

The kernel's text comes in forty-eight pieces. Each piece is one theorem: what it takes and what it leaves.
-/
module

public import proofs.«01_k».proof.Proof.Moves
public import proofs.«01_k».proof.Proof.Gen.KernelIdeal.Skeleton

@[expose] public section

set_option maxRecDepth 65536

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]
variable {α : Type}

local notation "𝕄" => MT nD τ sig Unit (Elt F) ℕ UU ℕ

/-- A piece of the kernel, on the buffers and semaphores of the launch. -/
abbrev onBufs {β : Type _} (p : (a0 : Memref sig .tc .vmem S1536x768 .bf16) → a0.IsWhole → (a1 : Memref sig .tc .vmem S768x1536 .bf16) → a1.IsWhole →
    (a2 : Memref sig .tc .vmem S1536x1536 .f32) → a2.IsWhole → (a3 : Memref sig .tc .vmem S1536x1536 .f32) → a3.IsWhole →
    (a4 : Memref sig .tc .vmem S1536x512 .bf16) → a4.IsWhole → (a5 : Memref sig .tc .vmem S1536x512 .bf16) → a5.IsWhole →
    (a6 : Memref sig .tc .vmem S1536x512 .bf16) → a6.IsWhole → (a7 : Memref sig .tc .vmem S1536x512 .bf16) → a7.IsWhole →
    (a8 : Memref sig .tc .vmem S1536x512 .bf16) → a8.IsWhole → (a9 : Memref sig .tc .vmem S1536x512 .bf16) → a9.IsWhole →
    (a10 : Memref sig .tc .vmem S1536x512 .bf16) → a10.IsWhole → (a11 : Memref sig .tc .vmem S1536x512 .bf16) → a11.IsWhole →
    (a12 : Memref sig .tc .vmem S1536x512 .bf16) → a12.IsWhole → DmaSems sig S36 → DmaSems sig S36 → Sems sig S_ → β) : β :=
  p aM (Memref.isWhole_whole _) bM (Memref.isWhole_whole _) oM (Memref.isWhole_whole _) zM (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) (Memref.whole cc0_scratch8) (Memref.isWhole_whole _)
    (Memref.whole cc0_scratch9) (Memref.isWhole_whole _) cc0_scratch10 cc0_scratch11 cc0_scratch12

theorem half_row (t : Fin 3) (c : Dev nD) : (slo t 0 c = 0 ∨ slo t 0 c = 768) ∧ (lo t 1 c = 0 ∨ lo t 1 c = 768) := by
  have := halves t c; omega

/-! ## Windows of the accumulator -/

/-- `h` rows of `G` from `r` on. -/
def Win (h r : ℕ) (G : S1536x512.Idx → F .f32) : (⟨2, ![h, 512]⟩ : Shape).Idx → Elt F .f32 :=
  fun x => G (ix (r + row (n := h) (w := 512) x) (col (n := h) (w := 512) x))
/-- Half of the left operand, from row `r` on. -/
def Arow (A : Dev nD → S1536x768.Idx → F .bf16) (c : Dev nD) (r : ℕ) : S768x768.Idx → Elt F .bf16 :=
  fun x => A c (ax (r + row (n := 768) (w := 768) x) (col (n := 768) (w := 768) x))

theorem pt_sc {s : Shape} (v : s.Idx → Elt F .f32) (h : s.ShapeCasts s) (x : s.Idx) : shapeCast s v h x = v x := by
  rw [shapeCast_self]

/-- `r`'s `h` rows lie in the `n` from `l` on. -/
def Sub (l n r h : ℕ) : Prop := l ≤ r ∧ r + h ≤ l + n
def Apart (L : List (Wd F)) (r h : ℕ) : Prop := ∀ w ∈ L, w.1 + w.2.1 ≤ r ∨ r + h ≤ w.1
theorem apart_nil {r h : ℕ} : Apart ([] : List (Wd F)) r h := fun _ h => absurd h List.not_mem_nil
theorem apart_cons {L : List (Wd F)} {a b r h : ℕ} {G : S1536x512.Idx → F .f32} (h0 : a + b ≤ r ∨ r + h ≤ a) (hL : Apart L r h) :
    Apart ((a, b, G) :: L) r h := fun w hw => by
  rcases List.mem_cons.1 hw with rfl | hw
  · exact h0
  · exact hL w hw

theorem s1 (t : Fin 3) (c : Dev nD) : Sub (lo t 1 c) 768 (slo t 1 c) 384 ∧ Sub (lo t 1 c) 768 (lo t 2 c) 384 := by
  have := halves t c; unfold Sub; omega
theorem s2 (t : Fin 3) (c : Dev nD) : Sub (lo t 2 c) 384 (slo t 2 c) 192 ∧ Sub (lo t 2 c) 384 (lo t 3 c) 192 := by
  have := halves t c; unfold Sub; omega
theorem s3 (t : Fin 3) (c : Dev nD) : Sub (lo t 3 c) 192 (slo t 3 c) 48 ∧ Sub (lo t 3 c) 192 (slo t 4 c) 48
    ∧ Sub (lo t 3 c) 192 (slo t 5 c) 48 ∧ Sub (lo t 3 c) 192 (own t c) 48 := by
  have := quads t c; have := slo_quads t c; unfold Sub; omega
theorem a1 (t : Fin 3) (c : Dev nD) {G : S1536x512.Idx → F .f32} : Apart [((lo t 2 c, 384, G) : Wd F)] (slo t 1 c) 384 :=
  apart_cons (by have := halves t c; omega) apart_nil
theorem a2 (t : Fin 3) (c : Dev nD) {G : S1536x512.Idx → F .f32} : Apart [((lo t 3 c, 192, G) : Wd F)] (slo t 2 c) 192 :=
  apart_cons (by have := halves t c; omega) apart_nil
theorem a3 (t : Fin 3) (c : Dev nD) {G : S1536x512.Idx → F .f32} :
    Apart [((slo t 4 c, 48, G) : Wd F), (slo t 5 c, 48, G), (own t c, 48, G)] (slo t 3 c) 48
    ∧ Apart [((slo t 5 c, 48, G) : Wd F), (own t c, 48, G)] (slo t 4 c) 48 ∧ Apart [((own t c, 48, G) : Wd F)] (slo t 5 c) 48 := by
  have := quads t c; have := slo_quads t c
  exact ⟨apart_cons (by omega) (apart_cons (by omega) (apart_cons (by omega) apart_nil)),
    apart_cons (by omega) (apart_cons (by omega) apart_nil), apart_cons (by omega) apart_nil⟩

/-- The barrier's units: the token, and the bands handed over with it. -/
def Unit0 (c : Dev nD) (q : Fin 6) : sProp 𝕄 := iprop(dutyTok ER (kc (pr (mask6 q) c) (.inl false)) 0 q ∗ Hand c q)

section
variable {A : Dev nD → S1536x768.Idx → F .bf16} {B : Dev nD → S768x1536.Idx → F .bf16} {K : Dev nD × KI → ℕ}
variable (c : Dev nD)

theorem six (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]
  simp only [bigSepL_cons_cons, bigSepL_singleton]
  rfl

theorem iki_bar : ∀ (q : Fin 6), iki ⟨q.val, lt_trans q.isLt (by decide)⟩ = .inl false := by decide
theorem iq_bar : ∀ (q : Fin 6), iq ⟨q.val, lt_trans q.isLt (by decide)⟩ = q := by decide

theorem ent_of_eq {P Q : sProp 𝕄} (h : P = Q) : P ⊢ Q := by rw [h]

/-- One barrier unit sent. -/
theorem s_unit0 (q : Fin 6) {n : ℕ} (hn : n = q.val) {d : Dev nD} (hd : d.val = (pr (mask6 q) c).val) {sm : Sem sig} (hsm : sm = barS)
    {k' : ℕ} (hk' : k' = 1) {k : PUnit → Prog (TpuEff nD τ sig (Elt F) Λ₀ .tc) α} {Q : α → sProp 𝕄} :
    iprop(records A B K ∗ Unit0 c q ∗ Ow c n)
      ⊢ iprop((Ow c (n + 1) -∗ wpc c (k ⟨⟩) Q) -∗ wpc c (.op (.semSignal (Dev.tc d : Thread nD τ) sm k') k) Q) := by
  subst hn hsm
  have hq := q.isLt
  have e : kpay A B (pr (mask6 q) c) q (some (.inl false)) = Hand (F := F) c q := by
    show Hand (F := F) (pr (mask6 q) (pr (mask6 q) c)) q = _
    rw [pr_pr]
  unfold Unit0
  rw [← e]
  iintro ⟨#Hrec, ⟨Ht, Hh⟩, HO⟩ Hk
  iapply (wp_unit A B K false q ⟨q.val, by omega⟩ (iki_bar q) (iq_bar q) c (Fin.ext hd) rfl hk') $$ [$Hrec $Ht $Hh $HO]
  iexact Hk

/-- Stage `s` of the sum, and the transfer whose landing it adds. -/
def Stg (s s' : ℕ) (j : Fin 12) : Prop := s < 3 ∧ s' = s + 1 ∧ j.val = s
theorem st0 : Stg 0 1 0 := ⟨by decide, rfl, rfl⟩
theorem st1 : Stg 1 2 1 := ⟨by decide, rfl, rfl⟩
theorem st2 : Stg 2 3 2 := ⟨by decide, rfl, rfl⟩

theorem m_add' (t : Fin 3) {s s' : ℕ} {j : Fin 12} (hs : Stg s s' j) (r h : ℕ) {L : List (Wd F)}
    (hz : Sub (lo t s' c) (hgt j) r h) (hL : Apart L r h)
    {va : (⟨2, ![h, 512]⟩ : Shape).Idx → Elt F .f32} (hva : va = Win h r (Acc A B t s c))
    {m : Memref sig .tc .vmem S1536x512 .bf16} (hm : m = rsM t)
    {o : Fin 2 → ℕ} (ho : o = ![dlo t j c + (r - lo t s' c), 0])
    {inb : ∀ a, o a + (![h, 512] : Fin 2 → ℕ) a ≤ S1536x512.size a}
    {hv : m.view.LoadsAt (Rect.unit (s := S1536x512) o ![h, 512] inb).toLoadRect}
    {oz : Fin 2 → ℕ} (hoz : oz = ![r, 512 * t.val]) {inz : ∀ a, oz a + (![h, 512] : Fin 2 → ℕ) a ≤ S1536x1536.size a}
    {hvz : zM.view.LoadsAt (Rect.unit (s := S1536x1536) oz ![h, 512] inz).toLoadRect}
    {P : ((⟨2, ![h, 512]⟩ : Shape).Idx → Elt F .f32) → ((⟨2, ![h, 512]⟩ : Shape).Idx → Elt F .bf16) → (⟨2, ![h, 512]⟩ : Shape).Idx → Elt F .f32}
    (hP : ∀ u v x, P u v x = ad (u x) (ex (v x)))
    {hx : (zM.access (Rect.unit (s := S1536x1536) oz ![h, 512] inz)).Stores Finset.univ}
    {hst : (Finset.univ : Finset (Rect.unit (s := S1536x1536) oz ![h, 512] inz).shape.Idx) = Finset.univ
      ∨ ∀ a, (Rect.unit (s := S1536x1536) oz ![h, 512] inz).stride a = 1}
    {k : PUnit → Prog (TpuEff nD τ sig (Elt F) Λ₀ .tc) α} {Q : α → sProp 𝕄} :
    iprop(ZW zM t c ((r, h, Acc A B t s c) :: L) ∗ Came A B c t j)
      ⊢ iprop(((ZW zM t c ((r, h, Acc A B t s' c) :: L) ∗ Came A B c t j) -∗ wpc c (k ⟨⟩) Q)
        -∗ wpc c (.op (.load m (Rect.unit (s := S1536x512) o ![h, 512] inb).toLoadRect hv) fun vb =>
          .op (.load zM (Rect.unit (s := S1536x1536) oz ![h, 512] inz).toLoadRect hvz) fun _ =>
          .op (.store zM (Rect.unit (s := S1536x1536) oz ![h, 512] inz) (P va vb) Finset.univ hx hst) k) Q) := by
  obtain ⟨h3, rfl, hj⟩ := hs
  have h12 : s < 12 := by omega
  obtain rfl : j = ⟨s, h12⟩ := Fin.ext hj
  exact s_add' (A := A) (B := B) t ⟨s, h3⟩ c r h hz.1 hz.2 hL (fun x => congrFun hva x) hm ho hoz hP

theorem m_add (t : Fin 3) {s s' : ℕ} {j : Fin 12} (hs : Stg s s' j) (r h : ℕ) {L : List (Wd F)}
    (hz : Sub (lo t s' c) (hgt j) r h) (hL : Apart L r h)
    {oz' : Fin 2 → ℕ} (hoz' : oz' = ![r, 512 * t.val]) {inz' : ∀ a, oz' a + (![h, 512] : Fin 2 → ℕ) a ≤ S1536x1536.size a}
    {hvz' : zM.view.LoadsAt (Rect.unit (s := S1536x1536) oz' ![h, 512] inz').toLoadRect}
    {m : Memref sig .tc .vmem S1536x512 .bf16} (hm : m = rsM t)
    {o : Fin 2 → ℕ} (ho : o = ![dlo t j c + (r - lo t s' c), 0])
    {inb : ∀ a, o a + (![h, 512] : Fin 2 → ℕ) a ≤ S1536x512.size a}
    {hv : m.view.LoadsAt (Rect.unit (s := S1536x512) o ![h, 512] inb).toLoadRect}
    {oz : Fin 2 → ℕ} (hoz : oz = ![r, 512 * t.val]) {inz : ∀ a, oz a + (![h, 512] : Fin 2 → ℕ) a ≤ S1536x1536.size a}
    {hvz : zM.view.LoadsAt (Rect.unit (s := S1536x1536) oz ![h, 512] inz).toLoadRect}
    {P : ((⟨2, ![h, 512]⟩ : Shape).Idx → Elt F .f32) → ((⟨2, ![h, 512]⟩ : Shape).Idx → Elt F .bf16) → (⟨2, ![h, 512]⟩ : Shape).Idx → Elt F .f32}
    (hP : ∀ u v x, P u v x = ad (u x) (ex (v x)))
    {hx : (zM.access (Rect.unit (s := S1536x1536) oz ![h, 512] inz)).Stores Finset.univ}
    {hst : (Finset.univ : Finset (Rect.unit (s := S1536x1536) oz ![h, 512] inz).shape.Idx) = Finset.univ
      ∨ ∀ a, (Rect.unit (s := S1536x1536) oz ![h, 512] inz).stride a = 1}
    {k : PUnit → Prog (TpuEff nD τ sig (Elt F) Λ₀ .tc) α} {Q : α → sProp 𝕄} :
    iprop(ZW zM t c ((r, h, Acc A B t s c) :: L) ∗ Came A B c t j)
      ⊢ iprop(((ZW zM t c ((r, h, Acc A B t s' c) :: L) ∗ Came A B c t j) -∗ wpc c (k ⟨⟩) Q)
        -∗ wpc c (.op (.load zM (Rect.unit (s := S1536x1536) oz' ![h, 512] inz').toLoadRect hvz') fun va =>
          .op (.load m (Rect.unit (s := S1536x512) o ![h, 512] inb).toLoadRect hv) fun vb =>
          .op (.load zM (Rect.unit (s := S1536x1536) oz ![h, 512] inz).toLoadRect hvz) fun _ =>
          .op (.store zM (Rect.unit (s := S1536x1536) oz ![h, 512] inz) (P va vb) Finset.univ hx hst) k) Q) := by
  obtain ⟨h3, rfl, hj⟩ := hs
  have h12 : s < 12 := by omega
  obtain rfl : j = ⟨s, h12⟩ := Fin.ext hj
  exact s_add (A := A) (B := B) t ⟨s, h3⟩ c r h hz.1 hz.2 hL hoz' hm ho hoz hP

/-- A window and what landed for it, read: their sum is the next partial sum. -/
theorem s_sum (t : Fin 3) {s s' : ℕ} {j : Fin 12} (hs : Stg s s' j) (r h : ℕ) {L : List (Wd F)} (hz : Sub (lo t s' c) (hgt j) r h)
    {oz : Fin 2 → ℕ} (hoz : oz = ![r, 512 * t.val]) {inz : ∀ a, oz a + (![h, 512] : Fin 2 → ℕ) a ≤ S1536x1536.size a}
    {hvz : zM.view.LoadsAt (Rect.unit (s := S1536x1536) oz ![h, 512] inz).toLoadRect}
    {m : Memref sig .tc .vmem S1536x512 .bf16} (hm : m = rsM t)
    {o : Fin 2 → ℕ} (ho : o = ![dlo t j c + (r - lo t s' c), 0])
    {inb : ∀ a, o a + (![h, 512] : Fin 2 → ℕ) a ≤ S1536x512.size a}
    {hv : m.view.LoadsAt (Rect.unit (s := S1536x512) o ![h, 512] inb).toLoadRect}
    {k : ((⟨2, ![h, 512]⟩ : Shape).Idx → Elt F .f32) → ((⟨2, ![h, 512]⟩ : Shape).Idx → Elt F .bf16) → Prog (TpuEff nD τ sig (Elt F) Λ₀ .tc) α}
    {Q : α → sProp 𝕄} :
    iprop(ZW zM t c ((r, h, Acc A B t s c) :: L) ∗ Came A B c t j)
      ⊢ iprop((∀ u v, ⌜∀ x, ad (u x) (ex (v x)) = Win h r (Acc A B t s' c) x⌝
          -∗ ZW zM t c ((r, h, Acc A B t s c) :: L) -∗ Came A B c t j -∗ wpc c (k u v) Q)
        -∗ wpc c (.op (.load zM (Rect.unit (s := S1536x1536) oz ![h, 512] inz).toLoadRect hvz) fun u =>
          .op (.load m (Rect.unit (s := S1536x512) o ![h, 512] inb).toLoadRect hv) fun v => k u v) Q) := by
  obtain ⟨h3, rfl, hj⟩ := hs
  have h12 : s < 12 := by omega
  obtain rfl : j = ⟨s, h12⟩ := Fin.ext hj
  have h6 : s < 6 := by omega
  have hz1 := hz.1
  have hz2 := hz.2
  have hmd : m = dstM t ⟨s, h12⟩ := hm.trans (if_pos h6).symm
  iintro ⟨HZ, HC⟩ Hk
  iapply (zload r h (Acc A B t s c) r (.head _) hoz le_rfl le_rfl) $$ HZ
  iintro HZ
  iapply (s_land (A := A) (B := B) t ⟨s, h12⟩ c (dlo t ⟨s, h12⟩ c + (r - lo t (s + 1) c)) (by omega) (by omega) hmd ho) $$ HC
  iintro HC
  iapply Hk $$ [] HZ HC
  ipureintro
  intro x
  have hx0 := row_lt (n := h) (w := 512) x
  have hx1 := col_lt (n := h) (w := 512) x
  have ha : dlo t ⟨s, h12⟩ c + (r - lo t (s + 1) c) + lo t (s + 1) c = dlo t ⟨s, h12⟩ c + r := by omega
  have hb : dlo t ⟨s, h12⟩ c + (r - lo t (s + 1) c) + row (n := h) (w := 512) x < dlo t ⟨s, h12⟩ c + hgt ⟨s, h12⟩ := by omega
  exact add_landed A B t ⟨s, h3⟩ c r _ _ _ hz1 ha hb hx1

/-- A window overwritten by the next partial sum (what it held is read first, and dropped). -/
theorem s_keep (t : Fin 3) (r h : ℕ) (G G' : S1536x512.Idx → F .f32) {L : List (Wd F)} (hL : Apart L r h)
    {oz : Fin 2 → ℕ} (hoz : oz = ![r, 512 * t.val]) {inz : ∀ a, oz a + (![h, 512] : Fin 2 → ℕ) a ≤ S1536x1536.size a}
    {hvz : zM.view.LoadsAt (Rect.unit (s := S1536x1536) oz ![h, 512] inz).toLoadRect}
    {w : (⟨2, ![h, 512]⟩ : Shape).Idx → Elt F .f32} (hw : ∀ x, w x = Win h r G' x)
    {hx : (zM.access (Rect.unit (s := S1536x1536) oz ![h, 512] inz)).Stores Finset.univ}
    {hm : (Finset.univ : Finset (Rect.unit (s := S1536x1536) oz ![h, 512] inz).shape.Idx) = Finset.univ
      ∨ ∀ a, (Rect.unit (s := S1536x1536) oz ![h, 512] inz).stride a = 1}
    {k : PUnit → Prog (TpuEff nD τ sig (Elt F) Λ₀ .tc) α} {Q : α → sProp 𝕄} :
    (ZW zM t c ((r, h, G) :: L) : sProp 𝕄)
      ⊢ iprop((ZW zM t c ((r, h, G') :: L) -∗ wpc c (k ⟨⟩) Q)
        -∗ wpc c (.op (.load zM (Rect.unit (s := S1536x1536) oz ![h, 512] inz).toLoadRect hvz) fun _ =>
          .op (.store zM (Rect.unit (s := S1536x1536) oz ![h, 512] inz) w Finset.univ hx hm) k) Q) := by
  iintro HZ Hk
  iapply (zstore G' r (K := L) hoz (fun w hw => ⟨.tail _ hw, hL w hw⟩) hw) $$ HZ
  iexact Hk

/-- The same without the read. -/
theorem s_put (t : Fin 3) (r h : ℕ) (G G' : S1536x512.Idx → F .f32) {L : List (Wd F)} (hL : Apart L r h)
    {oz : Fin 2 → ℕ} (hoz : oz = ![r, 512 * t.val]) {inz : ∀ a, oz a + (![h, 512] : Fin 2 → ℕ) a ≤ S1536x1536.size a}
    {w : (⟨2, ![h, 512]⟩ : Shape).Idx → Elt F .f32} (hw : ∀ x, w x = Win h r G' x)
    {hx : (zM.access (Rect.unit (s := S1536x1536) oz ![h, 512] inz)).Stores Finset.univ}
    {hm : (Finset.univ : Finset (Rect.unit (s := S1536x1536) oz ![h, 512] inz).shape.Idx) = Finset.univ
      ∨ ∀ a, (Rect.unit (s := S1536x1536) oz ![h, 512] inz).stride a = 1}
    {k : PUnit → Prog (TpuEff nD τ sig (Elt F) Λ₀ .tc) α} {Q : α → sProp 𝕄} :
    (ZW zM t c ((r, h, G) :: L) : sProp 𝕄)
      ⊢ iprop((ZW zM t c ((r, h, G') :: L) -∗ wpc c (k ⟨⟩) Q)
        -∗ wpc c (.op (.store zM (Rect.unit (s := S1536x1536) oz ![h, 512] inz) w Finset.univ hx hm) k) Q) := by
  unfold ZW
  iintro ⟨%g, %hg, H⟩ Hk
  iapply (wp_store_own (fun i => if r ≤ rwz i ∧ rwz i < r + h then G' (zc t i) else g i)
    (fun i hi => ((mem_unitz hoz).1 hi).2) (fun x => by
      obtain ⟨e0, e1⟩ := unitz_zc (t := t) (inb := inz) hoz x
      have hx := row_lt (n := h) (w := 512) x
      rw [if_pos (by rw [e0]; omega), e1]; exact (hw x).symm)
    (fun i hi hi' => if_neg (fun hr => hi' ((mem_unitz hoz).2 ⟨hr, hi⟩)))) $$ H
  iintro H
  iapply Hk
  iexists (fun i => if r ≤ rwz i ∧ rwz i < r + h then G' (zc t i) else g i)
  isplitr
  · ipureintro
    intro v hv i hi h1 h2
    rcases List.mem_cons.1 hv with rfl | hv
    · exact if_pos ⟨h1, h2⟩
    · rw [← hg v (.tail _ hv) i hi h1 h2]
      have := hL v hv
      exact if_neg (by rintro ⟨a, b⟩; omega)
  · iexact H

theorem part1 {k : _ → Prog (TpuEff nD τ sig (Elt F) Λ₀ .tc) α} {Q : α → sProp 𝕄} :
    records A B K
      ⊢ iprop((bigSep Finset.univ fun q => Unit0 c q) -∗ atPos ER (kc c (.inl false)) 0 ∅ 0 -∗ cred (tallyAt (kc c (.inl false)) () 6) -∗ Ow c 0 -∗
        (∀ v w, semVal (kc c (.inl false)) 0 -∗ (bigSep Finset.univ fun k : Tx => Land (F := F) (peer k.1 k.2 c) k) -∗ Ow c 6
          -∗ wpc c (k ⟨c, v, w⟩) Q)
        -∗ wpc c (onBufs (k0_part1 (F := F)) >>= k) Q) := by
  rw [k0_part1_eq_skeleton]; unfold onBufs k0_part1_skel
  simp only [semSignalWord, semWaitWord, Prog.lift, Prog.bind_op, Prog.bind_ret, Prog.pure_eq_ret]
  unfold wpc
  rw [six]
  simp only [wp_deviceId]
  iintro #Hrec ⟨H0, H1, H2, H3, H4, H5⟩ Hat Hcr HO Hk
  iapply (s_unit0 (A := A) (B := B) (K := K) c 0 rfl (dev_bar c).1 rfl rfl) $$ [$Hrec $H0 $HO]
  iintro HO
  iapply (s_unit0 (A := A) (B := B) (K := K) c 1 rfl (dev_bar c).2.1 rfl rfl) $$ [$Hrec $H1 $HO]
  iintro HO
  iapply (s_unit0 (A := A) (B := B) (K := K) c 2 rfl (dev_bar c).2.2.1 rfl rfl) $$ [$Hrec $H2 $HO]
  iintro HO
  iapply (s_unit0 (A := A) (B := B) (K := K) c 3 rfl (dev_bar c).2.2.2.1 rfl rfl) $$ [$Hrec $H3 $HO]
  iintro HO
  iapply (s_unit0 (A := A) (B := B) (K := K) c 4 rfl (dev_bar c).2.2.2.2.1 rfl rfl) $$ [$Hrec $H4 $HO]
  iintro HO
  iapply (s_unit0 (A := A) (B := B) (K := K) c 5 rfl (dev_bar c).2.2.2.2.2 rfl rfl) $$ [$Hrec $H5 $HO]
  iintro HO
  iapply (wp_units A B K false 6 (by decide) c rfl rfl) $$ [$Hrec $Hat $Hcr $HO]
  iintro ⟨Hz, Hp, HO⟩
  ihave Hp := (ent_of_eq (lands_in A B c)) $$ Hp
  iapply Hk $$ Hz Hp HO

theorem part2 (v2 v22 : BitVec 32) {k : _ → Prog (TpuEff nD τ sig (Elt F) Λ₀ .tc) α} {Q : α → sProp 𝕄} :
    records A B K
      ⊢ iprop(Ops A B c -∗ ZW zM 0 c [] -∗ Fresh c 0 0 -∗ Ow c 6 -∗
        (∀ r, Ops A B c -∗ ZW zM 0 c [] -∗ Sent c 0 0 -∗ Ow c 7 -∗ wpc c (k r) Q)
        -∗ wpc c (onBufs (k0_part2 (F := F)) c v2 v22 >>= k) Q) := by
  rw [k0_part2_eq_skeleton]; unfold onBufs k0_part2_skel
  simp only [Prog.lift, Prog.bind_op, Prog.bind_ret, Prog.pure_eq_ret]
  iintro #Hrec Hops HZ H0 HO Hk
  iapply (s_mm (A := A) (B := B) 0 c (slo 0 0 c) (half_row 0 c).1 (o1 c) rfl (o2 c) rfl) $$ [$Hops $HZ]
  iintro ⟨Hops, HZ⟩
  iapply (s_cast (A := A) (B := B) 0 0 c (by decide) (Acc A B 0 0 c) (fun _ => rfl) rfl (o2 c) rfl (o3 c) (fun v x => pt_tr v _ x)) $$ [$HZ $H0]
  iintro ⟨HZ, H0⟩
  iapply (s_send (A := A) (B := B) (K := K) 0 0 6 rfl c rfl rfl rfl (o4 c) rfl (v7 c).1 rfl rfl) $$ [$Hrec $H0 $HO]
  iintro ⟨H0, HO⟩
  iapply Hk $$ Hops HZ H0 HO

theorem part3 (v2 v55 v56 w : BitVec 32) {k : _ → Prog (TpuEff nD τ sig (Elt F) Λ₀ .tc) α} {Q : α → sProp 𝕄} :
    records A B K
      ⊢ iprop(Ops A B c -∗ ZW zM 1 c [] -∗ Fresh c 1 0 -∗ Ow c 7 -∗
        (∀ r, ⌜r.2.2.2.2 = Arow A c (slo 2 0 c)⌝ -∗ Ops A B c -∗ ZW zM 1 c [] -∗ Sent c 1 0 -∗ Ow c 8 -∗ wpc c (k r) Q)
        -∗ wpc c (onBufs (k0_part3 (F := F)) c v2 v55 v56 w >>= k) Q) := by
  rw [k0_part3_eq_skeleton]; unfold onBufs k0_part3_skel
  simp only [Prog.lift, Prog.bind_op, Prog.bind_ret, Prog.pure_eq_ret]
  iintro #Hrec Hops HZ H0 HO Hk
  iapply (s_mm (A := A) (B := B) 1 c (slo 1 0 c) (half_row 1 c).1 (o5 c).1 rfl (o6 c) rfl) $$ [$Hops $HZ]
  iintro ⟨Hops, HZ⟩
  iapply (s_cast (A := A) (B := B) 1 0 c (by decide) (Acc A B 1 0 c) (fun _ => rfl) rfl (o6 c) rfl (o7 c).1 (fun v x => pt_tr v _ x)) $$ [$HZ $H0]
  iintro ⟨HZ, H0⟩
  iapply (s_send (A := A) (B := B) (K := K) 1 0 7 rfl c rfl rfl rfl (o8 c).1 rfl (v7 c).2.1 rfl rfl) $$ [$Hrec $H0 $HO]
  iintro ⟨H0, HO⟩
  unfold Ops
  icases Hops with ⟨Ha, Hb⟩
  iapply (aload (slo 2 0 c) (o5 c).2) $$ Ha
  iintro Ha
  iapply Hk $$ [] [Ha Hb] HZ H0 HO
  · ipureintro; rfl
  · isplitl [Ha] <;> iassumption

theorem part4 (v2 v27 v58 v88 : BitVec 32) {v91 : S768x768.Idx → Elt F .bf16} (h91 : v91 = Arow A c (slo 2 0 c))
    {k : _ → Prog (TpuEff nD τ sig (Elt F) Λ₀ .tc) α} {Q : α → sProp 𝕄} :
    records A B K
      ⊢ iprop(Ops A B c -∗ ZW zM 0 c [] -∗ ZW zM 2 c [] -∗ Fresh c 2 0 -∗ Ow c 8 -∗
        (∀ r, ⌜r.2 = Arow A c (lo 1 1 c)⌝ -∗ Ops A B c -∗ ZW zM 0 c [(lo 0 1 c, 768, Acc A B 0 0 c)] -∗ ZW zM 2 c [] -∗ Sent c 2 0 -∗ Ow c 9
          -∗ wpc c (k r) Q)
        -∗ wpc c (onBufs (k0_part4 (F := F)) c v2 v27 v58 v88 v91 >>= k) Q) := by
  rw [k0_part4_eq_skeleton]; unfold onBufs k0_part4_skel
  simp only [Prog.lift, Prog.bind_op, Prog.bind_ret, Prog.pure_eq_ret]
  iintro #Hrec Hops HZ0 HZ2 H0 HO Hk
  iapply (s_mm' (A := A) (B := B) 2 c (slo 2 0 c) (half_row 2 c).1 h91 rfl (o9 c) rfl) $$ [$Hops $HZ2]
  iintro ⟨Hops, HZ2⟩
  iapply (s_cast (A := A) (B := B) 2 0 c (by decide) (Acc A B 2 0 c) (fun _ => rfl) rfl (o9 c) rfl (o7 c).2 (fun v x => pt_tr v _ x)) $$ [$HZ2 $H0]
  iintro ⟨HZ2, H0⟩
  iapply (s_send (A := A) (B := B) (K := K) 2 0 8 rfl c rfl rfl rfl (o8 c).2 rfl (v7 c).2.2.1 rfl rfl) $$ [$Hrec $H0 $HO]
  iintro ⟨H0, HO⟩
  iapply (s_mm (A := A) (B := B) 0 c (lo 0 1 c) (half_row 0 c).2 (o10 c) rfl (o11 c) rfl) $$ [$Hops $HZ0]
  iintro ⟨Hops, HZ0⟩
  unfold Ops
  icases Hops with ⟨Ha, Hb⟩
  iapply (aload (lo 1 1 c) (o12 c).1) $$ Ha
  iintro Ha
  iapply Hk $$ [] [Ha Hb] HZ0 HZ2 H0 HO
  · ipureintro; rfl
  · isplitl [Ha] <;> iassumption

theorem part5 (v2 v45 v58 v89 : BitVec 32) {v127 : S768x768.Idx → Elt F .bf16} (h127 : v127 = Arow A c (lo 1 1 c))
    {k : _ → Prog (TpuEff nD τ sig (Elt F) Λ₀ .tc) α} {Q : α → sProp 𝕄} :
    records A B K
      ⊢ iprop(Ops A B c -∗ ZW zM 1 c [] -∗ ZW zM 2 c [] -∗ Sent c 0 0 -∗ Ow c 9 -∗
        (∀ r, Ops A B c -∗ ZW zM 1 c [(lo 1 1 c, 768, Acc A B 1 0 c)] -∗ ZW zM 2 c [(lo 2 1 c, 768, Acc A B 2 0 c)] -∗ Came A B c 0 0 -∗ Ow c 9
          -∗ wpc c (k r) Q)
        -∗ wpc c (onBufs (k0_part5 (F := F)) c v2 v45 v58 v89 v127 >>= k) Q) := by
  rw [k0_part5_eq_skeleton]; unfold onBufs k0_part5_skel
  simp only [Prog.lift, Prog.bind_op, Prog.bind_ret, Prog.pure_eq_ret]
  iintro #Hrec Hops HZ1 HZ2 H0 HO Hk
  iapply (s_mm' (A := A) (B := B) 1 c (lo 1 1 c) (half_row 1 c).2 h127 rfl (o13 c) rfl) $$ [$Hops $HZ1]
  iintro ⟨Hops, HZ1⟩
  iapply (s_mm (A := A) (B := B) 2 c (lo 2 1 c) (half_row 2 c).2 (o12 c).2 rfl (o14 c) rfl) $$ [$Hops $HZ2]
  iintro ⟨Hops, HZ2⟩
  iapply (s_wait (A := A) (B := B) (K := K) 0 0 9 (by decide) c rfl rfl rfl rfl) $$ [$Hrec $H0 $HO]
  iintro ⟨H0, HO⟩
  iapply Hk $$ Hops HZ1 HZ2 H0 HO

end
end Cert.GemmProof
-- ==== Proof.Parts3.lean ====
/-
# The last halving, in quads; the own rows finished
-/
module

public import proofs.«01_k».proof.Proof.Parts1

@[expose] public section

set_option maxRecDepth 65536

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]
variable {α : Type}

local notation "𝕄" => MT nD τ sig Unit (Elt F) ℕ UU ℕ

section
variable {A : Dev nD → S1536x768.Idx → F .bf16} {B : Dev nD → S768x1536.Idx → F .bf16} {K : Dev nD × KI → ℕ}
variable (c : Dev nD)

theorem part16 (v2 v360 v495 v497 v501 w : BitVec 32) {k : _ → Prog (TpuEff nD τ sig (Elt F) Λ₀ .tc) α} {Q : α → sProp 𝕄} :
    records A B K
      ⊢ iprop(ZW zM 0 c [(lo 0 3 c, 192, Acc A B 0 2 c)] -∗ Came A B c 0 2 -∗ Fresh c 0 3 -∗ Ow c 15 -∗
        (∀ r, ZW zM 0 c [(slo 0 4 c, 48, Acc A B 0 2 c), (slo 0 5 c, 48, Acc A B 0 2 c), (own 0 c, 48, Acc A B 0 2 c)] -∗ Came A B c 0 2
          -∗ Sent c 0 3 -∗ Ow c 16 -∗ wpc c (k r) Q)
        -∗ wpc c (onBufs (k0_part16 (F := F)) c v2 v360 v495 v497 v501 w >>= k) Q) := by
  rw [k0_part16_eq_skeleton]; unfold onBufs k0_part16_skel
  simp only [Prog.lift, Prog.bind_op, Prog.bind_ret, Prog.pure_eq_ret]
  iintro #Hrec HZ HC H3 HO Hk
  ihave HZ := (z_quads 0 c _) $$ HZ
  iapply (m_add (A := A) (B := B) c 0 st2 (slo 0 3 c) 48 (s3 0 c).1 (a3 0 c).1 (o47 c) rfl (o48 0 c) (o47 c) (fun u v x => pt_ad u v _ x)) $$ [$HZ $HC]
  iintro ⟨HZ, HC⟩
  iapply (s_cast (A := A) (B := B) 0 3 c (by decide) (Acc A B 0 3 c) (fun _ => rfl) rfl (o47 c) rfl (o49 c) (fun v x => pt_tr v _ x)) $$ [$HZ $H3]
  iintro ⟨HZ, H3⟩
  iapply (s_send (A := A) (B := B) (K := K) 0 3 15 rfl c rfl rfl rfl (o50 c) rfl (v16 c).1 rfl rfl) $$ [$Hrec $H3 $HO]
  iintro ⟨H3, HO⟩
  iapply Hk $$ HZ HC H3 HO

theorem part17 (v2 v360 v505 v510 : BitVec 32) {k : _ → Prog (TpuEff nD τ sig (Elt F) Λ₀ .tc) α} {Q : α → sProp 𝕄} :
    records A B K
      ⊢ iprop(ZW zM 0 c [(slo 0 4 c, 48, Acc A B 0 2 c), (slo 0 5 c, 48, Acc A B 0 2 c), (own 0 c, 48, Acc A B 0 2 c)] -∗ Came A B c 0 2 -∗ Fresh c 0 4
        -∗ Ow c 16 -∗
        (∀ r, ⌜∀ x, r.2.2 x = Win 48 (slo 0 5 c) (Acc A B 0 3 c) x⌝ -∗ ZW zM 0 c [(slo 0 5 c, 48, Acc A B 0 2 c), (own 0 c, 48, Acc A B 0 2 c)]
          -∗ Came A B c 0 2 -∗ Sent c 0 4 -∗ Ow c 17 -∗ wpc c (k r) Q)
        -∗ wpc c (onBufs (k0_part17 (F := F)) c v2 v360 v505 v510 >>= k) Q) := by
  rw [k0_part17_eq_skeleton]; unfold onBufs k0_part17_skel
  simp only [Prog.lift, Prog.bind_op, Prog.bind_ret, Prog.pure_eq_ret]
  iintro #Hrec HZ HC H4 HO Hk
  iapply (m_add (A := A) (B := B) c 0 st2 (slo 0 4 c) 48 (s3 0 c).2.1 (a3 0 c).2.1 (o51 c) rfl (o52 0 c) (o51 c) (fun u v x => pt_ad u v _ x)) $$ [$HZ $HC]
  iintro ⟨HZ, HC⟩
  iapply (s_cast (A := A) (B := B) 0 4 c (by decide) (Acc A B 0 3 c) (fun _ => rfl) rfl (o51 c) rfl (o53 c) (fun v x => pt_tr v _ x)) $$ [$HZ $H4]
  iintro ⟨HZ, H4⟩
  iapply (s_send (A := A) (B := B) (K := K) 0 4 16 rfl c rfl rfl rfl (o54 c) rfl (v16 c).2.1 rfl rfl) $$ [$Hrec $H4 $HO]
  iintro ⟨H4, HO⟩
  iapply (s_sum (A := A) (B := B) c 0 st2 (slo 0 5 c) 48 (s3 0 c).2.2.1 (o55 c) rfl (o56 0 c)) $$ [$HZ $HC]
  iintro %u %v %huv HZ HC
  iapply (zload (slo 0 5 c) 48 (Acc A B 0 2 c) (slo 0 5 c) (.head _) (o55 c) le_rfl le_rfl) $$ HZ
  iintro HZ
  iapply Hk $$ [] HZ HC H4 HO
  ipureintro; exact huv

theorem part18 (v2 v395 v495 v497 v567 : BitVec 32) {v574 : S48x512.Idx → Elt F .f32}
    (h574 : ∀ x, v574 x = Win 48 (slo 0 5 c) (Acc A B 0 3 c) x) {k : _ → Prog (TpuEff nD τ sig (Elt F) Λ₀ .tc) α} {Q : α → sProp 𝕄} :
    records A B K
      ⊢ iprop(ZW zM 0 c [(slo 0 5 c, 48, Acc A B 0 2 c), (own 0 c, 48, Acc A B 0 2 c)] -∗ Fresh c 0 5 -∗ Sent c 1 2 -∗ Ow c 17 -∗
        (∀ r, ZW zM 0 c [(own 0 c, 48, Acc A B 0 2 c)] -∗ Sent c 0 5 -∗ Came A B c 1 2 -∗ Ow c 18 -∗ wpc c (k r) Q)
        -∗ wpc c (onBufs (k0_part18 (F := F)) c v2 v395 v495 v497 v567 v574 >>= k) Q) := by
  rw [k0_part18_eq_skeleton]; unfold onBufs k0_part18_skel
  simp only [Prog.lift, Prog.bind_op, Prog.bind_ret, Prog.pure_eq_ret]
  iintro #Hrec HZ H5 HC HO Hk
  iapply (s_put c 0 (slo 0 5 c) 48 (Acc A B 0 2 c) (Acc A B 0 3 c) (a3 0 c).2.2 (o55 c) (fun x => (pt_sc v574 _ x).trans (h574 x))) $$ HZ
  iintro HZ
  iapply (s_cast (A := A) (B := B) 0 5 c (by decide) (Acc A B 0 3 c) (fun _ => rfl) rfl (o55 c) rfl (o57 c) (fun v x => pt_tr v _ x)) $$ [$HZ $H5]
  iintro ⟨HZ, H5⟩
  iapply (s_send (A := A) (B := B) (K := K) 0 5 17 rfl c rfl rfl rfl (o58 c) rfl (v16 c).2.2.1 rfl rfl) $$ [$Hrec $H5 $HO]
  iintro ⟨H5, HO⟩
  iapply (s_wait (A := A) (B := B) (K := K) 1 2 18 (by decide) c rfl rfl rfl rfl) $$ [$Hrec $HC $HO]
  iintro ⟨HC, HO⟩
  iapply Hk $$ HZ H5 HC HO

theorem part19 (v2 v406 : BitVec 32) {k : _ → Prog (TpuEff nD τ sig (Elt F) Λ₀ .tc) α} {Q : α → sProp 𝕄} :
    records A B K
      ⊢ iprop(ZW zM 1 c [(lo 1 3 c, 192, Acc A B 1 2 c)] -∗ Came A B c 1 2 -∗ Fresh c 1 3 -∗
        (∀ r, ZW zM 1 c [(slo 1 4 c, 48, Acc A B 1 2 c), (slo 1 5 c, 48, Acc A B 1 2 c), (own 1 c, 48, Acc A B 1 2 c)] -∗ Came A B c 1 2
          -∗ Full A B c 1 3 -∗ wpc c (k r) Q)
        -∗ wpc c (onBufs (k0_part19 (F := F)) c v2 v406 >>= k) Q) := by
  rw [k0_part19_eq_skeleton]; unfold onBufs k0_part19_skel
  simp only [Prog.lift, Prog.bind_op, Prog.bind_ret, Prog.pure_eq_ret]
  iintro #Hrec HZ HC H3 Hk
  ihave HZ := (z_quads 1 c _) $$ HZ
  iapply (m_add (A := A) (B := B) c 1 st2 (slo 1 3 c) 48 (s3 1 c).1 (a3 1 c).1 (o59 c) rfl (o48 1 c) (o59 c) (fun u v x => pt_ad u v _ x)) $$ [$HZ $HC]
  iintro ⟨HZ, HC⟩
  iapply (s_cast (A := A) (B := B) 1 3 c (by decide) (Acc A B 1 3 c) (fun _ => rfl) rfl (o59 c) rfl (o60 c) (fun v x => pt_tr v _ x)) $$ [$HZ $H3]
  iintro ⟨HZ, H3⟩
  iapply Hk $$ HZ HC H3

theorem part20 (v2 v406 v619 v644 : BitVec 32) {k : _ → Prog (TpuEff nD τ sig (Elt F) Λ₀ .tc) α} {Q : α → sProp 𝕄} :
    records A B K
      ⊢ iprop(ZW zM 1 c [(slo 1 4 c, 48, Acc A B 1 2 c), (slo 1 5 c, 48, Acc A B 1 2 c), (own 1 c, 48, Acc A B 1 2 c)] -∗ Came A B c 1 2 -∗ Full A B c 1 3
        -∗ Fresh c 1 4 -∗ Ow c 18 -∗
        (∀ r, ZW zM 1 c [(slo 1 5 c, 48, Acc A B 1 2 c), (own 1 c, 48, Acc A B 1 2 c)] -∗ Came A B c 1 2 -∗ Sent c 1 3 -∗ Full A B c 1 4 -∗ Ow c 19
          -∗ wpc c (k r) Q)
        -∗ wpc c (onBufs (k0_part20 (F := F)) c v2 v406 v619 v644 >>= k) Q) := by
  rw [k0_part20_eq_skeleton]; unfold onBufs k0_part20_skel
  simp only [Prog.lift, Prog.bind_op, Prog.bind_ret, Prog.pure_eq_ret]
  iintro #Hrec HZ HC H3 H4 HO Hk
  iapply (s_send (A := A) (B := B) (K := K) 1 3 18 rfl c rfl rfl rfl (o61 c) rfl (v16 c).2.2.2.1 rfl rfl) $$ [$Hrec $H3 $HO]
  iintro ⟨H3, HO⟩
  iapply (m_add (A := A) (B := B) c 1 st2 (slo 1 4 c) 48 (s3 1 c).2.1 (a3 1 c).2.1 (o62 c) rfl (o52 1 c) (o62 c) (fun u v x => pt_ad u v _ x)) $$ [$HZ $HC]
  iintro ⟨HZ, HC⟩
  iapply (s_cast (A := A) (B := B) 1 4 c (by decide) (Acc A B 1 3 c) (fun _ => rfl) rfl (o62 c) rfl (o63 c) (fun v x => pt_tr v _ x)) $$ [$HZ $H4]
  iintro ⟨HZ, H4⟩
  iapply Hk $$ HZ HC H3 H4 HO

theorem part21 (v2 v406 v609 v611 v624 : BitVec 32) {k : _ → Prog (TpuEff nD τ sig (Elt F) Λ₀ .tc) α} {Q : α → sProp 𝕄} :
    records A B K
      ⊢ iprop(ZW zM 1 c [(slo 1 5 c, 48, Acc A B 1 2 c), (own 1 c, 48, Acc A B 1 2 c)] -∗ Came A B c 1 2 -∗ Full A B c 1 4 -∗ Fresh c 1 5 -∗ Ow c 19 -∗
        (∀ r, ZW zM 1 c [(own 1 c, 48, Acc A B 1 2 c)] -∗ Came A B c 1 2 -∗ Sent c 1 4 -∗ Sent c 1 5 -∗ Ow c 21 -∗ wpc c (k r) Q)
        -∗ wpc c (onBufs (k0_part21 (F := F)) c v2 v406 v609 v611 v624 >>= k) Q) := by
  rw [k0_part21_eq_skeleton]; unfold onBufs k0_part21_skel
  simp only [Prog.lift, Prog.bind_op, Prog.bind_ret, Prog.pure_eq_ret]
  iintro #Hrec HZ HC H4 H5 HO Hk
  iapply (s_send (A := A) (B := B) (K := K) 1 4 19 rfl c rfl rfl rfl (o64 c) rfl (v16 c).2.2.2.2.1 rfl rfl) $$ [$Hrec $H4 $HO]
  iintro ⟨H4, HO⟩
  iapply (m_add (A := A) (B := B) c 1 st2 (slo 1 5 c) 48 (s3 1 c).2.2.1 (a3 1 c).2.2 (o65 c) rfl (o56 1 c) (o65 c) (fun u v x => pt_ad u v _ x)) $$ [$HZ $HC]
  iintro ⟨HZ, HC⟩
  iapply (s_cast (A := A) (B := B) 1 5 c (by decide) (Acc A B 1 3 c) (fun _ => rfl) rfl (o65 c) rfl (o66 c) (fun v x => pt_tr v _ x)) $$ [$HZ $H5]
  iintro ⟨HZ, H5⟩
  iapply (s_send (A := A) (B := B) (K := K) 1 5 20 rfl c rfl rfl rfl (o67 c) rfl (v16 c).2.2.2.2.2.1 rfl rfl) $$ [$Hrec $H5 $HO]
  iintro ⟨H5, HO⟩
  iapply Hk $$ HZ HC H4 H5 HO

theorem part22 (v2 v442 v453 : BitVec 32) {k : _ → Prog (TpuEff nD τ sig (Elt F) Λ₀ .tc) α} {Q : α → sProp 𝕄} :
    records A B K
      ⊢ iprop(ZW zM 2 c [(lo 2 3 c, 192, Acc A B 2 2 c)] -∗ Sent c 2 2 -∗ Ow c 21 -∗
        (∀ r, ⌜∀ x, r.2.2.2.2.2 x = Win 48 (slo 2 3 c) (Acc A B 2 3 c) x⌝
          -∗ ZW zM 2 c [(slo 2 3 c, 48, Acc A B 2 2 c), (slo 2 4 c, 48, Acc A B 2 2 c), (slo 2 5 c, 48, Acc A B 2 2 c), (own 2 c, 48, Acc A B 2 2 c)]
          -∗ Came A B c 2 2 -∗ Ow c 21 -∗ wpc c (k r) Q)
        -∗ wpc c (onBufs (k0_part22 (F := F)) c v2 v442 v453 >>= k) Q) := by
  rw [k0_part22_eq_skeleton]; unfold onBufs k0_part22_skel
  simp only [Prog.lift, Prog.bind_op, Prog.bind_ret, Prog.pure_eq_ret]
  iintro #Hrec HZ HC HO Hk
  iapply (s_wait (A := A) (B := B) (K := K) 2 2 21 (by decide) c rfl rfl rfl rfl) $$ [$Hrec $HC $HO]
  iintro ⟨HC, HO⟩
  ihave HZ := (z_quads 2 c _) $$ HZ
  iapply (s_sum (A := A) (B := B) c 2 st2 (slo 2 3 c) 48 (s3 2 c).1 (o68 c) rfl (o48 2 c)) $$ [$HZ $HC]
  iintro %u %v %huv HZ HC
  iapply Hk $$ [] HZ HC HO
  ipureintro; exact huv

theorem part23 (v2 v453 v733 v739 : BitVec 32) {v746 : S48x512.Idx → Elt F .f32}
    (h746 : ∀ x, v746 x = Win 48 (slo 2 3 c) (Acc A B 2 3 c) x) {k : _ → Prog (TpuEff nD τ sig (Elt F) Λ₀ .tc) α} {Q : α → sProp 𝕄} :
    records A B K
      ⊢ iprop(ZW zM 2 c [(slo 2 3 c, 48, Acc A B 2 2 c), (slo 2 4 c, 48, Acc A B 2 2 c), (slo 2 5 c, 48, Acc A B 2 2 c), (own 2 c, 48, Acc A B 2 2 c)]
        -∗ Came A B c 2 2 -∗ Fresh c 2 3 -∗ Fresh c 2 4 -∗ Ow c 21 -∗
        (∀ r, ZW zM 2 c [(slo 2 5 c, 48, Acc A B 2 2 c), (own 2 c, 48, Acc A B 2 2 c)] -∗ Came A B c 2 2 -∗ Sent c 2 3 -∗ Full A B c 2 4 -∗ Ow c 22
          -∗ wpc c (k r) Q)
        -∗ wpc c (onBufs (k0_part23 (F := F)) c v2 v453 v733 v739 v746 >>= k) Q) := by
  rw [k0_part23_eq_skeleton]; unfold onBufs k0_part23_skel
  simp only [Prog.lift, Prog.bind_op, Prog.bind_ret, Prog.pure_eq_ret]
  iintro #Hrec HZ HC H3 H4 HO Hk
  iapply (s_keep c 2 (slo 2 3 c) 48 (Acc A B 2 2 c) (Acc A B 2 3 c) (a3 2 c).1 (o68 c) (fun x => (pt_sc v746 _ x).trans (h746 x))) $$ HZ
  iintro HZ
  iapply (s_cast (A := A) (B := B) 2 3 c (by decide) (Acc A B 2 3 c) (fun _ => rfl) rfl (o68 c) rfl (o69 c) (fun v x => pt_tr v _ x)) $$ [$HZ $H3]
  iintro ⟨HZ, H3⟩
  iapply (s_send (A := A) (B := B) (K := K) 2 3 21 rfl c rfl rfl rfl (o70 c) rfl (v16 c).2.2.2.2.2.2.1 rfl rfl) $$ [$Hrec $H3 $HO]
  iintro ⟨H3, HO⟩
  iapply (m_add (A := A) (B := B) c 2 st2 (slo 2 4 c) 48 (s3 2 c).2.1 (a3 2 c).2.1 (o71 c) rfl (o52 2 c) (o71 c) (fun u v x => pt_ad u v _ x)) $$ [$HZ $HC]
  iintro ⟨HZ, HC⟩
  iapply (s_cast (A := A) (B := B) 2 4 c (by decide) (Acc A B 2 3 c) (fun _ => rfl) rfl (o71 c) rfl (o72 c) (fun v x => pt_tr v _ x)) $$ [$HZ $H4]
  iintro ⟨HZ, H4⟩
  iapply Hk $$ HZ HC H3 H4 HO

theorem part24 (v2 v453 v738 w : BitVec 32) {k : _ → Prog (TpuEff nD τ sig (Elt F) Λ₀ .tc) α} {Q : α → sProp 𝕄} :
    records A B K
      ⊢ iprop(ZW zM 2 c [(slo 2 5 c, 48, Acc A B 2 2 c), (own 2 c, 48, Acc A B 2 2 c)] -∗ Came A B c 2 2 -∗ Full A B c 2 4 -∗ Fresh c 2 5 -∗ Ow c 22 -∗
        (∀ r, ZW zM 2 c [(own 2 c, 48, Acc A B 2 2 c)] -∗ Came A B c 2 2 -∗ Sent c 2 4 -∗ Full A B c 2 5 -∗ Ow c 23 -∗ wpc c (k r) Q)
        -∗ wpc c (onBufs (k0_part24 (F := F)) c v2 v453 v738 w >>= k) Q) := by
  rw [k0_part24_eq_skeleton]; unfold onBufs k0_part24_skel
  simp only [Prog.lift, Prog.bind_op, Prog.bind_ret, Prog.pure_eq_ret]
  iintro #Hrec HZ HC H4 H5 HO Hk
  iapply (s_send (A := A) (B := B) (K := K) 2 4 22 rfl c rfl rfl rfl (o73 c) rfl (v16 c).2.2.2.2.2.2.2.1 rfl rfl) $$ [$Hrec $H4 $HO]
  iintro ⟨H4, HO⟩
  iapply (m_add (A := A) (B := B) c 2 st2 (slo 2 5 c) 48 (s3 2 c).2.2.1 (a3 2 c).2.2 (o74 c) rfl (o56 2 c) (o74 c) (fun u v x => pt_ad u v _ x)) $$ [$HZ $HC]
  iintro ⟨HZ, HC⟩
  iapply (s_cast (A := A) (B := B) 2 5 c (by decide) (Acc A B 2 3 c) (fun _ => rfl) rfl (o74 c) rfl (o75 c) (fun v x => pt_tr v _ x)) $$ [$HZ $H5]
  iintro ⟨HZ, H5⟩
  iapply Hk $$ HZ HC H4 H5 HO

theorem part25 (v360 v406 v453 v597 v711 v723 v725 : BitVec 32) {k : _ → Prog (TpuEff nD τ sig (Elt F) Λ₀ .tc) α} {Q : α → sProp 𝕄} :
    records A B K
      ⊢ iprop(ZW zM 0 c [(own 0 c, 48, Acc A B 0 2 c)] -∗ Came A B c 0 2 -∗ ZW zM 1 c [(own 1 c, 48, Acc A B 1 2 c)] -∗ Came A B c 1 2
        -∗ ZW zM 2 c [(own 2 c, 48, Acc A B 2 2 c)] -∗ Came A B c 2 2 -∗ Full A B c 2 5 -∗ Ow c 23 -∗
        (∀ r, ZW zM 0 c [(own 0 c, 48, Acc A B 0 3 c)] -∗ Came A B c 0 2 -∗ ZW zM 1 c [(own 1 c, 48, Acc A B 1 3 c)] -∗ Came A B c 1 2
          -∗ ZW zM 2 c [(own 2 c, 48, Acc A B 2 3 c)] -∗ Came A B c 2 2 -∗ Sent c 2 5 -∗ Ow c 24 -∗ wpc c (k r) Q)
        -∗ wpc c (onBufs (k0_part25 (F := F)) c v360 v406 v453 v597 v711 v723 v725 >>= k) Q) := by
  rw [k0_part25_eq_skeleton]; unfold onBufs k0_part25_skel
  simp only [Prog.lift, Prog.bind_op, Prog.bind_ret, Prog.pure_eq_ret]
  iintro #Hrec HZ0 HC0 HZ1 HC1 HZ2 HC2 H5 HO Hk
  iapply (s_send (A := A) (B := B) (K := K) 2 5 23 rfl c rfl rfl rfl (o76 c) rfl (v16 c).2.2.2.2.2.2.2.2 rfl rfl) $$ [$Hrec $H5 $HO]
  iintro ⟨H5, HO⟩
  iapply (m_add (A := A) (B := B) c 0 st2 (own 0 c) 48 (s3 0 c).2.2.2 apart_nil (o77 c) rfl (o78 0 c) (o77 c) (fun u v x => pt_ad u v _ x)) $$ [$HZ0 $HC0]
  iintro ⟨HZ0, HC0⟩
  iapply (m_add (A := A) (B := B) c 1 st2 (own 1 c) 48 (s3 1 c).2.2.2 apart_nil (o79 c) rfl (o78 1 c) (o79 c) (fun u v x => pt_ad u v _ x)) $$ [$HZ1 $HC1]
  iintro ⟨HZ1, HC1⟩
  iapply (m_add (A := A) (B := B) c 2 st2 (own 2 c) 48 (s3 2 c).2.2.2 apart_nil (o80 c) rfl (o78 2 c) (o80 c) (fun u v x => pt_ad u v _ x)) $$ [$HZ2 $HC2]
  iintro ⟨HZ2, HC2⟩
  iapply Hk $$ HZ0 HC0 HZ1 HC1 HZ2 HC2 H5 HO

/-- Three transfers of a stream's quad, landed; the last only half waited for. -/
def Quad (A : Dev nD → S1536x768.Idx → F .bf16) (B : Dev nD → S768x1536.Idx → F .bf16) (c : Dev nD) (t : Fin 3) : sProp 𝕄 :=
  iprop(Came A B c t 3 ∗ Came A B c t 4 ∗ Half A B c t 5)
/-- Stream `t` with its own rows finished. -/
def Fin0 (A : Dev nD → S1536x768.Idx → F .bf16) (B : Dev nD → S768x1536.Idx → F .bf16) (c : Dev nD) (t : Fin 3) : sProp 𝕄 :=
  iprop(ZW zM t c [] ∗ (Came A B c t 3 ∗ Came A B c t 4 ∗ Came A B c t 5) ∗ ZW oM t c [] ∗ Ag A B c t (own t c) 48 fullShare)

theorem quad_intro {t : Fin 3} : (iprop(Came A B c t 3 ∗ Came A B c t 4 ∗ Half A B c t 5) : sProp 𝕄) ⊢ Quad A B c t := by
  unfold Quad; iintro H; iexact H

theorem part26 (v530 v558 : BitVec 32) {k : _ → Prog (TpuEff nD τ sig (Elt F) Λ₀ .tc) α} {Q : α → sProp 𝕄} :
    records A B K
      ⊢ iprop(Sent c 0 3 -∗ Sent c 0 4 -∗ Sent c 0 5 -∗ Ow c 24 -∗ (Quad A B c 0 -∗ Ow c 24 -∗ wpc c (k ⟨⟩) Q)
        -∗ wpc c (onBufs (k0_part26 (F := F)) c v530 v558 >>= k) Q) := by
  rw [k0_part26_eq_skeleton]; unfold onBufs k0_part26_skel
  simp only [Prog.lift, Prog.bind_op, Prog.bind_ret, Prog.pure_eq_ret]
  iintro #Hrec H3 H4 H5 HO Hk
  iapply (s_wait (A := A) (B := B) (K := K) 0 3 24 (by decide) c rfl rfl rfl rfl) $$ [$Hrec $H3 $HO]
  iintro ⟨H3, HO⟩
  iapply (s_wait (A := A) (B := B) (K := K) 0 4 24 (by decide) c rfl rfl rfl rfl) $$ [$Hrec $H4 $HO]
  iintro ⟨H4, HO⟩
  iapply (s_wait1 (A := A) (B := B) (K := K) 0 5 24 c rfl rfl) $$ [$Hrec $H5 $HO]
  iintro ⟨H5, HO⟩
  ihave HQ := (quad_intro (A := A) (B := B) c) $$ [$H3 $H4 $H5]
  iapply Hk $$ HQ HO

theorem part27 (v360 v586 v597 : BitVec 32) {k : _ → Prog (TpuEff nD τ sig (Elt F) Λ₀ .tc) α} {Q : α → sProp 𝕄} :
    records A B K
      ⊢ iprop(Quad A B c 0 -∗ ZW zM 0 c [(own 0 c, 48, Acc A B 0 3 c)] -∗ ZW oM 0 c [] -∗ Any (agM 0) c (R (own 0 c) 48) -∗ Ow c 24
        -∗ (Fin0 A B c 0 -∗ Ow c 24 -∗ wpc c (k ⟨⟩) Q)
        -∗ wpc c (onBufs (k0_part27 (F := F)) c v360 v586 v597 >>= k) Q) := by
  rw [k0_part27_eq_skeleton]; unfold onBufs k0_part27_skel Quad Fin0
  simp only [Prog.lift, Prog.bind_op, Prog.bind_ret, Prog.pure_eq_ret]
  iintro #Hrec ⟨H3, H4, H5⟩ HZ HW HA HO Hk
  iapply (s_wait2 (A := A) (B := B) (K := K) 0 5 24 (by decide) c rfl rfl) $$ [$Hrec $H5 $HO]
  iintro ⟨H5, HO⟩
  iapply (s_own (A := A) (B := B) 0 c (o77 c) rfl (o77 c) (P := k0_pay53) (N := k0_pay54) (fun z a b d x => pt_tr (k0_pay53 z a b d) _ x) rfl (o81 c)) $$ [$HZ $H3 $H4 $H5 $HW $HA]
  iintro H
  iapply Hk $$ H HO

theorem part28 (v644 v672 v700 : BitVec 32) {k : _ → Prog (TpuEff nD τ sig (Elt F) Λ₀ .tc) α} {Q : α → sProp 𝕄} :
    records A B K
      ⊢ iprop(Sent c 1 3 -∗ Sent c 1 4 -∗ Sent c 1 5 -∗ Ow c 24 -∗ (∀ r, Quad A B c 1 -∗ Ow c 24 -∗ wpc c (k r) Q)
        -∗ wpc c (onBufs (k0_part28 (F := F)) c v644 v672 v700 >>= k) Q) := by
  rw [k0_part28_eq_skeleton]; unfold onBufs k0_part28_skel
  simp only [Prog.lift, Prog.bind_op, Prog.bind_ret, Prog.pure_eq_ret]
  iintro #Hrec H3 H4 H5 HO Hk
  iapply (s_wait (A := A) (B := B) (K := K) 1 3 24 (by decide) c rfl rfl rfl rfl) $$ [$Hrec $H3 $HO]
  iintro ⟨H3, HO⟩
  iapply (s_wait (A := A) (B := B) (K := K) 1 4 24 (by decide) c rfl rfl rfl rfl) $$ [$Hrec $H4 $HO]
  iintro ⟨H4, HO⟩
  iapply (s_wait1 (A := A) (B := B) (K := K) 1 5 24 c rfl rfl) $$ [$Hrec $H5 $HO]
  iintro ⟨H5, HO⟩
  ihave HQ := (quad_intro (A := A) (B := B) c) $$ [$H3 $H4 $H5]
  iapply Hk $$ HQ HO

theorem part29 (v406 v711 v943 w : BitVec 32) {k : _ → Prog (TpuEff nD τ sig (Elt F) Λ₀ .tc) α} {Q : α → sProp 𝕄} :
    records A B K
      ⊢ iprop(Quad A B c 1 -∗ ZW zM 1 c [(own 1 c, 48, Acc A B 1 3 c)] -∗ ZW oM 1 c [] -∗ Any (agM 1) c (R (own 1 c) 48) -∗ Ow c 24
        -∗ (Fin0 A B c 1 -∗ Ow c 24 -∗ wpc c (k ⟨⟩) Q)
        -∗ wpc c (onBufs (k0_part29 (F := F)) c v406 v711 v943 w >>= k) Q) := by
  rw [k0_part29_eq_skeleton]; unfold onBufs k0_part29_skel Quad Fin0
  simp only [Prog.lift, Prog.bind_op, Prog.bind_ret, Prog.pure_eq_ret]
  iintro #Hrec ⟨H3, H4, H5⟩ HZ HW HA HO Hk
  iapply (s_wait2 (A := A) (B := B) (K := K) 1 5 24 (by decide) c rfl rfl) $$ [$Hrec $H5 $HO]
  iintro ⟨H5, HO⟩
  iapply (s_own (A := A) (B := B) 1 c (o79 c) rfl (o79 c) (P := k0_pay55) (N := k0_pay56) (fun z a b d x => pt_tr (k0_pay55 z a b d) _ x) rfl (o82 c)) $$ [$HZ $H3 $H4 $H5 $HW $HA]
  iintro H
  iapply Hk $$ H HO

theorem part30 (v758 v786 v814 : BitVec 32) {k : _ → Prog (TpuEff nD τ sig (Elt F) Λ₀ .tc) α} {Q : α → sProp 𝕄} :
    records A B K
      ⊢ iprop(Sent c 2 3 -∗ Sent c 2 4 -∗ Sent c 2 5 -∗ Ow c 24 -∗ (Quad A B c 2 -∗ Ow c 24 -∗ wpc c (k ⟨⟩) Q)
        -∗ wpc c (onBufs (k0_part30 (F := F)) c v758 v786 v814 >>= k) Q) := by
  rw [k0_part30_eq_skeleton]; unfold onBufs k0_part30_skel
  simp only [Prog.lift, Prog.bind_op, Prog.bind_ret, Prog.pure_eq_ret]
  iintro #Hrec H3 H4 H5 HO Hk
  iapply (s_wait (A := A) (B := B) (K := K) 2 3 24 (by decide) c rfl rfl rfl rfl) $$ [$Hrec $H3 $HO]
  iintro ⟨H3, HO⟩
  iapply (s_wait (A := A) (B := B) (K := K) 2 4 24 (by decide) c rfl rfl rfl rfl) $$ [$Hrec $H4 $HO]
  iintro ⟨H4, HO⟩
  iapply (s_wait1 (A := A) (B := B) (K := K) 2 5 24 c rfl rfl) $$ [$Hrec $H5 $HO]
  iintro ⟨H5, HO⟩
  ihave HQ := (quad_intro (A := A) (B := B) c) $$ [$H3 $H4 $H5]
  iapply Hk $$ HQ HO

theorem part31 (v2 v453 v825 : BitVec 32) {k : _ → Prog (TpuEff nD τ sig (Elt F) Λ₀ .tc) α} {Q : α → sProp 𝕄} :
    records A B K
      ⊢ iprop(Quad A B c 2 -∗ ZW zM 2 c [(own 2 c, 48, Acc A B 2 3 c)] -∗ ZW oM 2 c [] -∗ Any (agM 2) c (R (own 2 c) 48) -∗ Ow c 24
        -∗ (∀ r, Fin0 A B c 2 -∗ Ow c 24 -∗ wpc c (k r) Q)
        -∗ wpc c (onBufs (k0_part31 (F := F)) c v2 v453 v825 >>= k) Q) := by
  rw [k0_part31_eq_skeleton]; unfold onBufs k0_part31_skel Quad Fin0
  simp only [Prog.lift, Prog.bind_op, Prog.bind_ret, Prog.pure_eq_ret]
  iintro #Hrec ⟨H3, H4, H5⟩ HZ HW HA HO Hk
  iapply (s_wait2 (A := A) (B := B) (K := K) 2 5 24 (by decide) c rfl rfl) $$ [$Hrec $H5 $HO]
  iintro ⟨H5, HO⟩
  iapply (s_own (A := A) (B := B) 2 c (o80 c) rfl (o80 c) (P := k0_pay57) (N := k0_pay58) (fun z a b d x => pt_tr (k0_pay57 z a b d) _ x) rfl (o83 c)) $$ [$HZ $H3 $H4 $H5 $HW $HA]
  iintro H
  iapply Hk $$ H HO

end
end Cert.GemmProof
-- ==== Proof.Parts4.lean ====
/-
# Finished rows passed back up, and written out
-/
module

public import proofs.«01_k».proof.Proof.Parts3

@[expose] public section

set_option maxRecDepth 65536

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]
variable {α : Type}

local notation "𝕄" => MT nD τ sig Unit (Elt F) ℕ UU ℕ

section
variable {A : Dev nD → S1536x768.Idx → F .bf16} {B : Dev nD → S768x1536.Idx → F .bf16} {K : Dev nD × KI → ℕ}
variable (c : Dev nD)
theorem mem_R' {l h : ℕ} {i : S1536x512.Idx} : i ∈ R l h ↔ l ≤ row (n := 1536) (w := 512) i ∧ row (n := 1536) (w := 512) i < l + h := mem_R

theorem R_cup {l a b r : ℕ} (hl : (a = l ∧ b = l + r) ∨ (a = l + r ∧ b = l)) (h : ℕ) (hh : h = r + r) : R l h = R a r ∪ R b r := by
  ext i
  rw [Finset.mem_union, mem_R', mem_R', mem_R']
  omega
theorem R_cap {a b r : ℕ} (h : a + r ≤ b ∨ b + r ≤ a) : Disjoint (R a r) (R b r) := by
  rw [Finset.disjoint_left]
  intro i hi hi'
  rw [mem_R'] at hi hi'
  omega

/-- Half of a share of finished rows goes into the next transfer. -/
theorem up_split (t : Fin 3) (j : Fin 12) (hj : 9 ≤ j.val) :
    (iprop(Kit c t j ∗ Ag A B c t (slo t j c) (hgt j) fullShare) : sProp 𝕄)
      ⊢ iprop(Full A B c t j ∗ Ag A B c t (slo t j c) (hgt j) fullShare.right) := by
  obtain rfl | rfl | rfl : j = 9 ∨ j = 10 ∨ j = 11 := by omega
  all_goals
    unfold Full Ag
    iintro ⟨HK, H⟩
    ihave H := (own_share (PosShare.mem_left_op_right fullShare)) $$ H
    icases H with ⟨H1, H2⟩
    isplitr [H2]
    · isplitl [HK]
      · iexact HK
      · iexact H1
    · iexact H2

/-- What a transfer back brought, joined to the rows that went the other way. -/
theorem up_join (t : Fin 3) (j : Fin 12) (hj : 9 ≤ j.val) (l n : ℕ) (hn : n = hgt j + hgt j)
    (hl : (slo t j c = l ∧ dlo t j c = l + hgt j) ∨ (slo t j c = l + hgt j ∧ dlo t j c = l)) :
    (iprop(Came A B c t j ∗ Ag A B c t (slo t j c) (hgt j) fullShare.right) : sProp 𝕄)
      ⊢ iprop(Done c t j ∗ Ag A B c t l n fullShare) := by
  have hL : ∀ i ∈ R (dlo t j c) (hgt j), landV A B t j c i = Gt A B t i := fun i hi =>
    landV_back A B t j c i (by omega) (mem_R'.1 hi).1
  have key : (iprop(Own (agM t) c (R (slo t j c) (hgt j)) fullShare.left (Gt A B t)
      ∗ Own (agM t) c (R (dlo t j c) (hgt j)) fullShare (landV A B t j c)
      ∗ Own (agM t) c (R (slo t j c) (hgt j)) fullShare.right (Gt A B t)) : sProp 𝕄) ⊢ Own (agM t) c (R l n) fullShare (Gt A B t) := by
    iintro ⟨H1, H2, H3⟩
    ihave H := (own_unshare (PosShare.mem_left_op_right fullShare)) $$ [$H1 $H3]
    iapply (own_join (R_cup hl n hn) (R_cap (by omega)) (fun _ _ => rfl) hL) $$ [$H $H2]
  unfold Ag
  refine BIBase.Entails.trans ?_ (sep_mono_right key)
  unfold Came Done Lent Landed
  obtain rfl | rfl | rfl : j = 9 ∨ j = 10 ∨ j = 11 := by omega
  all_goals
    iintro ⟨⟨⟨HZ, H1⟩, HY, H2⟩, H3⟩
    isplitl [HZ HY]
    · isplitl [HZ]
      · iexact HZ
      · iexact HY
    · isplitl [H1]
      · iexact H1
      · isplitl [H2]
        · iexact H2
        · iexact H3

/-- The own rows, shared three ways, start on their way round the quad. -/
theorem ag_quad (t : Fin 3) :
    (iprop(Kit c t 6 ∗ Kit c t 7 ∗ Kit c t 8 ∗ Ag A B c t (own t c) 48 fullShare) : sProp 𝕄)
      ⊢ iprop(Full A B c t 6 ∗ Full A B c t 7 ∗ Full A B c t 8) := by
  unfold Full Ag
  iintro ⟨H6, H7, H8, H⟩
  ihave H := (own_share (PosShare.mem_left_op_right fullShare)) $$ H
  icases H with ⟨H1, H2⟩
  ihave H := (own_share (PosShare.mem_left_op_right fullShare.right)) $$ H2
  icases H with ⟨H2, H3⟩
  isplitl [H6 H1]
  · isplitl [H6]
    · iexact H6
    · iexact H1
  · isplitl [H7 H2]
    · isplitl [H7]
      · iexact H7
      · iexact H2
    · isplitl [H8]
      · iexact H8
      · iexact H3

/-- The four blocks of the quad make the device's window of 192 rows. -/
theorem ag_join (t : Fin 3) :
    (iprop(Came A B c t 6 ∗ Came A B c t 7 ∗ Came A B c t 8) : sProp 𝕄)
      ⊢ iprop((Done c t 6 ∗ Done c t 7 ∗ Done c t 8) ∗ Ag A B c t (lo t 3 c) 192 fullShare) := by
  have hq := quads t c
  have hL : ∀ j : Fin 12, 6 ≤ j.val → ∀ i ∈ R (dlo t j c) 48, landV A B t j c i = Gt A B t i := fun j hj i hi =>
    landV_back A B t j c i hj (mem_R'.1 hi).1
  have key : (iprop((Own (agM t) c (R (own t c) 48) fullShare.left (Gt A B t) ∗ Own (agM t) c (R (dlo t 6 c) 48) fullShare (landV A B t 6 c))
      ∗ (Own (agM t) c (R (own t c) 48) fullShare.right.left (Gt A B t) ∗ Own (agM t) c (R (dlo t 7 c) 48) fullShare (landV A B t 7 c))
      ∗ (Own (agM t) c (R (own t c) 48) fullShare.right.right (Gt A B t) ∗ Own (agM t) c (R (dlo t 8 c) 48) fullShare (landV A B t 8 c))) : sProp 𝕄)
      ⊢ Own (agM t) c (R (lo t 3 c) 192) fullShare (Gt A B t) := by
    iintro ⟨⟨H1, H6⟩, ⟨H2, H7⟩, H3, H8⟩
    ihave H := (own_unshare (PosShare.mem_left_op_right fullShare.right)) $$ [$H2 $H3]
    ihave H := (own_unshare (PosShare.mem_left_op_right fullShare)) $$ [$H1 $H]
    ihave H := (own_join (g := Gt A B t) (rfl : R (own t c) 48 ∪ R (dlo t 6 c) 48 = _) (R_cap (by omega)) (fun _ _ => rfl) (hL 6 (by decide))) $$ [$H $H6]
    ihave H' := (own_join (g := Gt A B t) (rfl : R (dlo t 7 c) 48 ∪ R (dlo t 8 c) 48 = _) (R_cap (by omega)) (hL 7 (by decide)) (hL 8 (by decide))) $$ [$H7 $H8]
    iapply (own_join (g := Gt A B t) (I := R (own t c) 48 ∪ R (dlo t 6 c) 48) (J := R (dlo t 7 c) 48 ∪ R (dlo t 8 c) 48)
      (by ext i; simp only [Finset.mem_union, mem_R']; omega)
      (by rw [Finset.disjoint_left]; intro i; simp only [Finset.mem_union, mem_R']; omega) (fun _ _ => rfl) (fun _ _ => rfl)) $$ [$H $H']
  unfold Ag
  refine BIBase.Entails.trans ?_ (sep_mono_right key)
  unfold Came Done Lent Landed
  iintro ⟨⟨⟨HZ, H1⟩, HY, H2⟩, ⟨⟨HZ', H1'⟩, HY', H2'⟩, ⟨HZ2, H12⟩, HY2, H22⟩
  isplitl [HZ HY HZ' HY' HZ2 HY2]
  · isplitl [HZ HY]
    · isplitl [HZ]
      · iexact HZ
      · iexact HY
    · isplitl [HZ' HY']
      · isplitl [HZ']
        · iexact HZ'
        · iexact HY'
      · isplitl [HZ2]
        · iexact HZ2
        · iexact HY2
  · isplitl [H1 H2]
    · isplitl [H1]
      · iexact H1
      · iexact H2
    · isplitl [H1' H2']
      · isplitl [H1']
        · iexact H1'
        · iexact H2'
      · isplitl [H12]
        · iexact H12
        · iexact H22

/-- The semaphores of the quad's way back. -/
def QDone (c : Dev nD) (t : Fin 3) : sProp 𝕄 := iprop(Done c t 6 ∗ Done c t 7 ∗ Done c t 8)

theorem up9 (t : Fin 3) : (iprop(Came A B c t 6 ∗ Came A B c t 7 ∗ Came A B c t 8 ∗ Kit c t 9) : sProp 𝕄)
    ⊢ iprop(QDone c t ∗ Full A B c t 9 ∗ Ag A B c t (lo t 3 c) 192 fullShare.right) := by
  unfold QDone
  iintro ⟨H6, H7, H8, HK⟩
  ihave H := (ag_join (A := A) (B := B) c t) $$ [$H6 $H7 $H8]
  icases H with ⟨HD, H⟩
  ihave H := (up_split (A := A) (B := B) c t 9 (by decide)) $$ [HK H]
  · isplitl [HK]
    · iexact HK
    · iexact H
  icases H with ⟨HF, H⟩
  isplitl [HD]; · iexact HD
  isplitl [HF]; · iexact HF
  iexact H
theorem up10 (t : Fin 3) : (iprop(Came A B c t 9 ∗ Ag A B c t (lo t 3 c) 192 fullShare.right ∗ Kit c t 10) : sProp 𝕄)
    ⊢ iprop(Done c t 9 ∗ Full A B c t 10 ∗ Ag A B c t (lo t 2 c) 384 fullShare.right) := by
  have h := halves t c
  have h' := dlo_up t c
  iintro ⟨H9, H, HK⟩
  ihave H := (up_join (A := A) (B := B) c t 9 (by decide) (lo t 2 c) 384 rfl
    (by rw [h'.1, show hgt 9 = 192 from rfl, show slo t 9 c = lo t 3 c from rfl]; omega)) $$ [H9 H]
  · isplitl [H9]
    · iexact H9
    · iexact H
  icases H with ⟨HD, H⟩
  ihave H := (up_split (A := A) (B := B) c t 10 (by decide)) $$ [HK H]
  · isplitl [HK]
    · iexact HK
    · iexact H
  icases H with ⟨HF, H⟩
  isplitl [HD]; · iexact HD
  isplitl [HF]; · iexact HF
  iexact H
theorem up11 (t : Fin 3) : (iprop(Came A B c t 10 ∗ Ag A B c t (lo t 2 c) 384 fullShare.right ∗ Kit c t 11) : sProp 𝕄)
    ⊢ iprop(Done c t 10 ∗ Full A B c t 11 ∗ Ag A B c t (lo t 1 c) 768 fullShare.right) := by
  have h := halves t c
  have h' := dlo_up t c
  iintro ⟨H9, H, HK⟩
  ihave H := (up_join (A := A) (B := B) c t 10 (by decide) (lo t 1 c) 768 rfl
    (by rw [h'.2.1, show hgt 10 = 384 from rfl, show slo t 10 c = lo t 2 c from rfl]; omega)) $$ [H9 H]
  · isplitl [H9]
    · iexact H9
    · iexact H
  icases H with ⟨HD, H⟩
  ihave H := (up_split (A := A) (B := B) c t 11 (by decide)) $$ [HK H]
  · isplitl [HK]
    · iexact HK
    · iexact H
  icases H with ⟨HF, H⟩
  isplitl [HD]; · iexact HD
  isplitl [HF]; · iexact HF
  iexact H
theorem up12 (t : Fin 3) : (iprop(Came A B c t 11 ∗ Ag A B c t (lo t 1 c) 768 fullShare.right) : sProp 𝕄)
    ⊢ iprop(Done c t 11 ∗ Ag A B c t 0 1536 fullShare) := by
  have h := halves t c
  have h' := dlo_up t c
  exact up_join (A := A) (B := B) c t 11 (by decide) 0 1536 rfl
    (by rw [h'.2.2, show hgt 11 = 768 from rfl, show slo t 11 c = lo t 1 c from rfl]; omega)

/-! ## The output's windows -/

abbrev O3 (A : Dev nD → S1536x768.Idx → F .bf16) (B : Dev nD → S768x1536.Idx → F .bf16) (c : Dev nD) (t : Fin 3) : List (Wd F) :=
  [(lo t 3 c, 192, Ge A B t)]
abbrev O9 (A : Dev nD → S1536x768.Idx → F .bf16) (B : Dev nD → S768x1536.Idx → F .bf16) (c : Dev nD) (t : Fin 3) : List (Wd F) :=
  (dlo t 9 c, 192, Ge A B t) :: O3 A B c t
abbrev O10 (A : Dev nD → S1536x768.Idx → F .bf16) (B : Dev nD → S768x1536.Idx → F .bf16) (c : Dev nD) (t : Fin 3) : List (Wd F) :=
  (dlo t 10 c, 384, Ge A B t) :: O9 A B c t
abbrev O11 (A : Dev nD → S1536x768.Idx → F .bf16) (B : Dev nD → S768x1536.Idx → F .bf16) (c : Dev nD) (t : Fin 3) : List (Wd F) :=
  (dlo t 11 c, 768, Ge A B t) :: O10 A B c t

theorem ap9 (t : Fin 3) : Apart (O3 A B c t) (dlo t 9 c) 192 :=
  apart_cons (by have := halves t c; have := dlo_up t c; omega) apart_nil
theorem ap10 (t : Fin 3) : Apart (O9 A B c t) (dlo t 10 c) 384 :=
  apart_cons (by have := halves t c; have := dlo_up t c; omega)
    (apart_cons (by have := halves t c; have := dlo_up t c; omega) apart_nil)
theorem ap11 (t : Fin 3) : Apart (O10 A B c t) (dlo t 11 c) 768 :=
  apart_cons (by have := halves t c; have := dlo_up t c; omega)
    (apart_cons (by have := halves t c; have := dlo_up t c; omega)
      (apart_cons (by have := halves t c; have := dlo_up t c; omega) apart_nil))
theorem sub9 (t : Fin 3) : lo t 2 c ≤ dlo t 9 c ∧ dlo t 9 c + 192 ≤ lo t 2 c + 384 := by
  have := halves t c; have := dlo_up t c; omega
theorem sub10 (t : Fin 3) : lo t 1 c ≤ dlo t 10 c ∧ dlo t 10 c + 384 ≤ lo t 1 c + 768 := by
  have := halves t c; have := dlo_up t c; omega
theorem sub11 (t : Fin 3) : 0 ≤ dlo t 11 c ∧ dlo t 11 c + 768 ≤ 0 + 1536 := by
  have := halves t c; have := dlo_up t c; omega

/-! ## The exit barrier's units -/

theorem iki_exit : ∀ (q : Fin 6), iki ⟨42 + q.val, by omega⟩ = .inl true := by decide
theorem iq_exit : ∀ (q : Fin 6), iq ⟨42 + q.val, by omega⟩ = q := by decide

def Unit1 (c : Dev nD) (q : Fin 6) : sProp 𝕄 := dutyTok ER (kc (pr (mask6 q) c) (.inl true)) 0 q

theorem s_unit1 (q : Fin 6) {n : ℕ} (hn : n = 42 + q.val) {d : Dev nD} (hd : d.val = (pr (mask6 q) c).val) {sm : Sem sig} (hsm : sm = exS)
    {k' : ℕ} (hk' : k' = 1) {k : PUnit → Prog (TpuEff nD τ sig (Elt F) Λ₀ .tc) α} {Q : α → sProp 𝕄} :
    iprop(records A B K ∗ Unit1 c q ∗ Ow c n)
      ⊢ iprop((Ow c (n + 1) -∗ wpc c (k ⟨⟩) Q) -∗ wpc c (.op (.semSignal (Dev.tc d : Thread nD τ) sm k') k) Q) := by
  subst hn hsm
  have hq := q.isLt
  unfold Unit1
  iintro ⟨#Hrec, Ht, HO⟩ Hk
  have e : kpay A B (pr (mask6 q) c) q (some (.inl true)) = BI.emp := rfl
  iapply (wp_unit A B K true q ⟨42 + q.val, by omega⟩ (iki_exit q) (iq_exit q) c (Fin.ext hd) rfl hk') $$ [Ht HO]
  · isplitr; · iexact Hrec
    isplitl [Ht]; · iexact Ht
    isplitr; · rw [e]; iempintro
    iexact HO
  iexact Hk

/-! ## The parts -/

theorem part32 (v2 : BitVec 32) {k : _ → Prog (TpuEff nD τ sig (Elt F) Λ₀ .tc) α} {Q : α → sProp 𝕄} :
    records A B K
      ⊢ iprop(Full A B c 0 6 -∗ Full A B c 0 7 -∗ Full A B c 0 8 -∗ Full A B c 1 6 -∗ Ow c 24 -∗
        (∀ r, Sent c 0 6 -∗ Sent c 0 7 -∗ Sent c 0 8 -∗ Sent c 1 6 -∗ Ow c 28 -∗ wpc c (k r) Q)
        -∗ wpc c (onBufs (k0_part32 (F := F)) c v2 >>= k) Q) := by
  rw [k0_part32_eq_skeleton]; unfold onBufs k0_part32_skel
  simp only [Prog.lift, Prog.bind_op, Prog.bind_ret, Prog.pure_eq_ret]
  iintro #Hrec H06 H07 H08 H16 HO Hk
  iapply (s_send (A := A) (B := B) (K := K) 0 6 24 rfl c rfl rfl rfl (o84 c) (o_back (by decide) (o84 c)) (v25 c).1 rfl rfl) $$ [$Hrec $H06 $HO]
  iintro ⟨H06, HO⟩
  iapply (s_send (A := A) (B := B) (K := K) 0 7 25 rfl c rfl rfl rfl (o84 c) (o_back (by decide) (o84 c)) (v25 c).2.1 rfl rfl) $$ [$Hrec $H07 $HO]
  iintro ⟨H07, HO⟩
  iapply (s_send (A := A) (B := B) (K := K) 0 8 26 rfl c rfl rfl rfl (o84 c) (o_back (by decide) (o84 c)) (v25 c).2.2.1 rfl rfl) $$ [$Hrec $H08 $HO]
  iintro ⟨H08, HO⟩
  iapply (s_send (A := A) (B := B) (K := K) 1 6 27 rfl c rfl rfl rfl (o85 c) (o_back (by decide) (o85 c)) (v25 c).2.2.2.1 rfl rfl) $$ [$Hrec $H16 $HO]
  iintro ⟨H16, HO⟩
  iapply Hk $$ H06 H07 H08 H16 HO

theorem part33 (v2 v1070 : BitVec 32) {k : _ → Prog (TpuEff nD τ sig (Elt F) Λ₀ .tc) α} {Q : α → sProp 𝕄} :
    records A B K
      ⊢ iprop(Full A B c 1 7 -∗ Full A B c 1 8 -∗ Full A B c 2 6 -∗ Ow c 28 -∗
        (∀ r, Sent c 1 7 -∗ Sent c 1 8 -∗ Sent c 2 6 -∗ Ow c 31 -∗ wpc c (k r) Q)
        -∗ wpc c (onBufs (k0_part33 (F := F)) c v2 v1070 >>= k) Q) := by
  rw [k0_part33_eq_skeleton]; unfold onBufs k0_part33_skel
  simp only [Prog.lift, Prog.bind_op, Prog.bind_ret, Prog.pure_eq_ret]
  iintro #Hrec H17 H18 H26 HO Hk
  iapply (s_send (A := A) (B := B) (K := K) 1 7 28 rfl c rfl rfl rfl (o85 c) (o_back (by decide) (o85 c)) (v25 c).2.2.2.2.1 rfl rfl) $$ [$Hrec $H17 $HO]
  iintro ⟨H17, HO⟩
  iapply (s_send (A := A) (B := B) (K := K) 1 8 29 rfl c rfl rfl rfl (o85 c) (o_back (by decide) (o85 c)) (v25 c).2.2.2.2.2.1 rfl rfl) $$ [$Hrec $H18 $HO]
  iintro ⟨H18, HO⟩
  iapply (s_send (A := A) (B := B) (K := K) 2 6 30 rfl c rfl rfl rfl (o86 c) (o_back (by decide) (o86 c)) (v25 c).2.2.2.2.2.2.1 rfl rfl) $$ [$Hrec $H26 $HO]
  iintro ⟨H26, HO⟩
  iapply Hk $$ H17 H18 H26 HO

theorem part34 (v2 v1033 v1042 : BitVec 32) {k : _ → Prog (TpuEff nD τ sig (Elt F) Λ₀ .tc) α} {Q : α → sProp 𝕄} :
    records A B K
      ⊢ iprop(Full A B c 2 7 -∗ Full A B c 2 8 -∗ Sent c 0 6 -∗ Sent c 0 7 -∗ Ow c 31 -∗
        (∀ r, Sent c 2 7 -∗ Sent c 2 8 -∗ Came A B c 0 6 -∗ Half A B c 0 7 -∗ Ow c 33 -∗ wpc c (k r) Q)
        -∗ wpc c (onBufs (k0_part34 (F := F)) c v2 v1033 v1042 >>= k) Q) := by
  rw [k0_part34_eq_skeleton]; unfold onBufs k0_part34_skel
  simp only [Prog.lift, Prog.bind_op, Prog.bind_ret, Prog.pure_eq_ret]
  iintro #Hrec H27 H28 H06 H07 HO Hk
  iapply (s_send (A := A) (B := B) (K := K) 2 7 31 rfl c rfl rfl rfl (o86 c) (o_back (by decide) (o86 c)) (v25 c).2.2.2.2.2.2.2.1 rfl rfl) $$ [$Hrec $H27 $HO]
  iintro ⟨H27, HO⟩
  iapply (s_send (A := A) (B := B) (K := K) 2 8 32 rfl c rfl rfl rfl (o86 c) (o_back (by decide) (o86 c)) (v25 c).2.2.2.2.2.2.2.2 rfl rfl) $$ [$Hrec $H28 $HO]
  iintro ⟨H28, HO⟩
  iapply (s_wait (A := A) (B := B) (K := K) 0 6 33 (by decide) c rfl rfl rfl rfl) $$ [$Hrec $H06 $HO]
  iintro ⟨H06, HO⟩
  iapply (s_wait1 (A := A) (B := B) (K := K) 0 7 33 c rfl rfl) $$ [$Hrec $H07 $HO]
  iintro ⟨H07, HO⟩
  iapply Hk $$ H27 H28 H06 H07 HO

theorem part35 (v1051 v1060 : BitVec 32) {k : _ → Prog (TpuEff nD τ sig (Elt F) Λ₀ .tc) α} {Q : α → sProp 𝕄} :
    records A B K
      ⊢ iprop(Half A B c 0 7 -∗ Sent c 0 8 -∗ Sent c 1 6 -∗ Ow c 33 -∗
        (Came A B c 0 7 -∗ Came A B c 0 8 -∗ Came A B c 1 6 -∗ Ow c 33 -∗ wpc c (k ⟨⟩) Q)
        -∗ wpc c (onBufs (k0_part35 (F := F)) c v1051 v1060 >>= k) Q) := by
  rw [k0_part35_eq_skeleton]; unfold onBufs k0_part35_skel
  simp only [Prog.lift, Prog.bind_op, Prog.bind_ret, Prog.pure_eq_ret]
  iintro #Hrec H07 H08 H16 HO Hk
  iapply (s_wait2 (A := A) (B := B) (K := K) 0 7 33 (by decide) c rfl rfl) $$ [$Hrec $H07 $HO]
  iintro ⟨H07, HO⟩
  iapply (s_wait (A := A) (B := B) (K := K) 0 8 33 (by decide) c rfl rfl rfl rfl) $$ [$Hrec $H08 $HO]
  iintro ⟨H08, HO⟩
  iapply (s_wait (A := A) (B := B) (K := K) 1 6 33 (by decide) c rfl rfl rfl rfl) $$ [$Hrec $H16 $HO]
  iintro ⟨H16, HO⟩
  iapply Hk $$ H07 H08 H16 HO

theorem part36 (v1069 v1078 v1087 : BitVec 32) {k : _ → Prog (TpuEff nD τ sig (Elt F) Λ₀ .tc) α} {Q : α → sProp 𝕄} :
    records A B K
      ⊢ iprop(Sent c 1 7 -∗ Sent c 1 8 -∗ Sent c 2 6 -∗ Ow c 33 -∗
        (Came A B c 1 7 -∗ Came A B c 1 8 -∗ Came A B c 2 6 -∗ Ow c 33 -∗ wpc c (k ⟨⟩) Q)
        -∗ wpc c (onBufs (k0_part36 (F := F)) c v1069 v1078 v1087 >>= k) Q) := by
  rw [k0_part36_eq_skeleton]; unfold onBufs k0_part36_skel
  simp only [Prog.lift, Prog.bind_op, Prog.bind_ret, Prog.pure_eq_ret]
  iintro #Hrec H17 H18 H26 HO Hk
  iapply (s_wait (A := A) (B := B) (K := K) 1 7 33 (by decide) c rfl rfl rfl rfl) $$ [$Hrec $H17 $HO]
  iintro ⟨H17, HO⟩
  iapply (s_wait (A := A) (B := B) (K := K) 1 8 33 (by decide) c rfl rfl rfl rfl) $$ [$Hrec $H18 $HO]
  iintro ⟨H18, HO⟩
  iapply (s_wait (A := A) (B := B) (K := K) 2 6 33 (by decide) c rfl rfl rfl rfl) $$ [$Hrec $H26 $HO]
  iintro ⟨H26, HO⟩
  iapply Hk $$ H17 H18 H26 HO

theorem part37 (v2 v1096 v1105 : BitVec 32) {k : _ → Prog (TpuEff nD τ sig (Elt F) Λ₀ .tc) α} {Q : α → sProp 𝕄} :
    records A B K
      ⊢ iprop(Sent c 2 7 -∗ Sent c 2 8 -∗ Ow c 33 -∗
        (∀ r, Came A B c 2 7 -∗ Came A B c 2 8 -∗ Ow c 33 -∗ wpc c (k r) Q)
        -∗ wpc c (onBufs (k0_part37 (F := F)) c v2 v1096 v1105 >>= k) Q) := by
  rw [k0_part37_eq_skeleton]; unfold onBufs k0_part37_skel
  simp only [Prog.lift, Prog.bind_op, Prog.bind_ret, Prog.pure_eq_ret]
  iintro #Hrec H27 H28 HO Hk
  iapply (s_wait (A := A) (B := B) (K := K) 2 7 33 (by decide) c rfl rfl rfl rfl) $$ [$Hrec $H27 $HO]
  iintro ⟨H27, HO⟩
  iapply (s_wait (A := A) (B := B) (K := K) 2 8 33 (by decide) c rfl rfl rfl rfl) $$ [$Hrec $H28 $HO]
  iintro ⟨H28, HO⟩
  iapply Hk $$ H27 H28 HO

theorem part38 (v2 v360 v406 v1205 : BitVec 32) {k : _ → Prog (TpuEff nD τ sig (Elt F) Λ₀ .tc) α} {Q : α → sProp 𝕄} :
    records A B K
      ⊢ iprop(Full A B c 0 9 -∗ Ag A B c 0 (lo 0 3 c) 192 fullShare.right -∗ ZW oM 0 c ([]) -∗ Full A B c 1 9 -∗ Ag A B c 1 (lo 1 3 c) 192 fullShare.right -∗ ZW oM 1 c ([]) -∗ Ow c 33 -∗
        (∀ r, Sent c 0 9 -∗ Ag A B c 0 (lo 0 3 c) 192 fullShare.right -∗ ZW oM 0 c (O3 A B c 0) -∗ Sent c 1 9 -∗ Ag A B c 1 (lo 1 3 c) 192 fullShare.right -∗ ZW oM 1 c (O3 A B c 1) -∗ Ow c 35 -∗ wpc c (k r) Q)
        -∗ wpc c (onBufs (k0_part38 (F := F)) c v2 v360 v406 v1205 >>= k) Q) := by
  rw [k0_part38_eq_skeleton]; unfold onBufs k0_part38_skel
  simp only [Prog.lift, Prog.bind_op, Prog.bind_ret, Prog.pure_eq_ret]
  iintro #Hrec H09 HA0 HW0 H19 HA1 HW1 HO Hk
  iapply (s_send (A := A) (B := B) (K := K) 0 9 33 rfl c rfl rfl rfl (o87 c) (o_back (by decide) (o87 c)) (v34 c).1 rfl rfl) $$ [$Hrec $H09 $HO]
  iintro ⟨H09, HO⟩
  iapply (s_out (A := A) (B := B) 0 c (lo 0 3 c) 192 (lo 0 3 c) 192 le_rfl le_rfl apart_nil rfl (o88 c) (o42 c) (fun _ _ => rfl)) $$ [$HA0 $HW0]
  iintro ⟨HA0, HW0⟩
  iapply (s_send (A := A) (B := B) (K := K) 1 9 34 rfl c rfl rfl rfl (o89 c) (o_back (by decide) (o89 c)) (v34 c).2.1 rfl rfl) $$ [$Hrec $H19 $HO]
  iintro ⟨H19, HO⟩
  iapply (s_out (A := A) (B := B) 1 c (lo 1 3 c) 192 (lo 1 3 c) 192 le_rfl le_rfl apart_nil rfl (o90 c) (o44 c) (fun _ _ => rfl)) $$ [$HA1 $HW1]
  iintro ⟨HA1, HW1⟩
  iapply Hk $$ H09 HA0 HW0 H19 HA1 HW1 HO

theorem part39 (v2 v406 v453 v1206 v1227 v1244 : BitVec 32) {k : _ → Prog (TpuEff nD τ sig (Elt F) Λ₀ .tc) α} {Q : α → sProp 𝕄} :
    records A B K
      ⊢ iprop(Full A B c 2 9 -∗ Ag A B c 2 (lo 2 3 c) 192 fullShare.right -∗ ZW oM 2 c ([]) -∗ Sent c 0 9 -∗ Ow c 35 -∗
        (∀ r, Sent c 2 9 -∗ Ag A B c 2 (lo 2 3 c) 192 fullShare.right -∗ ZW oM 2 c (O3 A B c 2) -∗ Half A B c 0 9 -∗ Ow c 36 -∗ wpc c (k r) Q)
        -∗ wpc c (onBufs (k0_part39 (F := F)) c v2 v406 v453 v1206 v1227 v1244 >>= k) Q) := by
  rw [k0_part39_eq_skeleton]; unfold onBufs k0_part39_skel
  simp only [Prog.lift, Prog.bind_op, Prog.bind_ret, Prog.pure_eq_ret]
  iintro #Hrec H29 HA2 HW2 H09 HO Hk
  iapply (s_send (A := A) (B := B) (K := K) 2 9 35 rfl c rfl rfl rfl (o91 c) (o_back (by decide) (o91 c)) (v34 c).2.2.1 rfl rfl) $$ [$Hrec $H29 $HO]
  iintro ⟨H29, HO⟩
  iapply (s_out (A := A) (B := B) 2 c (lo 2 3 c) 192 (lo 2 3 c) 192 le_rfl le_rfl apart_nil rfl (o92 c) (o45 c) (fun _ _ => rfl)) $$ [$HA2 $HW2]
  iintro ⟨HA2, HW2⟩
  iapply (s_wait1 (A := A) (B := B) (K := K) 0 9 36 c rfl rfl) $$ [$Hrec $H09 $HO]
  iintro ⟨H09, HO⟩
  iapply Hk $$ H29 HA2 HW2 H09 HO

theorem part40 (v2 v1223 v1225 v1228 : BitVec 32) {k : _ → Prog (TpuEff nD τ sig (Elt F) Λ₀ .tc) α} {Q : α → sProp 𝕄} :
    records A B K
      ⊢ iprop(Half A B c 0 9 -∗ Ag A B c 0 (lo 0 3 c) 192 fullShare.right -∗ Kit c 0 10 -∗ ZW oM 0 c (O3 A B c 0) -∗ Sent c 1 9 -∗ Ow c 36 -∗
        (∀ r, Done c 0 9 -∗ Sent c 0 10 -∗ Ag A B c 0 (lo 0 2 c) 384 fullShare.right -∗ ZW oM 0 c (O9 A B c 0) -∗ Half A B c 1 9 -∗ Ow c 37 -∗ wpc c (k r) Q)
        -∗ wpc c (onBufs (k0_part40 (F := F)) c v2 v1223 v1225 v1228 >>= k) Q) := by
  rw [k0_part40_eq_skeleton]; unfold onBufs k0_part40_skel
  simp only [Prog.lift, Prog.bind_op, Prog.bind_ret, Prog.pure_eq_ret]
  iintro #Hrec H09 HA0 HK0 HW0 H19 HO Hk
  iapply (s_wait2 (A := A) (B := B) (K := K) 0 9 36 (by decide) c rfl rfl) $$ [$Hrec $H09 $HO]
  iintro ⟨H09, HO⟩
  ihave HU := (up10 (A := A) (B := B) c 0) $$ [$H09 $HA0 $HK0]
  icases HU with ⟨HD0, H010, HA0⟩
  iapply (s_send (A := A) (B := B) (K := K) 0 10 36 rfl c rfl rfl rfl (o93 c) (o_back (by decide) (o93 c)) (v34 c).2.2.2.1 rfl rfl) $$ [$Hrec $H010 $HO]
  iintro ⟨H010, HO⟩
  iapply (s_out (A := A) (B := B) 0 c (lo 0 2 c) 384 (dlo 0 9 c) 192 (sub9 c 0).1 (sub9 c 0).2 (ap9 c 0) rfl (o94 c) (o95 c) (fun _ _ => rfl)) $$ [$HA0 $HW0]
  iintro ⟨HA0, HW0⟩
  iapply (s_wait1 (A := A) (B := B) (K := K) 1 9 37 c rfl rfl) $$ [$Hrec $H19 $HO]
  iintro ⟨H19, HO⟩
  iapply Hk $$ HD0 H010 HA0 HW0 H19 HO

theorem part41 (v2 v1245 v1247 v1307 : BitVec 32) {k : _ → Prog (TpuEff nD τ sig (Elt F) Λ₀ .tc) α} {Q : α → sProp 𝕄} :
    records A B K
      ⊢ iprop(Half A B c 1 9 -∗ Ag A B c 1 (lo 1 3 c) 192 fullShare.right -∗ Kit c 1 10 -∗ ZW oM 1 c (O3 A B c 1) -∗ Sent c 2 9 -∗ Ow c 37 -∗
        (∀ r, Done c 1 9 -∗ Sent c 1 10 -∗ Ag A B c 1 (lo 1 2 c) 384 fullShare.right -∗ ZW oM 1 c (O9 A B c 1) -∗ Half A B c 2 9 -∗ Ow c 38 -∗ wpc c (k r) Q)
        -∗ wpc c (onBufs (k0_part41 (F := F)) c v2 v1245 v1247 v1307 >>= k) Q) := by
  rw [k0_part41_eq_skeleton]; unfold onBufs k0_part41_skel
  simp only [Prog.lift, Prog.bind_op, Prog.bind_ret, Prog.pure_eq_ret]
  iintro #Hrec H19 HA1 HK1 HW1 H29 HO Hk
  iapply (s_wait2 (A := A) (B := B) (K := K) 1 9 37 (by decide) c rfl rfl) $$ [$Hrec $H19 $HO]
  iintro ⟨H19, HO⟩
  ihave HU := (up10 (A := A) (B := B) c 1) $$ [$H19 $HA1 $HK1]
  icases HU with ⟨HD1, H110, HA1⟩
  iapply (s_send (A := A) (B := B) (K := K) 1 10 37 rfl c rfl rfl rfl (o96 c) (o_back (by decide) (o96 c)) (v34 c).2.2.2.2.1 rfl rfl) $$ [$Hrec $H110 $HO]
  iintro ⟨H110, HO⟩
  iapply (s_out (A := A) (B := B) 1 c (lo 1 2 c) 384 (dlo 1 9 c) 192 (sub9 c 1).1 (sub9 c 1).2 (ap9 c 1) rfl (o97 c) (o98 c) (fun _ _ => rfl)) $$ [$HA1 $HW1]
  iintro ⟨HA1, HW1⟩
  iapply (s_wait1 (A := A) (B := B) (K := K) 2 9 38 c rfl rfl) $$ [$Hrec $H29 $HO]
  iintro ⟨H29, HO⟩
  iapply Hk $$ HD1 H110 HA1 HW1 H29 HO

theorem part42 (v2 v1251 v1268 v1270 : BitVec 32) {k : _ → Prog (TpuEff nD τ sig (Elt F) Λ₀ .tc) α} {Q : α → sProp 𝕄} :
    records A B K
      ⊢ iprop(Half A B c 2 9 -∗ Ag A B c 2 (lo 2 3 c) 192 fullShare.right -∗ Kit c 2 10 -∗ ZW oM 2 c (O3 A B c 2) -∗ Ow c 38 -∗
        (∀ r, Done c 2 9 -∗ Sent c 2 10 -∗ Ag A B c 2 (lo 2 2 c) 384 fullShare.right -∗ ZW oM 2 c (O9 A B c 2) -∗ Ow c 39 -∗ wpc c (k r) Q)
        -∗ wpc c (onBufs (k0_part42 (F := F)) c v2 v1251 v1268 v1270 >>= k) Q) := by
  rw [k0_part42_eq_skeleton]; unfold onBufs k0_part42_skel
  simp only [Prog.lift, Prog.bind_op, Prog.bind_ret, Prog.pure_eq_ret]
  iintro #Hrec H29 HA2 HK2 HW2 HO Hk
  iapply (s_wait2 (A := A) (B := B) (K := K) 2 9 38 (by decide) c rfl rfl) $$ [$Hrec $H29 $HO]
  iintro ⟨H29, HO⟩
  ihave HU := (up10 (A := A) (B := B) c 2) $$ [$H29 $HA2 $HK2]
  icases HU with ⟨HD2, H210, HA2⟩
  iapply (s_send (A := A) (B := B) (K := K) 2 10 38 rfl c rfl rfl rfl (o99 c) (o_back (by decide) (o99 c)) (v34 c).2.2.2.2.2.1 rfl rfl) $$ [$Hrec $H210 $HO]
  iintro ⟨H210, HO⟩
  iapply (s_out (A := A) (B := B) 2 c (lo 2 2 c) 384 (dlo 2 9 c) 192 (sub9 c 2).1 (sub9 c 2).2 (ap9 c 2) rfl (o100 c) (o101 c) (fun _ _ => rfl)) $$ [$HA2 $HW2]
  iintro ⟨HA2, HW2⟩
  iapply Hk $$ HD2 H210 HA2 HW2 HO

theorem part43 (v2 v1283 v1300 v1302 : BitVec 32) {k : _ → Prog (TpuEff nD τ sig (Elt F) Λ₀ .tc) α} {Q : α → sProp 𝕄} :
    records A B K
      ⊢ iprop(Sent c 0 10 -∗ Ag A B c 0 (lo 0 2 c) 384 fullShare.right -∗ Kit c 0 11 -∗ ZW oM 0 c (O9 A B c 0) -∗ Ow c 39 -∗
        (∀ r, Done c 0 10 -∗ Sent c 0 11 -∗ Ag A B c 0 (lo 0 1 c) 768 fullShare.right -∗ ZW oM 0 c (O10 A B c 0) -∗ Ow c 40 -∗ wpc c (k r) Q)
        -∗ wpc c (onBufs (k0_part43 (F := F)) c v2 v1283 v1300 v1302 >>= k) Q) := by
  rw [k0_part43_eq_skeleton]; unfold onBufs k0_part43_skel
  simp only [Prog.lift, Prog.bind_op, Prog.bind_ret, Prog.pure_eq_ret]
  iintro #Hrec H010 HA0 HK0 HW0 HO Hk
  iapply (s_wait (A := A) (B := B) (K := K) 0 10 39 (by decide) c rfl rfl rfl rfl) $$ [$Hrec $H010 $HO]
  iintro ⟨H010, HO⟩
  ihave HU := (up11 (A := A) (B := B) c 0) $$ [$H010 $HA0 $HK0]
  icases HU with ⟨HD0, H011, HA0⟩
  iapply (s_send (A := A) (B := B) (K := K) 0 11 39 rfl c rfl rfl rfl (o102 c) (o_back (by decide) (o102 c)) (v34 c).2.2.2.2.2.2.1 rfl rfl) $$ [$Hrec $H011 $HO]
  iintro ⟨H011, HO⟩
  iapply (s_out (A := A) (B := B) 0 c (lo 0 1 c) 768 (dlo 0 10 c) 384 (sub10 c 0).1 (sub10 c 0).2 (ap10 c 0) rfl (o103 c) (o104 c) (fun _ _ => rfl)) $$ [$HA0 $HW0]
  iintro ⟨HA0, HW0⟩
  iapply Hk $$ HD0 H011 HA0 HW0 HO

theorem part44 (v2 v1316 v1333 v1335 : BitVec 32) {k : _ → Prog (TpuEff nD τ sig (Elt F) Λ₀ .tc) α} {Q : α → sProp 𝕄} :
    records A B K
      ⊢ iprop(Sent c 1 10 -∗ Ag A B c 1 (lo 1 2 c) 384 fullShare.right -∗ Kit c 1 11 -∗ ZW oM 1 c (O9 A B c 1) -∗ Sent c 2 10 -∗ Ow c 40 -∗
        (∀ r, Done c 1 10 -∗ Sent c 1 11 -∗ Ag A B c 1 (lo 1 1 c) 768 fullShare.right -∗ ZW oM 1 c (O10 A B c 1) -∗ Half A B c 2 10 -∗ Ow c 41 -∗ wpc c (k r) Q)
        -∗ wpc c (onBufs (k0_part44 (F := F)) c v2 v1316 v1333 v1335 >>= k) Q) := by
  rw [k0_part44_eq_skeleton]; unfold onBufs k0_part44_skel
  simp only [Prog.lift, Prog.bind_op, Prog.bind_ret, Prog.pure_eq_ret]
  iintro #Hrec H110 HA1 HK1 HW1 H210 HO Hk
  iapply (s_wait (A := A) (B := B) (K := K) 1 10 40 (by decide) c rfl rfl rfl rfl) $$ [$Hrec $H110 $HO]
  iintro ⟨H110, HO⟩
  ihave HU := (up11 (A := A) (B := B) c 1) $$ [$H110 $HA1 $HK1]
  icases HU with ⟨HD1, H111, HA1⟩
  iapply (s_send (A := A) (B := B) (K := K) 1 11 40 rfl c rfl rfl rfl (o105 c) (o_back (by decide) (o105 c)) (v34 c).2.2.2.2.2.2.2.1 rfl rfl) $$ [$Hrec $H111 $HO]
  iintro ⟨H111, HO⟩
  iapply (s_out (A := A) (B := B) 1 c (lo 1 1 c) 768 (dlo 1 10 c) 384 (sub10 c 1).1 (sub10 c 1).2 (ap10 c 1) rfl (o106 c) (o107 c) (fun _ _ => rfl)) $$ [$HA1 $HW1]
  iintro ⟨HA1, HW1⟩
  iapply (s_wait1 (A := A) (B := B) (K := K) 2 10 41 c rfl rfl) $$ [$Hrec $H210 $HO]
  iintro ⟨H210, HO⟩
  iapply Hk $$ HD1 H111 HA1 HW1 H210 HO

theorem part45 (v2 v1348 v1365 v1367 : BitVec 32) {k : _ → Prog (TpuEff nD τ sig (Elt F) Λ₀ .tc) α} {Q : α → sProp 𝕄} :
    records A B K
      ⊢ iprop(Half A B c 2 10 -∗ Ag A B c 2 (lo 2 2 c) 384 fullShare.right -∗ Kit c 2 11 -∗ ZW oM 2 c (O9 A B c 2) -∗ Sent c 0 11 -∗ Ow c 41 -∗
        (∀ r, Done c 2 10 -∗ Sent c 2 11 -∗ Ag A B c 2 (lo 2 1 c) 768 fullShare.right -∗ ZW oM 2 c (O10 A B c 2) -∗ Half A B c 0 11 -∗ Ow c 42 -∗ wpc c (k r) Q)
        -∗ wpc c (onBufs (k0_part45 (F := F)) c v2 v1348 v1365 v1367 >>= k) Q) := by
  rw [k0_part45_eq_skeleton]; unfold onBufs k0_part45_skel
  simp only [Prog.lift, Prog.bind_op, Prog.bind_ret, Prog.pure_eq_ret]
  iintro #Hrec H210 HA2 HK2 HW2 H011 HO Hk
  iapply (s_wait2 (A := A) (B := B) (K := K) 2 10 41 (by decide) c rfl rfl) $$ [$Hrec $H210 $HO]
  iintro ⟨H210, HO⟩
  ihave HU := (up11 (A := A) (B := B) c 2) $$ [$H210 $HA2 $HK2]
  icases HU with ⟨HD2, H211, HA2⟩
  iapply (s_send (A := A) (B := B) (K := K) 2 11 41 rfl c rfl rfl rfl (o108 c) (o_back (by decide) (o108 c)) (v34 c).2.2.2.2.2.2.2.2 rfl rfl) $$ [$Hrec $H211 $HO]
  iintro ⟨H211, HO⟩
  iapply (s_out (A := A) (B := B) 2 c (lo 2 1 c) 768 (dlo 2 10 c) 384 (sub10 c 2).1 (sub10 c 2).2 (ap10 c 2) rfl (o109 c) (o110 c) (fun _ _ => rfl)) $$ [$HA2 $HW2]
  iintro ⟨HA2, HW2⟩
  iapply (s_wait1 (A := A) (B := B) (K := K) 0 11 42 c rfl rfl) $$ [$Hrec $H011 $HO]
  iintro ⟨H011, HO⟩
  iapply Hk $$ HD2 H211 HA2 HW2 H011 HO

theorem part46 (v1381 v1398 v1411 v1428 : BitVec 32) {k : _ → Prog (TpuEff nD τ sig (Elt F) Λ₀ .tc) α} {Q : α → sProp 𝕄} :
    records A B K
      ⊢ iprop(Half A B c 0 11 -∗ Ag A B c 0 (lo 0 1 c) 768 fullShare.right -∗ ZW oM 0 c (O10 A B c 0) -∗ Sent c 1 11 -∗ Ag A B c 1 (lo 1 1 c) 768 fullShare.right -∗ ZW oM 1 c (O10 A B c 1) -∗ Ow c 42 -∗
        (Done c 0 11 -∗ Ag A B c 0 0 1536 fullShare -∗ ZW oM 0 c (O11 A B c 0) -∗ Done c 1 11 -∗ Ag A B c 1 0 1536 fullShare -∗ ZW oM 1 c (O11 A B c 1) -∗ Ow c 42 -∗ wpc c (k ⟨⟩) Q)
        -∗ wpc c (onBufs (k0_part46 (F := F)) c v1381 v1398 v1411 v1428 >>= k) Q) := by
  rw [k0_part46_eq_skeleton]; unfold onBufs k0_part46_skel
  simp only [Prog.lift, Prog.bind_op, Prog.bind_ret, Prog.pure_eq_ret]
  iintro #Hrec H011 HA0 HW0 H111 HA1 HW1 HO Hk
  iapply (s_wait2 (A := A) (B := B) (K := K) 0 11 42 (by decide) c rfl rfl) $$ [$Hrec $H011 $HO]
  iintro ⟨H011, HO⟩
  ihave HU := (up12 (A := A) (B := B) c 0) $$ [$H011 $HA0]
  icases HU with ⟨HD0, HA0⟩
  iapply (s_out (A := A) (B := B) 0 c 0 1536 (dlo 0 11 c) 768 (sub11 c 0).1 (sub11 c 0).2 (ap11 c 0) rfl (o111 c) (o112 c) (fun _ _ => rfl)) $$ [$HA0 $HW0]
  iintro ⟨HA0, HW0⟩
  iapply (s_wait (A := A) (B := B) (K := K) 1 11 42 (by decide) c rfl rfl rfl rfl) $$ [$Hrec $H111 $HO]
  iintro ⟨H111, HO⟩
  ihave HU := (up12 (A := A) (B := B) c 1) $$ [$H111 $HA1]
  icases HU with ⟨HD1, HA1⟩
  iapply (s_out (A := A) (B := B) 1 c 0 1536 (dlo 1 11 c) 768 (sub11 c 1).1 (sub11 c 1).2 (ap11 c 1) rfl (o113 c) (o114 c) (fun _ _ => rfl)) $$ [$HA1 $HW1]
  iintro ⟨HA1, HW1⟩
  iapply Hk $$ HD0 HA0 HW0 HD1 HA1 HW1 HO

theorem part47 (v2 v1441 v1458 : BitVec 32) {k : _ → Prog (TpuEff nD τ sig (Elt F) Λ₀ .tc) α} {Q : α → sProp 𝕄} :
    records A B K
      ⊢ iprop(Sent c 2 11 -∗ Ag A B c 2 (lo 2 1 c) 768 fullShare.right -∗ ZW oM 2 c (O10 A B c 2) -∗ Unit1 c 0 -∗ Unit1 c 1 -∗ Unit1 c 2 -∗ Unit1 c 3 -∗ Ow c 42 -∗
        (∀ r, Done c 2 11 -∗ Ag A B c 2 0 1536 fullShare -∗ ZW oM 2 c (O11 A B c 2) -∗ Ow c 46 -∗ wpc c (k r) Q)
        -∗ wpc c (onBufs (k0_part47 (F := F)) c v2 v1441 v1458 >>= k) Q) := by
  rw [k0_part47_eq_skeleton]; unfold onBufs k0_part47_skel
  simp only [semSignalWord, Prog.lift, Prog.bind_op, Prog.bind_ret, Prog.pure_eq_ret]
  iintro #Hrec H211 HA2 HW2 HE0 HE1 HE2 HE3 HO Hk
  iapply (s_wait (A := A) (B := B) (K := K) 2 11 42 (by decide) c rfl rfl rfl rfl) $$ [$Hrec $H211 $HO]
  iintro ⟨H211, HO⟩
  ihave HU := (up12 (A := A) (B := B) c 2) $$ [$H211 $HA2]
  icases HU with ⟨HD2, HA2⟩
  iapply (s_out (A := A) (B := B) 2 c 0 1536 (dlo 2 11 c) 768 (sub11 c 2).1 (sub11 c 2).2 (ap11 c 2) rfl (o115 c) (o116 c) (fun _ _ => rfl)) $$ [$HA2 $HW2]
  iintro ⟨HA2, HW2⟩
  iapply (s_unit1 (A := A) (B := B) (K := K) c 0 rfl (v43 c).1 rfl rfl) $$ [$Hrec $HE0 $HO]
  iintro HO
  iapply (s_unit1 (A := A) (B := B) (K := K) c 1 rfl (v43 c).2.1 rfl rfl) $$ [$Hrec $HE1 $HO]
  iintro HO
  iapply (s_unit1 (A := A) (B := B) (K := K) c 2 rfl (v43 c).2.2.1 rfl rfl) $$ [$Hrec $HE2 $HO]
  iintro HO
  iapply (s_unit1 (A := A) (B := B) (K := K) c 3 rfl (v43 c).2.2.2.1 rfl rfl) $$ [$Hrec $HE3 $HO]
  iintro HO
  iapply Hk $$ HD2 HA2 HW2 HO

end

end Cert.GemmProof
-- ==== Proof.Bands.lean ====
/-
# Cutting the buffers into bands, and putting them back
-/
module

public import proofs.«01_k».proof.Proof.Parts4

@[expose] public section

set_option maxRecDepth 65536

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]
variable {α : Type}

local notation "𝕄" => MT nD τ sig Unit (Elt F) ℕ UU ℕ

section
variable {A : Dev nD → S1536x768.Idx → F .bf16} {B : Dev nD → S768x1536.Idx → F .bf16} {K : Dev nD × KI → ℕ}
variable (c : Dev nD)

/-- A window cut in two at `r`, in either order. -/
def Hf (l a b r : ℕ) : Prop := (a = l ∧ b = l + r) ∨ (a = l + r ∧ b = l)

/-- Seven bands that make up the 1536 rows. -/
def Cuts (b0 b1 b2 b3 b4 b5 b6 : ℕ) : Prop :=
  ∃ l1 l2 l3 m m', Hf 0 b0 l1 768 ∧ Hf l1 b1 l2 384 ∧ Hf l2 b2 l3 192 ∧ Hf l3 m m' 96 ∧ Hf m b3 b4 48 ∧ Hf m' b5 b6 48

theorem cuts_send (t : Fin 3) : Cuts (slo t 0 c) (slo t 1 c) (slo t 2 c) (own t c) (slo t 4 c) (slo t 3 c) (slo t 5 c) := by
  have h := halves t c; have q := quads t c; have s := slo_quads t c
  unfold Cuts Hf
  rcases q with q | q | q | q
  · exact ⟨lo t 1 c, lo t 2 c, lo t 3 c, lo t 3 c, lo t 3 c + 96, by omega, by omega, by omega, by omega, by omega, by omega⟩
  · exact ⟨lo t 1 c, lo t 2 c, lo t 3 c, lo t 3 c, lo t 3 c + 96, by omega, by omega, by omega, by omega, by omega, by omega⟩
  · exact ⟨lo t 1 c, lo t 2 c, lo t 3 c, lo t 3 c + 96, lo t 3 c, by omega, by omega, by omega, by omega, by omega, by omega⟩
  · exact ⟨lo t 1 c, lo t 2 c, lo t 3 c, lo t 3 c + 96, lo t 3 c, by omega, by omega, by omega, by omega, by omega, by omega⟩
theorem cuts_back (t : Fin 3) : Cuts (dlo t 11 c) (dlo t 10 c) (dlo t 9 c) (own t c) (dlo t 7 c) (dlo t 6 c) (dlo t 8 c) := by
  have h := cuts_send c t; have s := slo_quads t c; have u := dlo_up t c
  rw [u.1, u.2.1, u.2.2, ← s.1, ← s.2.1, ← s.2.2]; exact h
theorem cuts_land (t : Fin 3) : Cuts (dlo t 0 c) (dlo t 1 c) (dlo t 2 c) (dlo t 3 c) (dlo t 4 c) (dlo t 5 c) 1488 :=
  ⟨768, 1152, 1344, 1344, 1440, .inl ⟨rfl, rfl⟩, .inl ⟨rfl, rfl⟩, .inl ⟨rfl, rfl⟩, .inl ⟨rfl, rfl⟩, .inl ⟨rfl, rfl⟩, .inl ⟨rfl, rfl⟩⟩

variable {m : Memref sig .tc .vmem S1536x512 .bf16}

theorem any_cut {l a b : ℕ} (r n : ℕ) (h : Hf l a b r) (hn : n = r + r) :
    (Any m c (R l n) : sProp 𝕄) ⊢ iprop(Any m c (R a r) ∗ Any m c (R b r)) :=
  any_split (R_cup h n hn) (R_cap (by unfold Hf at h; omega))
theorem any_paste {l a b : ℕ} (r n : ℕ) (h : Hf l a b r) (hn : n = r + r) :
    (iprop(Any m c (R a r) ∗ Any m c (R b r)) : sProp 𝕄) ⊢ Any m c (R l n) := by
  have e : ∀ g, (iprop(Own m c (R a r) fullShare g ∗ Any m c (R b r)) : sProp 𝕄) ⊢ Any m c (R l n) := fun g =>
    any_join (R_cup h n hn) (R_cap (by unfold Hf at h; omega))
  conv_lhs => rw [Any]
  iintro ⟨⟨%g, H⟩, H'⟩
  iapply (e g) $$ [$H $H']

theorem R_all : (Finset.univ : Finset S1536x512.Idx) = R 0 1536 := by
  ext i
  rw [mem_R']
  have := row_lt (n := 1536) (w := 512) i
  simp only [Finset.mem_univ, true_iff]
  omega

theorem tiles {b0 b1 b2 b3 b4 b5 b6 : ℕ} (h : Cuts b0 b1 b2 b3 b4 b5 b6) :
    (Any m c Finset.univ : sProp 𝕄) ⊢ iprop(Any m c (R b0 768) ∗ Any m c (R b1 384) ∗ Any m c (R b2 192)
      ∗ Any m c (R b3 48) ∗ Any m c (R b4 48) ∗ Any m c (R b5 48) ∗ Any m c (R b6 48)) := by
  obtain ⟨l1, l2, l3, p, p', h0, h1, h2, h3, h4, h5⟩ := h
  rw [R_all]
  iintro H
  ihave H := (any_cut c 768 1536 h0 rfl) $$ H
  icases H with ⟨H0, H⟩
  ihave H := (any_cut c 384 768 h1 rfl) $$ H
  icases H with ⟨H1, H⟩
  ihave H := (any_cut c 192 384 h2 rfl) $$ H
  icases H with ⟨H2, H⟩
  ihave H := (any_cut c 96 192 h3 rfl) $$ H
  icases H with ⟨H, H'⟩
  ihave H := (any_cut c 48 96 h4 rfl) $$ H
  icases H with ⟨H3, H4⟩
  ihave H := (any_cut c 48 96 h5 rfl) $$ H'
  icases H with ⟨H5, H6⟩
  iframe H0 H1 H2 H3 H4 H5 H6
theorem untile {b0 b1 b2 b3 b4 b5 b6 : ℕ} (h : Cuts b0 b1 b2 b3 b4 b5 b6) :
    (iprop(Any m c (R b0 768) ∗ Any m c (R b1 384) ∗ Any m c (R b2 192)
      ∗ Any m c (R b3 48) ∗ Any m c (R b4 48) ∗ Any m c (R b5 48) ∗ Any m c (R b6 48)) : sProp 𝕄) ⊢ Any m c Finset.univ := by
  obtain ⟨l1, l2, l3, p, p', h0, h1, h2, h3, h4, h5⟩ := h
  rw [R_all]
  iintro ⟨H0, H1, H2, H3, H4, H5, H6⟩
  ihave H' := (any_paste c 48 96 h5 rfl) $$ [$H5 $H6]
  ihave H := (any_paste c 48 96 h4 rfl) $$ [$H3 $H4]
  ihave H := (any_paste c 96 192 h3 rfl) $$ [$H $H']
  ihave H := (any_paste c 192 384 h2 rfl) $$ [$H2 $H]
  ihave H := (any_paste c 384 768 h1 rfl) $$ [$H1 $H]
  iapply (any_paste c 768 1536 h0 rfl) $$ [$H0 $H]

theorem twelve (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [bigSep_univ_eq_bigSepL [0, 1, 2, 3, 4, 5, 6, 7, 8, 9, 10, 11] (by decide) (by decide)]
  simp only [bigSepL_cons_cons, bigSepL_singleton]
  rfl
theorem three (Φ : Fin 3 → sProp 𝕄) : bigSep Finset.univ Φ = iprop(Φ 0 ∗ Φ 1 ∗ Φ 2) := by
  rw [bigSep_univ_eq_bigSepL [0, 1, 2] (by decide) (by decide)]
  simp only [bigSepL_cons_cons, bigSepL_singleton]
  rfl

/-- The landing bands are cut off, for the partners to have. -/
theorem land_out (t : Fin 3) : (iprop(Any (rsM t) c Finset.univ ∗ Any (agM t) c Finset.univ) : sProp 𝕄)
    ⊢ iprop((bigSep Finset.univ fun j : Fin 12 => Land c (t, j)) ∗ Any (rsM t) c (R 1488 48) ∗ Any (agM t) c (R (own t c) 48)) := by
  rw [twelve]
  unfold Land
  iintro ⟨H, H'⟩
  ihave H := (tiles c (cuts_land c t)) $$ H
  ihave H' := (tiles c (cuts_back c t)) $$ H'
  icases H with ⟨H0, H1, H2, H3, H4, H5, Hr⟩
  icases H' with ⟨H11, H10, H9, Ho, H7, H6, H8⟩
  isplitr [Hr Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · isplitl [Hr]; · iexact Hr
    iexact Ho

/-- The bands to send from, each with its transfer. -/
theorem kits_in (t : Fin 3) : (iprop((bigSep Finset.univ fun j : Fin 12 => Kit c t j) ∗ Any (zbM t) c Finset.univ) : sProp 𝕄)
    ⊢ iprop((Fresh c t 0 ∗ Fresh c t 1 ∗ Fresh c t 2 ∗ Fresh c t 3 ∗ Fresh c t 4 ∗ Fresh c t 5)
      ∗ (Kit c t 6 ∗ Kit c t 7 ∗ Kit c t 8 ∗ Kit c t 9 ∗ Kit c t 10 ∗ Kit c t 11) ∗ Any (zbM t) c (R (own t c) 48)) := by
  rw [twelve]
  unfold Fresh
  iintro ⟨⟨K0, K1, K2, K3, K4, K5, HK⟩, H⟩
  ihave H := (tiles c (cuts_send c t)) $$ H
  icases H with ⟨H0, H1, H2, Ho, H4, H3, H5⟩
  isplitr [HK Ho]
  · isplitl [K0 H0]
    · isplitl [K0]
      · iexact K0
      · iexact H0
    isplitl [K1 H1]
    · isplitl [K1]
      · iexact K1
      · iexact H1
    isplitl [K2 H2]
    · isplitl [K2]
      · iexact K2
      · iexact H2
    isplitl [K3 H3]
    · isplitl [K3]
      · iexact K3
      · iexact H3
    isplitl [K4 H4]
    · isplitl [K4]
      · iexact K4
      · iexact H4
    isplitl [K5]
    · iexact K5
    · iexact H5
  · isplitl [HK]
    · iexact HK
    · iexact Ho

/-- A transfer of the way down, taken apart when all is over. -/
theorem came_apart (t : Fin 3) (j : Fin 12) (hj : j.val < 6) : (Came A B c t j : sProp 𝕄)
    ⊢ iprop(Done c t j ∗ Any (zbM t) c (R (slo t j c) (hgt j)) ∗ Any (rsM t) c (R (dlo t j c) (hgt j))) := by
  have e1 : (Lent A B c t j : sProp 𝕄) ⊢ Any (zbM t) c (R (slo t j c) (hgt j)) := by
    unfold Lent qs
    rw [if_pos hj, show srcM t j = zbM t from if_pos hj]
    exact any_of
  have e2 : (Landed A B c t j : sProp 𝕄) ⊢ Any (rsM t) c (R (dlo t j c) (hgt j)) := by
    unfold Landed
    rw [show dstM t j = rsM t from if_pos hj]
    exact any_of
  unfold Came Done
  iintro ⟨⟨HZ, H1⟩, HY, H2⟩
  ihave H1 := e1 $$ H1
  ihave H2 := e2 $$ H2
  iframe HZ HY H1 H2

theorem stream_out (t : Fin 3) :
    (iprop((Came A B c t 0 ∗ Came A B c t 1 ∗ Came A B c t 2 ∗ Came A B c t 3 ∗ Came A B c t 4 ∗ Came A B c t 5)
      ∗ (QDone c t ∗ Done c t 9 ∗ Done c t 10 ∗ Done c t 11)
      ∗ Any (zbM t) c (R (own t c) 48) ∗ Any (rsM t) c (R 1488 48) ∗ Ag A B c t 0 1536 fullShare) : sProp 𝕄)
    ⊢ iprop((bigSep Finset.univ fun j : Fin 12 => Done c t j)
      ∗ Any (zbM t) c Finset.univ ∗ Any (rsM t) c Finset.univ ∗ Any (agM t) c Finset.univ) := by
  have e : (Ag A B c t 0 1536 fullShare : sProp 𝕄) ⊢ Any (agM t) c Finset.univ := by
    rw [R_all]; unfold Ag; exact any_of
  rw [twelve]
  unfold QDone
  iintro ⟨⟨C0, C1, C2, C3, C4, C5⟩, ⟨⟨D6, D7, D8⟩, D9, D10, D11⟩, Hz, Hr, Ha⟩
  ihave Ha := e $$ Ha
  ihave C0 := (came_apart c t 0 (by decide)) $$ C0
  ihave C1 := (came_apart c t 1 (by decide)) $$ C1
  ihave C2 := (came_apart c t 2 (by decide)) $$ C2
  ihave C3 := (came_apart c t 3 (by decide)) $$ C3
  ihave C4 := (came_apart c t 4 (by decide)) $$ C4
  ihave C5 := (came_apart c t 5 (by decide)) $$ C5
  icases C0 with ⟨D0, Z0, R0⟩
  icases C1 with ⟨D1, Z1, R1⟩
  icases C2 with ⟨D2, Z2, R2⟩
  icases C3 with ⟨D3, Z3, R3⟩
  icases C4 with ⟨D4, Z4, R4⟩
  icases C5 with ⟨D5, Z5, R5⟩
  ihave HZ := (untile (m := zbM t) c (cuts_send c t)) $$ [Z0 Z1 Z2 Z3 Z4 Z5 Hz]
  · isplitl [Z0]; · iexact Z0
    isplitl [Z1]; · iexact Z1
    isplitl [Z2]; · iexact Z2
    isplitl [Hz]; · iexact Hz
    isplitl [Z4]; · iexact Z4
    isplitl [Z3]; · iexact Z3
    iexact Z5
  ihave HR := (untile (m := rsM t) c (cuts_land c t)) $$ [R0 R1 R2 R3 R4 R5 Hr]
  · isplitl [R0]; · iexact R0
    isplitl [R1]; · iexact R1
    isplitl [R2]; · iexact R2
    isplitl [R3]; · iexact R3
    isplitl [R4]; · iexact R4
    isplitl [R5]; · iexact R5
    iexact Hr
  isplitr [HZ HR Ha]
  · iframe D0 D1 D2 D3 D4 D5 D6 D7 D8 D9 D10 D11
  · iframe HZ HR Ha

/-! ## The three strips -/

variable {mz : Memref sig .tc .vmem S1536x1536 .f32}

theorem strips : (Finset.univ : Finset S1536x1536.Idx) = strip 0 ∪ (strip 1 ∪ strip 2) := by
  ext i
  have := col_lt (n := 1536) (w := 1536) i
  simp only [Finset.mem_union, mem_strip, Finset.mem_univ, true_iff]
  show _ ∨ _ ∨ _
  have h0 : ((0 : Fin 3) : ℕ) = 0 := rfl
  have h1 : ((1 : Fin 3) : ℕ) = 1 := rfl
  have h2 : ((2 : Fin 3) : ℕ) = 2 := rfl
  rw [h0, h1, h2]
  change col (n := 1536) (w := 1536) i < 1536 at this
  show (_ ≤ col (n := 1536) (w := 1536) i ∧ col (n := 1536) (w := 1536) i < _)
    ∨ (_ ≤ col (n := 1536) (w := 1536) i ∧ col (n := 1536) (w := 1536) i < _)
    ∨ (_ ≤ col (n := 1536) (w := 1536) i ∧ col (n := 1536) (w := 1536) i < _)
  omega
theorem strips_apart {t u : Fin 3} (h : t ≠ u) : Disjoint (strip t) (strip u) := by
  rw [Finset.disjoint_left]
  intro i hi hi'
  rw [mem_strip] at hi hi'
  have := Fin.val_ne_of_ne h
  omega
theorem strips_apart' : Disjoint (strip 0) (strip 1 ∪ strip 2) := by
  rw [Finset.disjoint_union_right]
  exact ⟨strips_apart (by decide), strips_apart (by decide)⟩

theorem zw_in : (Any mz c Finset.univ : sProp 𝕄) ⊢ iprop(ZW mz 0 c [] ∗ ZW mz 1 c [] ∗ ZW mz 2 c []) := by
  have e : ∀ t, (Any mz c (strip t) : sProp 𝕄) ⊢ ZW mz t c [] := fun t => by
    unfold Any ZW
    iintro ⟨%g, H⟩
    iexists g
    isplitr
    · ipureintro; intro w hw; cases hw
    · iexact H
  iintro H
  ihave H := (any_split strips strips_apart') $$ H
  icases H with ⟨H0, H⟩
  ihave H := (any_split (rfl : strip 1 ∪ strip 2 = _) (strips_apart (by decide))) $$ H
  icases H with ⟨H1, H2⟩
  ihave H0 := (e 0) $$ H0
  ihave H1 := (e 1) $$ H1
  ihave H2 := (e 2) $$ H2
  iframe H0 H1 H2

theorem zw_own (t : Fin 3) {L : List (Wd F)} : (ZW mz t c L : sProp 𝕄) ⊢ iprop(∃ g, Own mz c (strip t) fullShare g) := by
  unfold ZW
  iintro ⟨%g, %hg, H⟩
  iexists g
  iexact H
theorem zw_out {L0 L1 L2 : List (Wd F)} : (iprop(ZW mz 0 c L0 ∗ ZW mz 1 c L1 ∗ ZW mz 2 c L2) : sProp 𝕄) ⊢ Any mz c Finset.univ := by
  iintro ⟨H0, H1, H2⟩
  ihave H0 := (zw_own c 0) $$ H0
  ihave H1 := (zw_own c 1) $$ H1
  ihave H2 := (zw_own c 2) $$ H2
  icases H0 with ⟨%g0, H0⟩
  icases H1 with ⟨%g1, H1⟩
  ihave H2 : Any mz c (strip 2) $$ [H2]
  · unfold Any; iexact H2
  ihave H := (any_join (rfl : strip 1 ∪ strip 2 = _) (strips_apart (by decide))) $$ [$H1 $H2]
  iapply (any_join strips strips_apart') $$ [$H0 $H]

/-- A strip of the output, all four windows of it written. -/
theorem out_strip (t : Fin 3) : (ZW mz t c (O11 A B c t) : sProp 𝕄) ⊢ Own mz c (strip t) fullShare (outF A B) := by
  unfold ZW
  iintro ⟨%g, %hg, H⟩
  iapply (own_mono (g := g) (g' := outF A B) ?_) $$ H
  intro i hi
  have h := halves t c
  have h' := dlo_up t c
  have hr := row_lt (n := 1536) (w := 1536) i
  change rwz i < 1536 at hr
  have hs := mem_strip.1 hi
  have key : g i = Ge A B t (zc t i) := by
    by_cases h1 : dlo t 11 c ≤ rwz i ∧ rwz i < dlo t 11 c + 768
    · exact hg (dlo t 11 c, 768, Ge A B t) (by simp [O11]) i hi h1.1 h1.2
    by_cases h2 : dlo t 10 c ≤ rwz i ∧ rwz i < dlo t 10 c + 384
    · exact hg (dlo t 10 c, 384, Ge A B t) (by simp [O11, O10]) i hi h2.1 h2.2
    by_cases h3 : dlo t 9 c ≤ rwz i ∧ rwz i < dlo t 9 c + 192
    · exact hg (dlo t 9 c, 192, Ge A B t) (by simp [O11, O10, O9]) i hi h3.1 h3.2
    · exact hg (lo t 3 c, 192, Ge A B t) (by simp [O11, O10, O9, O3]) i hi (by show lo t 3 c ≤ _; omega) (by show _ < lo t 3 c + 192; omega)
  rw [key]
  unfold Ge outF zc
  have e : strm (col (n := 1536) (w := 1536) i) = t := by
    apply Fin.ext
    show clz i / 512 % 3 = t.val
    have := t.isLt
    omega
  rw [e]
  have e' : ix (rwz i) (clz i - 512 * t.val) = ix (rwz i) (clz i) := by
    refine idx2_ext (n := 1536) (w := 512) ?_ ?_
    · rw [row_ix, row_ix]
    · rw [col_ix, col_ix]; omega
  rw [e']

theorem out_all : (iprop(ZW mz 0 c (O11 A B c 0) ∗ ZW mz 1 c (O11 A B c 1) ∗ ZW mz 2 c (O11 A B c 2)) : sProp 𝕄)
    ⊢ Own mz c Finset.univ fullShare (outF A B) := by
  iintro ⟨H0, H1, H2⟩
  ihave H0 := (out_strip c 0) $$ H0
  ihave H1 := (out_strip c 1) $$ H1
  ihave H2 := (out_strip c 2) $$ H2
  ihave H := (own_join (g := outF A B) (rfl : strip 1 ∪ strip 2 = _) (strips_apart (by decide)) (fun _ _ => rfl) (fun _ _ => rfl)) $$ [$H1 $H2]
  iapply (own_join strips strips_apart' (fun _ _ => rfl) (fun _ _ => rfl)) $$ [$H0 $H]

end

end Cert.GemmProof
-- ==== Proof.Parts2.lean ====
/-
# The second and third halving
-/
module

public import proofs.«01_k».proof.Proof.Parts1

@[expose] public section

set_option maxRecDepth 65536

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]
variable {α : Type}

local notation "𝕄" => MT nD τ sig Unit (Elt F) ℕ UU ℕ

section
variable {A : Dev nD → S1536x768.Idx → F .bf16} {B : Dev nD → S768x1536.Idx → F .bf16} {K : Dev nD × KI → ℕ}
variable (c : Dev nD)

theorem part6 (v2 v27 v157 v158 : BitVec 32) {k : _ → Prog (TpuEff nD τ sig (Elt F) Λ₀ .tc) α} {Q : α → sProp 𝕄} :
    records A B K
      ⊢ iprop(ZW zM 0 c [(lo 0 1 c, 768, Acc A B 0 0 c)] -∗ Came A B c 0 0 -∗ Fresh c 0 1 -∗ Ow c 9 -∗
        (∀ r, ZW zM 0 c [(lo 0 2 c, 384, Acc A B 0 0 c)] -∗ Came A B c 0 0 -∗ Sent c 0 1 -∗ Ow c 10 -∗ wpc c (k r) Q)
        -∗ wpc c (onBufs (k0_part6 (F := F)) c v2 v27 v157 v158 >>= k) Q) := by
  rw [k0_part6_eq_skeleton]; unfold onBufs k0_part6_skel
  simp only [Prog.lift, Prog.bind_op, Prog.bind_ret, Prog.pure_eq_ret]
  iintro #Hrec HZ HC H1 HO Hk
  ihave HZ := (z_halves 0 c _).1 $$ HZ
  iapply (m_add (A := A) (B := B) c 0 st0 (slo 0 1 c) 384 (s1 0 c).1 (a1 0 c) (o15 c) rfl (o16 c).1 (o15 c)
    (fun u v x => pt_ad u v _ x)) $$ [$HZ $HC]
  iintro ⟨HZ, HC⟩
  iapply (s_cast (A := A) (B := B) 0 1 c (by decide) (Acc A B 0 1 c) (fun _ => rfl) rfl (o15 c) rfl (o17 c) (fun v x => pt_tr v _ x)) $$ [$HZ $H1]
  iintro ⟨HZ, H1⟩
  iapply (s_send (A := A) (B := B) (K := K) 0 1 9 rfl c rfl rfl rfl (o18 c) rfl (v7 c).2.2.2.1 rfl rfl) $$ [$Hrec $H1 $HO]
  iintro ⟨H1, HO⟩
  iapply Hk $$ HZ HC H1 HO

theorem part7 (v2 v58 v76 : BitVec 32) {k : _ → Prog (TpuEff nD τ sig (Elt F) Λ₀ .tc) α} {Q : α → sProp 𝕄} :
    records A B K
      ⊢ iprop(ZW zM 1 c [(lo 1 1 c, 768, Acc A B 1 0 c)] -∗ Sent c 1 0 -∗ Fresh c 1 1 -∗ Ow c 10 -∗
        (∀ r, ZW zM 1 c [(lo 1 2 c, 384, Acc A B 1 0 c)] -∗ Came A B c 1 0 -∗ Full A B c 1 1 -∗ Ow c 10 -∗ wpc c (k r) Q)
        -∗ wpc c (onBufs (k0_part7 (F := F)) c v2 v58 v76 >>= k) Q) := by
  rw [k0_part7_eq_skeleton]; unfold onBufs k0_part7_skel
  simp only [Prog.lift, Prog.bind_op, Prog.bind_ret, Prog.pure_eq_ret]
  iintro #Hrec HZ HC H1 HO Hk
  iapply (s_wait (A := A) (B := B) (K := K) 1 0 10 (by decide) c rfl rfl rfl rfl) $$ [$Hrec $HC $HO]
  iintro ⟨HC, HO⟩
  ihave HZ := (z_halves 1 c _).1 $$ HZ
  iapply (m_add (A := A) (B := B) c 1 st0 (slo 1 1 c) 384 (s1 1 c).1 (a1 1 c) (o19 c) rfl (o20 c) (o19 c)
    (fun u v x => pt_ad u v _ x)) $$ [$HZ $HC]
  iintro ⟨HZ, HC⟩
  iapply (s_cast (A := A) (B := B) 1 1 c (by decide) (Acc A B 1 1 c) (fun _ => rfl) rfl (o19 c) rfl (o21 c) (fun v x => pt_tr v _ x)) $$ [$HZ $H1]
  iintro ⟨HZ, H1⟩
  iapply Hk $$ HZ HC H1 HO

theorem part8 (v2 v58 v89 v107 v207 v227 : BitVec 32) {k : _ → Prog (TpuEff nD τ sig (Elt F) Λ₀ .tc) α} {Q : α → sProp 𝕄} :
    records A B K
      ⊢ iprop(ZW zM 2 c [(lo 2 1 c, 768, Acc A B 2 0 c)] -∗ Sent c 2 0 -∗ Full A B c 1 1 -∗ Ow c 10 -∗
        (∀ r, ⌜r.2.2.2.2.2 = Win 384 (slo 2 1 c) (Acc A B 2 0 c)⌝ -∗ ZW zM 2 c [(lo 2 1 c, 768, Acc A B 2 0 c)] -∗ Came A B c 2 0 -∗ Sent c 1 1 -∗ Ow c 11
          -∗ wpc c (k r) Q)
        -∗ wpc c (onBufs (k0_part8 (F := F)) c v2 v58 v89 v107 v207 v227 >>= k) Q) := by
  rw [k0_part8_eq_skeleton]; unfold onBufs k0_part8_skel
  simp only [Prog.lift, Prog.bind_op, Prog.bind_ret, Prog.pure_eq_ret]
  iintro #Hrec HZ HC H1 HO Hk
  iapply (s_send (A := A) (B := B) (K := K) 1 1 10 rfl c rfl rfl rfl (o22 c) rfl (v7 c).2.2.2.2.1 rfl rfl) $$ [$Hrec $H1 $HO]
  iintro ⟨H1, HO⟩
  iapply (s_wait (A := A) (B := B) (K := K) 2 0 11 (by decide) c rfl rfl rfl rfl) $$ [$Hrec $HC $HO]
  iintro ⟨HC, HO⟩
  iapply (zload (lo 2 1 c) 768 (Acc A B 2 0 c) (slo 2 1 c) (.head _) (o23 c) (s1 2 c).1.1 (s1 2 c).1.2) $$ HZ
  iintro HZ
  iapply Hk $$ [] HZ HC H1 HO
  ipureintro; rfl

theorem part9 (v2 v89 v189 v190 v236 v237 v253 v254 : BitVec 32) {v257 : S384x512.Idx → Elt F .f32}
    (h257 : v257 = Win 384 (slo 2 1 c) (Acc A B 2 0 c)) {k : _ → Prog (TpuEff nD τ sig (Elt F) Λ₀ .tc) α} {Q : α → sProp 𝕄} :
    records A B K
      ⊢ iprop(ZW zM 2 c [(lo 2 1 c, 768, Acc A B 2 0 c)] -∗ Came A B c 2 0 -∗ Fresh c 2 1 -∗ ZW zM 0 c [(lo 0 2 c, 384, Acc A B 0 0 c)] -∗ Came A B c 0 0
        -∗ ZW zM 1 c [(lo 1 2 c, 384, Acc A B 1 0 c)] -∗ Ow c 11 -∗
        (∀ r, ⌜r.2.2.2.2 = Win 384 (lo 1 2 c) (Acc A B 1 0 c)⌝ -∗ ZW zM 2 c [(lo 2 2 c, 384, Acc A B 2 0 c)] -∗ Came A B c 2 0 -∗ Sent c 2 1
          -∗ ZW zM 0 c [(lo 0 2 c, 384, Acc A B 0 1 c)] -∗ Came A B c 0 0 -∗ ZW zM 1 c [(lo 1 2 c, 384, Acc A B 1 0 c)] -∗ Ow c 12
          -∗ wpc c (k r) Q)
        -∗ wpc c (onBufs (k0_part9 (F := F)) c v2 v89 v189 v190 v236 v237 v253 v254 v257 >>= k) Q) := by
  rw [k0_part9_eq_skeleton]; unfold onBufs k0_part9_skel
  simp only [Prog.lift, Prog.bind_op, Prog.bind_ret, Prog.pure_eq_ret]
  iintro #Hrec HZ HC H1 HZ0 HC0 HZ1 HO Hk
  ihave HZ := (z_halves 2 c _).1 $$ HZ
  iapply (m_add' (A := A) (B := B) c 2 st0 (slo 2 1 c) 384 (s1 2 c).1 (a1 2 c) h257 rfl (o16 c).2 (o23 c)
    (fun u v x => pt_ad u v _ x)) $$ [$HZ $HC]
  iintro ⟨HZ, HC⟩
  iapply (s_cast (A := A) (B := B) 2 1 c (by decide) (Acc A B 2 1 c) (fun _ => rfl) rfl (o23 c) rfl (o24 c) (fun v x => pt_tr v _ x)) $$ [$HZ $H1]
  iintro ⟨HZ, H1⟩
  iapply (s_send (A := A) (B := B) (K := K) 2 1 11 rfl c rfl rfl rfl (o25 c) rfl (v7 c).2.2.2.2.2.1 rfl rfl) $$ [$Hrec $H1 $HO]
  iintro ⟨H1, HO⟩
  iapply (m_add (A := A) (B := B) c 0 st0 (lo 0 2 c) 384 (s1 0 c).2 apart_nil (o26 c) rfl (o27 c).1 (o26 c)
    (fun u v x => pt_ad u v _ x)) $$ [$HZ0 $HC0]
  iintro ⟨HZ0, HC0⟩
  iapply (zload (lo 1 2 c) 384 (Acc A B 1 0 c) (lo 1 2 c) (.head _) (o28 c) le_rfl le_rfl) $$ HZ1
  iintro HZ1
  iapply Hk $$ [] HZ HC H1 HZ0 HC0 HZ1 HO
  ipureintro; rfl

theorem part10 (v2 v180 v191 v236 v282 v283 : BitVec 32) {v296 : S384x512.Idx → Elt F .f32}
    (h296 : v296 = Win 384 (lo 1 2 c) (Acc A B 1 0 c)) {k : _ → Prog (TpuEff nD τ sig (Elt F) Λ₀ .tc) α} {Q : α → sProp 𝕄} :
    records A B K
      ⊢ iprop(ZW zM 1 c [(lo 1 2 c, 384, Acc A B 1 0 c)] -∗ Came A B c 1 0 -∗ ZW zM 2 c [(lo 2 2 c, 384, Acc A B 2 0 c)] -∗ Came A B c 2 0 -∗ Sent c 0 1
        -∗ Ow c 12 -∗
        (∀ r, ZW zM 1 c [(lo 1 2 c, 384, Acc A B 1 1 c)] -∗ Came A B c 1 0 -∗ ZW zM 2 c [(lo 2 2 c, 384, Acc A B 2 1 c)] -∗ Came A B c 2 0
          -∗ Came A B c 0 1 -∗ Ow c 12 -∗ wpc c (k r) Q)
        -∗ wpc c (onBufs (k0_part10 (F := F)) c v2 v180 v191 v236 v282 v283 v296 >>= k) Q) := by
  rw [k0_part10_eq_skeleton]; unfold onBufs k0_part10_skel
  simp only [Prog.lift, Prog.bind_op, Prog.bind_ret, Prog.pure_eq_ret]
  iintro #Hrec HZ1 HC1 HZ2 HC2 H1 HO Hk
  iapply (m_add' (A := A) (B := B) c 1 st0 (lo 1 2 c) 384 (s1 1 c).2 apart_nil h296 rfl (o29 c) (o28 c)
    (fun u v x => pt_ad u v _ x)) $$ [$HZ1 $HC1]
  iintro ⟨HZ1, HC1⟩
  iapply (m_add (A := A) (B := B) c 2 st0 (lo 2 2 c) 384 (s1 2 c).2 apart_nil (o30 c) rfl (o27 c).2 (o30 c)
    (fun u v x => pt_ad u v _ x)) $$ [$HZ2 $HC2]
  iintro ⟨HZ2, HC2⟩
  iapply (s_wait (A := A) (B := B) (K := K) 0 1 12 (by decide) c rfl rfl rfl rfl) $$ [$Hrec $H1 $HO]
  iintro ⟨H1, HO⟩
  iapply Hk $$ HZ1 HC1 HZ2 HC2 H1 HO

theorem part11 (v2 v191 v328 v329 v330 : BitVec 32) {k : _ → Prog (TpuEff nD τ sig (Elt F) Λ₀ .tc) α} {Q : α → sProp 𝕄} :
    records A B K
      ⊢ iprop(ZW zM 0 c [(lo 0 2 c, 384, Acc A B 0 1 c)] -∗ Came A B c 0 1 -∗ Fresh c 0 2 -∗ Sent c 1 1 -∗ Ow c 12 -∗
        (∀ r, ZW zM 0 c [(lo 0 3 c, 192, Acc A B 0 1 c)] -∗ Came A B c 0 1 -∗ Sent c 0 2 -∗ Half A B c 1 1 -∗ Ow c 13 -∗ wpc c (k r) Q)
        -∗ wpc c (onBufs (k0_part11 (F := F)) c v2 v191 v328 v329 v330 >>= k) Q) := by
  rw [k0_part11_eq_skeleton]; unfold onBufs k0_part11_skel
  simp only [Prog.lift, Prog.bind_op, Prog.bind_ret, Prog.pure_eq_ret]
  iintro #Hrec HZ HC H2 H1 HO Hk
  ihave HZ := (z_halves 0 c _).2 $$ HZ
  iapply (m_add (A := A) (B := B) c 0 st1 (slo 0 2 c) 192 (s2 0 c).1 (a2 0 c) (o31 c) rfl (o32 c).1 (o31 c)
    (fun u v x => pt_ad u v _ x)) $$ [$HZ $HC]
  iintro ⟨HZ, HC⟩
  iapply (s_cast (A := A) (B := B) 0 2 c (by decide) (Acc A B 0 2 c) (fun _ => rfl) rfl (o31 c) rfl (o33 c) (fun v x => pt_tr v _ x)) $$ [$HZ $H2]
  iintro ⟨HZ, H2⟩
  iapply (s_send (A := A) (B := B) (K := K) 0 2 12 rfl c rfl rfl rfl (o34 c) rfl (v7 c).2.2.2.2.2.2.1 rfl rfl) $$ [$Hrec $H2 $HO]
  iintro ⟨H2, HO⟩
  iapply (s_wait1 (A := A) (B := B) (K := K) 1 1 13 c rfl rfl) $$ [$Hrec $H1 $HO]
  iintro ⟨H1, HO⟩
  iapply Hk $$ HZ HC H2 H1 HO

theorem part12 (v2 v227 v238 : BitVec 32) {k : _ → Prog (TpuEff nD τ sig (Elt F) Λ₀ .tc) α} {Q : α → sProp 𝕄} :
    records A B K
      ⊢ iprop(ZW zM 1 c [(lo 1 2 c, 384, Acc A B 1 1 c)] -∗ Half A B c 1 1 -∗ Fresh c 1 2 -∗ Ow c 13 -∗
        (∀ r, ZW zM 1 c [(lo 1 3 c, 192, Acc A B 1 1 c)] -∗ Came A B c 1 1 -∗ Full A B c 1 2 -∗ Ow c 13 -∗ wpc c (k r) Q)
        -∗ wpc c (onBufs (k0_part12 (F := F)) c v2 v227 v238 >>= k) Q) := by
  rw [k0_part12_eq_skeleton]; unfold onBufs k0_part12_skel
  simp only [Prog.lift, Prog.bind_op, Prog.bind_ret, Prog.pure_eq_ret]
  iintro #Hrec HZ HC H2 HO Hk
  iapply (s_wait2 (A := A) (B := B) (K := K) 1 1 13 (by decide) c rfl rfl) $$ [$Hrec $HC $HO]
  iintro ⟨HC, HO⟩
  ihave HZ := (z_halves 1 c _).2 $$ HZ
  iapply (m_add (A := A) (B := B) c 1 st1 (slo 1 2 c) 192 (s2 1 c).1 (a2 1 c) (o35 c) rfl (o32 c).2 (o35 c)
    (fun u v x => pt_ad u v _ x)) $$ [$HZ $HC]
  iintro ⟨HZ, HC⟩
  iapply (s_cast (A := A) (B := B) 1 2 c (by decide) (Acc A B 1 2 c) (fun _ => rfl) rfl (o35 c) rfl (o36 c) (fun v x => pt_tr v _ x)) $$ [$HZ $H2]
  iintro ⟨HZ, H2⟩
  iapply Hk $$ HZ HC H2 HO

theorem part13 (v2 v238 v273 v284 v375 : BitVec 32) {k : _ → Prog (TpuEff nD τ sig (Elt F) Λ₀ .tc) α} {Q : α → sProp 𝕄} :
    records A B K
      ⊢ iprop(ZW zM 2 c [(lo 2 2 c, 384, Acc A B 2 1 c)] -∗ Sent c 2 1 -∗ Full A B c 1 2 -∗ Ow c 13 -∗
        (∀ r, ⌜∀ x, r.2.2.2.2.2 x = Win 192 (slo 2 2 c) (Acc A B 2 2 c) x⌝
          -∗ ZW zM 2 c [(slo 2 2 c, 192, Acc A B 2 1 c), (lo 2 3 c, 192, Acc A B 2 1 c)] -∗ Came A B c 2 1 -∗ Sent c 1 2 -∗ Ow c 14
          -∗ wpc c (k r) Q)
        -∗ wpc c (onBufs (k0_part13 (F := F)) c v2 v238 v273 v284 v375 >>= k) Q) := by
  rw [k0_part13_eq_skeleton]; unfold onBufs k0_part13_skel
  simp only [Prog.lift, Prog.bind_op, Prog.bind_ret, Prog.pure_eq_ret]
  iintro #Hrec HZ HC H2 HO Hk
  iapply (s_send (A := A) (B := B) (K := K) 1 2 13 rfl c rfl rfl rfl (o37 c) rfl (v7 c).2.2.2.2.2.2.2.1 rfl rfl) $$ [$Hrec $H2 $HO]
  iintro ⟨H2, HO⟩
  iapply (s_wait (A := A) (B := B) (K := K) 2 1 14 (by decide) c rfl rfl rfl rfl) $$ [$Hrec $HC $HO]
  iintro ⟨HC, HO⟩
  ihave HZ := (z_halves 2 c _).2 $$ HZ
  iapply (s_sum (A := A) (B := B) c 2 st1 (slo 2 2 c) 192 (s2 2 c).1 (o38 c) rfl (o39 c)) $$ [$HZ $HC]
  iintro %u %v %huv HZ HC
  iapply Hk $$ [] HZ HC H2 HO
  ipureintro; exact huv

theorem part14 (v2 v284 v358 v359 v404 v405 v422 v423 : BitVec 32) {v430 : S192x512.Idx → Elt F .f32}
    (h430 : ∀ x, v430 x = Win 192 (slo 2 2 c) (Acc A B 2 2 c) x) {k : _ → Prog (TpuEff nD τ sig (Elt F) Λ₀ .tc) α} {Q : α → sProp 𝕄} :
    records A B K
      ⊢ iprop(ZW zM 2 c [(slo 2 2 c, 192, Acc A B 2 1 c), (lo 2 3 c, 192, Acc A B 2 1 c)] -∗ Fresh c 2 2
        -∗ ZW zM 0 c [(lo 0 3 c, 192, Acc A B 0 1 c)] -∗ Came A B c 0 1 -∗ ZW zM 1 c [(lo 1 3 c, 192, Acc A B 1 1 c)] -∗ Came A B c 1 1 -∗ Ow c 14 -∗
        (∀ r, ⌜∀ x, r.2.2.2.2 x = Win 192 (lo 1 3 c) (Acc A B 1 2 c) x⌝ -∗ ZW zM 2 c [(lo 2 3 c, 192, Acc A B 2 1 c)] -∗ Sent c 2 2
          -∗ ZW zM 0 c [(lo 0 3 c, 192, Acc A B 0 2 c)] -∗ Came A B c 0 1 -∗ ZW zM 1 c [(lo 1 3 c, 192, Acc A B 1 1 c)] -∗ Came A B c 1 1 -∗ Ow c 15
          -∗ wpc c (k r) Q)
        -∗ wpc c (onBufs (k0_part14 (F := F)) c v2 v284 v358 v359 v404 v405 v422 v423 v430 >>= k) Q) := by
  rw [k0_part14_eq_skeleton]; unfold onBufs k0_part14_skel
  simp only [Prog.lift, Prog.bind_op, Prog.bind_ret, Prog.pure_eq_ret]
  iintro #Hrec HZ H2 HZ0 HC0 HZ1 HC1 HO Hk
  iapply (s_keep c 2 (slo 2 2 c) 192 (Acc A B 2 1 c) (Acc A B 2 2 c) (a2 2 c) (o38 c) (fun x => (pt_sc v430 _ x).trans (h430 x))) $$ HZ
  iintro HZ
  iapply (s_cast (A := A) (B := B) 2 2 c (by decide) (Acc A B 2 2 c) (fun _ => rfl) rfl (o38 c) rfl (o40 c) (fun v x => pt_tr v _ x)) $$ [$HZ $H2]
  iintro ⟨HZ, H2⟩
  iapply (s_send (A := A) (B := B) (K := K) 2 2 14 rfl c rfl rfl rfl (o41 c) rfl (v7 c).2.2.2.2.2.2.2.2 rfl rfl) $$ [$Hrec $H2 $HO]
  iintro ⟨H2, HO⟩
  iapply (m_add (A := A) (B := B) c 0 st1 (lo 0 3 c) 192 (s2 0 c).2 apart_nil (o42 c) rfl (o43 c).1 (o42 c)
    (fun u v x => pt_ad u v _ x)) $$ [$HZ0 $HC0]
  iintro ⟨HZ0, HC0⟩
  iapply (s_sum (A := A) (B := B) c 1 st1 (lo 1 3 c) 192 (s2 1 c).2 (o44 c) rfl (o43 c).2) $$ [$HZ1 $HC1]
  iintro %u %v %huv HZ1 HC1
  iapply Hk $$ [] HZ H2 HZ0 HC0 HZ1 HC1 HO
  ipureintro; exact huv

theorem part15 (v2 v349 v451 v452 : BitVec 32) {v469 : S192x512.Idx → Elt F .f32}
    (h469 : ∀ x, v469 x = Win 192 (lo 1 3 c) (Acc A B 1 2 c) x) {k : _ → Prog (TpuEff nD τ sig (Elt F) Λ₀ .tc) α} {Q : α → sProp 𝕄} :
    records A B K
      ⊢ iprop(ZW zM 1 c [(lo 1 3 c, 192, Acc A B 1 1 c)] -∗ ZW zM 2 c [(lo 2 3 c, 192, Acc A B 2 1 c)] -∗ Came A B c 2 1 -∗ Sent c 0 2 -∗ Ow c 15 -∗
        (∀ r, ZW zM 1 c [(lo 1 3 c, 192, Acc A B 1 2 c)] -∗ ZW zM 2 c [(lo 2 3 c, 192, Acc A B 2 2 c)] -∗ Came A B c 2 1 -∗ Came A B c 0 2 -∗ Ow c 15
          -∗ wpc c (k r) Q)
        -∗ wpc c (onBufs (k0_part15 (F := F)) c v2 v349 v451 v452 v469 >>= k) Q) := by
  rw [k0_part15_eq_skeleton]; unfold onBufs k0_part15_skel
  simp only [Prog.lift, Prog.bind_op, Prog.bind_ret, Prog.pure_eq_ret]
  iintro #Hrec HZ1 HZ2 HC2 H2 HO Hk
  iapply (s_keep c 1 (lo 1 3 c) 192 (Acc A B 1 1 c) (Acc A B 1 2 c) apart_nil (o44 c) (fun x => (pt_sc v469 _ x).trans (h469 x))) $$ HZ1
  iintro HZ1
  iapply (m_add (A := A) (B := B) c 2 st1 (lo 2 3 c) 192 (s2 2 c).2 apart_nil (o45 c) rfl (o46 c) (o45 c)
    (fun u v x => pt_ad u v _ x)) $$ [$HZ2 $HC2]
  iintro ⟨HZ2, HC2⟩
  iapply (s_wait (A := A) (B := B) (K := K) 0 2 15 (by decide) c rfl rfl rfl rfl) $$ [$Hrec $H2 $HO]
  iintro ⟨H2, HO⟩
  iapply Hk $$ HZ1 HZ2 HC2 H2 HO

end
end Cert.GemmProof
-- ==== Proof.Whole.lean ====
/-
# The body, whole
-/
module

public import proofs.«01_k».proof.Proof.Bands
public import proofs.«01_k».proof.Proof.Parts2

@[expose] public section

set_option maxRecDepth 65536

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]
variable {α : Type}

local notation "𝕄" => MT nD τ sig Unit (Elt F) ℕ UU ℕ

section
variable (A : Dev nD → S1536x768.Idx → F .bf16) (B : Dev nD → S768x1536.Idx → F .bf16)

/-- The three buffers of stream `t`. -/
def Bufs (c : Dev nD) (t : Fin 3) : sProp 𝕄 :=
  iprop(Any (zbM t) c Finset.univ ∗ Any (rsM t) c Finset.univ ∗ Any (agM t) c Finset.univ)
/-- What is left of them once the landing bands are out. -/
def Rest (c : Dev nD) (t : Fin 3) : sProp 𝕄 :=
  iprop(Any (zbM t) c Finset.univ ∗ Any (rsM t) c (R 1488 48) ∗ Any (agM t) c (R (own t c) 48))

/-- What device `c` starts with. -/
def Start (c : Dev nD) : sProp 𝕄 :=
  iprop(Ops A B c ∗ Any oM c Finset.univ ∗ Any zM c Finset.univ ∗ (bigSep Finset.univ fun t : Fin 3 => Bufs c t)
    ∗ (bigSep Finset.univ fun q : Fin 6 => dutyTok ER (kc (pr (mask6 q) c) (.inl false)) 0 q) ∗ (bigSep Finset.univ fun q : Fin 6 => Unit1 c q)
    ∗ (atPos ER (kc c (.inl false)) 0 ∅ 0 ∗ cred (tallyAt (kc c (.inl false)) () 6))
    ∗ (atPos ER (kc c (.inl true)) 0 ∅ 0 ∗ cred (tallyAt (kc c (.inl true)) () 6))
    ∗ (bigSep Finset.univ fun k : Tx => Kit0 c k) ∗ Ow c 0)
/-- What it ends with. -/
def End (c : Dev nD) : sProp 𝕄 :=
  iprop(Ops A B c ∗ Own oM c Finset.univ fullShare (outF A B) ∗ Any zM c Finset.univ ∗ (bigSep Finset.univ fun t : Fin 3 => Bufs c t)
    ∗ semVal (kc c (.inl false)) 0 ∗ semVal (kc c (.inl true)) 0 ∗ (bigSep Finset.univ fun k : Tx => Done c k.1 k.2) ∗ Ow c 48)
end

section
variable {A : Dev nD → S1536x768.Idx → F .bf16} {B : Dev nD → S768x1536.Idx → F .bf16} {K : Dev nD × KI → ℕ}
variable (c : Dev nD)

theorem open_in : (iprop((bigSep Finset.univ fun t : Fin 3 => Bufs c t)
      ∗ (bigSep Finset.univ fun q : Fin 6 => dutyTok ER (kc (pr (mask6 q) c) (.inl false)) 0 q)) : sProp 𝕄)
    ⊢ iprop((bigSep Finset.univ fun q => Unit0 c q) ∗ (bigSep Finset.univ fun t : Fin 3 => Rest c t)) := by
  have e : ∀ t : Fin 3, (Bufs c t : sProp 𝕄) ⊢ iprop((bigSep Finset.univ fun j : Fin 12 => Land c (t, j)) ∗ Rest c t) := fun t => by
    unfold Bufs Rest
    iintro ⟨Hz, Hr, Ha⟩
    ihave H := (land_out c t) $$ [$Hr $Ha]
    icases H with ⟨H, Hr, Ha⟩
    iframe H Hz Hr Ha
  have e2 : (bigSep Finset.univ fun t : Fin 3 => (Bufs c t : sProp 𝕄))
      ⊢ iprop((bigSep Finset.univ fun q : Fin 6 => Hand c q) ∗ (bigSep Finset.univ fun t : Fin 3 => Rest c t)) := by
    rw [← lands_out, bigSep_univ_prod, ← bigSep_sep']
    exact bigSep_mono fun t _ => e t
  unfold Unit0
  rw [bigSep_sep']
  iintro ⟨HB, HT⟩
  ihave H := e2 $$ HB
  icases H with ⟨H, HR⟩
  iframe HT H HR

theorem kits_all : (iprop((bigSep Finset.univ fun k : Tx => Kit0 c k) ∗ (bigSep Finset.univ fun k : Tx => Land (peer k.1 k.2 c) k)) : sProp 𝕄)
    ⊢ bigSep Finset.univ fun t : Fin 3 => bigSep Finset.univ fun j : Fin 12 => Kit c t j := by
  rw [← bigSep_sep', bigSep_univ_prod]
  exact bigSep_mono fun t _ => bigSep_mono fun j _ => ent_of_eq rfl

theorem done_all : (bigSep Finset.univ fun t : Fin 3 => (bigSep Finset.univ fun j : Fin 12 => Done c t j : sProp 𝕄))
    ⊢ bigSep Finset.univ fun k : Tx => Done (F := F) c k.1 k.2 := by
  rw [bigSep_univ_prod]

theorem ow_done (c : Dev nD) (n : ℕ) (h : n = 48) : (Ow c n : sProp 𝕄) ⊢ Ow c 48 := by rw [h]

set_option maxHeartbeats 4000000 in
theorem body_run {Q : PUnit → sProp 𝕄} :
    records A B K ⊢ iprop(Start A B c -∗ (End A B c -∗ Q ⟨⟩) -∗ wpc c (onBufs (k0_part48 (F := F))) Q) := by
  rw [k0_part48_eq_skeleton]; unfold onBufs k0_part48_skel Start End
  iintro #Hrec ⟨HOps, Ho, Hz, HB, HT, HE, ⟨Hat, Hcr⟩, ⟨Hat', Hcr'⟩, HK, HO⟩ Hk
  ihave H := (open_in c) $$ [$HB $HT]
  icases H with ⟨HU, HR⟩
  iapply (part1 (A := A) (B := B) (K := K) c) $$ Hrec HU Hat Hcr HO
  iintro %v2 %v22 Hsem HL HO
  dsimp only
  ihave HK := (kits_all c) $$ [$HK $HL]
  ihave HK := (ent_of_eq (three _)) $$ HK
  ihave HR := (ent_of_eq (three _)) $$ HR
  ihave HE := (ent_of_eq (six _)) $$ HE
  icases HE with ⟨HE0, HE1, HE2, HE3, HE4, HE5⟩
  icases HK with ⟨HK0, HK1, HK2⟩
  unfold Rest
  icases HR with ⟨⟨HZ0, Hr0, Hg0⟩, ⟨HZ1, Hr1, Hg1⟩, ⟨HZ2, Hr2, Hg2⟩⟩
  ihave H := (kits_in c 0) $$ [$HK0 $HZ0]
  icases H with ⟨⟨X00, X01, X02, X03, X04, X05⟩, ⟨X06, X07, X08, X09, X010, X011⟩, Hs0⟩
  ihave H := (kits_in c 1) $$ [$HK1 $HZ1]
  icases H with ⟨⟨X10, X11, X12, X13, X14, X15⟩, ⟨X16, X17, X18, X19, X110, X111⟩, Hs1⟩
  ihave H := (kits_in c 2) $$ [$HK2 $HZ2]
  icases H with ⟨⟨X20, X21, X22, X23, X24, X25⟩, ⟨X26, X27, X28, X29, X210, X211⟩, Hs2⟩
  ihave H := (zw_in c) $$ Hz
  icases H with ⟨Z0, Z1, Z2⟩
  ihave H := (zw_in c) $$ Ho
  icases H with ⟨W0, W1, W2⟩
  iapply (part2 (A := A) (B := B) (K := K) c _ _) $$ Hrec HOps Z0 X00 HO
  iintro %r HOps Z0 X00 HO
  obtain ⟨a2_0, a2_1, a2_2, a2_3, a2_4⟩ := r
  dsimp only
  iapply (part3 (A := A) (B := B) (K := K) c _ _ _ _) $$ Hrec HOps Z1 X10 HO
  iintro %r %h91 HOps Z1 X10 HO
  obtain ⟨a3_0, a3_1, a3_2, a3_3, a3_4⟩ := r
  dsimp only at h91 ⊢
  iapply (part4 (A := A) (B := B) (K := K) c _ _ _ _ h91) $$ Hrec HOps Z0 Z2 X20 HO
  iintro %r %h127 HOps Z0 Z2 X20 HO
  obtain ⟨a4_0, a4_1⟩ := r
  dsimp only at h127 ⊢
  iapply (part5 (A := A) (B := B) (K := K) c _ _ _ _ h127) $$ Hrec HOps Z1 Z2 X00 HO
  iintro %r HOps Z1 Z2 X00 HO
  obtain ⟨a5_0, a5_1⟩ := r
  dsimp only
  iapply (part6 (A := A) (B := B) (K := K) c _ _ _ _) $$ Hrec Z0 X00 X01 HO
  iintro %r Z0 X00 X01 HO
  obtain ⟨a6_0, a6_1, a6_2, a6_3⟩ := r
  dsimp only
  iapply (part7 (A := A) (B := B) (K := K) c _ _ _) $$ Hrec Z1 X10 X11 HO
  iintro %r Z1 X10 X11 HO
  obtain ⟨a7_0, a7_1⟩ := r
  dsimp only
  iapply (part8 (A := A) (B := B) (K := K) c _ _ _ _ _ _) $$ Hrec Z2 X20 X11 HO
  iintro %r %h257 Z2 X20 X11 HO
  obtain ⟨a8_0, a8_1, a8_2, a8_3, a8_4, a8_5⟩ := r
  dsimp only at h257 ⊢
  iapply (part9 (A := A) (B := B) (K := K) c _ _ _ _ _ _ _ _ h257) $$ Hrec Z2 X20 X21 Z0 X00 Z1 HO
  iintro %r %h296 Z2 X20 X21 Z0 X00 Z1 HO
  obtain ⟨a9_0, a9_1, a9_2, a9_3, a9_4⟩ := r
  dsimp only at h296 ⊢
  iapply (part10 (A := A) (B := B) (K := K) c _ _ _ _ _ _ h296) $$ Hrec Z1 X10 Z2 X20 X01 HO
  iintro %r Z1 X10 Z2 X20 X01 HO
  obtain ⟨a10_0, a10_1, a10_2⟩ := r
  dsimp only
  iapply (part11 (A := A) (B := B) (K := K) c _ _ _ _ _) $$ Hrec Z0 X01 X02 X11 HO
  iintro %r Z0 X01 X02 X11 HO
  obtain ⟨a11_0, a11_1, a11_2, a11_3⟩ := r
  dsimp only
  iapply (part12 (A := A) (B := B) (K := K) c _ _ _) $$ Hrec Z1 X11 X12 HO
  iintro %r Z1 X11 X12 HO
  obtain ⟨a12_0, a12_1⟩ := r
  dsimp only
  iapply (part13 (A := A) (B := B) (K := K) c _ _ _ _ _) $$ Hrec Z2 X21 X12 HO
  iintro %r %h430 Z2 X21 X12 HO
  obtain ⟨a13_0, a13_1, a13_2, a13_3, a13_4, a13_5⟩ := r
  dsimp only at h430 ⊢
  iapply (part14 (A := A) (B := B) (K := K) c _ _ _ _ _ _ _ _ h430) $$ Hrec Z2 X22 Z0 X01 Z1 X11 HO
  iintro %r %h469 Z2 X22 Z0 X01 Z1 X11 HO
  obtain ⟨a14_0, a14_1, a14_2, a14_3, a14_4⟩ := r
  dsimp only at h469 ⊢
  iapply (part15 (A := A) (B := B) (K := K) c _ _ _ _ h469) $$ Hrec Z1 Z2 X21 X02 HO
  iintro %r Z1 Z2 X21 X02 HO
  obtain ⟨a15_0, a15_1, a15_2, a15_3⟩ := r
  dsimp only
  iapply (part16 (A := A) (B := B) (K := K) c _ _ _ _ _ _) $$ Hrec Z0 X02 X03 HO
  iintro %r Z0 X02 X03 HO
  obtain ⟨a16_0, a16_1, a16_2⟩ := r
  dsimp only
  iapply (part17 (A := A) (B := B) (K := K) c _ _ _ _) $$ Hrec Z0 X02 X04 HO
  iintro %r %h574 Z0 X02 X04 HO
  obtain ⟨a17_0, a17_1, a17_2⟩ := r
  dsimp only at h574 ⊢
  iapply (part18 (A := A) (B := B) (K := K) c _ _ _ _ _ h574) $$ Hrec Z0 X05 X12 HO
  iintro %r Z0 X05 X12 HO
  obtain ⟨a18_0, a18_1⟩ := r
  dsimp only
  iapply (part19 (A := A) (B := B) (K := K) c _ _) $$ Hrec Z1 X12 X13
  iintro %r Z1 X12 X13
  obtain ⟨a19_0, a19_1, a19_2, a19_3, a19_4⟩ := r
  dsimp only
  iapply (part20 (A := A) (B := B) (K := K) c _ _ _ _) $$ Hrec Z1 X12 X13 X14 HO
  iintro %r Z1 X12 X13 X14 HO
  iapply (part21 (A := A) (B := B) (K := K) c _ _ _ _ _) $$ Hrec Z1 X12 X14 X15 HO
  iintro %r Z1 X12 X14 X15 HO
  obtain ⟨a21_0, a21_1⟩ := r
  dsimp only
  iapply (part22 (A := A) (B := B) (K := K) c _ _ _) $$ Hrec Z2 X22 HO
  iintro %r %h746 Z2 X22 HO
  obtain ⟨a22_0, a22_1, a22_2, a22_3, a22_4, a22_5⟩ := r
  dsimp only at h746 ⊢
  iapply (part23 (A := A) (B := B) (K := K) c _ _ _ _ h746) $$ Hrec Z2 X22 X23 X24 HO
  iintro %r Z2 X22 X23 X24 HO
  obtain ⟨a23_0, a23_1⟩ := r
  dsimp only
  iapply (part24 (A := A) (B := B) (K := K) c _ _ _ _) $$ Hrec Z2 X22 X24 X25 HO
  iintro %r Z2 X22 X24 X25 HO
  obtain ⟨a24_0, a24_1⟩ := r
  dsimp only
  iapply (part25 (A := A) (B := B) (K := K) c _ _ _ _ _ _ _) $$ Hrec Z0 X02 Z1 X12 Z2 X22 X25 HO
  iintro %r Z0 X02 Z1 X12 Z2 X22 X25 HO
  iapply (part26 (A := A) (B := B) (K := K) c _ _) $$ Hrec X03 X04 X05 HO
  iintro Q0 HO
  iapply (part27 (A := A) (B := B) (K := K) c _ _ _) $$ Hrec Q0 Z0 W0 Hg0 HO
  iintro Q0 HO
  iapply (part28 (A := A) (B := B) (K := K) c _ _ _) $$ Hrec X13 X14 X15 HO
  iintro %r Q1 HO
  obtain ⟨a28_0, a28_1⟩ := r
  dsimp only
  iapply (part29 (A := A) (B := B) (K := K) c _ _ _ _) $$ Hrec Q1 Z1 W1 Hg1 HO
  iintro Q1 HO
  iapply (part30 (A := A) (B := B) (K := K) c _ _ _) $$ Hrec X23 X24 X25 HO
  iintro Q2 HO
  iapply (part31 (A := A) (B := B) (K := K) c _ _ _) $$ Hrec Q2 Z2 W2 Hg2 HO
  iintro %r Q2 HO
  unfold Fin0
  icases Q0 with ⟨Z0, ⟨X03, X04, X05⟩, W0, Hg0⟩
  ihave H := (ag_quad (A := A) (B := B) c 0) $$ [$X06 $X07 $X08 $Hg0]
  icases H with ⟨X06, X07, X08⟩
  icases Q1 with ⟨Z1, ⟨X13, X14, X15⟩, W1, Hg1⟩
  ihave H := (ag_quad (A := A) (B := B) c 1) $$ [$X16 $X17 $X18 $Hg1]
  icases H with ⟨X16, X17, X18⟩
  icases Q2 with ⟨Z2, ⟨X23, X24, X25⟩, W2, Hg2⟩
  ihave H := (ag_quad (A := A) (B := B) c 2) $$ [$X26 $X27 $X28 $Hg2]
  icases H with ⟨X26, X27, X28⟩
  iapply (part32 (A := A) (B := B) (K := K) c _) $$ Hrec X06 X07 X08 X16 HO
  iintro %r X06 X07 X08 X16 HO
  obtain ⟨a32_0, a32_1, a32_2, a32_3, a32_4⟩ := r
  dsimp only
  iapply (part33 (A := A) (B := B) (K := K) c _ _) $$ Hrec X17 X18 X26 HO
  iintro %r X17 X18 X26 HO
  obtain ⟨a33_0, a33_1, a33_2⟩ := r
  dsimp only
  iapply (part34 (A := A) (B := B) (K := K) c _ _ _) $$ Hrec X27 X28 X06 X07 HO
  iintro %r X27 X28 X06 X07 HO
  iapply (part35 (A := A) (B := B) (K := K) c _ _) $$ Hrec X07 X08 X16 HO
  iintro X07 X08 X16 HO
  iapply (part36 (A := A) (B := B) (K := K) c _ _ _) $$ Hrec X17 X18 X26 HO
  iintro X17 X18 X26 HO
  iapply (part37 (A := A) (B := B) (K := K) c _ _ _) $$ Hrec X27 X28 HO
  iintro %r X27 X28 HO
  obtain ⟨a37_0, a37_1⟩ := r
  dsimp only
  ihave H := (up9 (A := A) (B := B) c 0) $$ [$X06 $X07 $X08 $X09]
  icases H with ⟨D0, X09, Hg0⟩
  ihave H := (up9 (A := A) (B := B) c 1) $$ [$X16 $X17 $X18 $X19]
  icases H with ⟨D1, X19, Hg1⟩
  ihave H := (up9 (A := A) (B := B) c 2) $$ [$X26 $X27 $X28 $X29]
  icases H with ⟨D2, X29, Hg2⟩
  iapply (part38 (A := A) (B := B) (K := K) c _ _ _ _) $$ Hrec X09 Hg0 W0 X19 Hg1 W1 HO
  iintro %r X09 Hg0 W0 X19 Hg1 W1 HO
  obtain ⟨a38_0, a38_1, a38_2, a38_3, a38_4⟩ := r
  dsimp only
  iapply (part39 (A := A) (B := B) (K := K) c _ _ _ _ _ _) $$ Hrec X29 Hg2 W2 X09 HO
  iintro %r X29 Hg2 W2 X09 HO
  obtain ⟨a39_0, a39_1, a39_2, a39_3, a39_4⟩ := r
  dsimp only
  iapply (part40 (A := A) (B := B) (K := K) c _ _ _ _) $$ Hrec X09 Hg0 X010 W0 X19 HO
  iintro %r X09 X010 Hg0 W0 X19 HO
  obtain ⟨a40_0, a40_1, a40_2, a40_3⟩ := r
  dsimp only
  iapply (part41 (A := A) (B := B) (K := K) c _ _ _ _) $$ Hrec X19 Hg1 X110 W1 X29 HO
  iintro %r X19 X110 Hg1 W1 X29 HO
  obtain ⟨a41_0, a41_1, a41_2⟩ := r
  dsimp only
  iapply (part42 (A := A) (B := B) (K := K) c _ _ _ _) $$ Hrec X29 Hg2 X210 W2 HO
  iintro %r X29 X210 Hg2 W2 HO
  obtain ⟨a42_0, a42_1, a42_2⟩ := r
  dsimp only
  iapply (part43 (A := A) (B := B) (K := K) c _ _ _ _) $$ Hrec X010 Hg0 X011 W0 HO
  iintro %r X010 X011 Hg0 W0 HO
  obtain ⟨a43_0, a43_1⟩ := r
  dsimp only
  iapply (part44 (A := A) (B := B) (K := K) c _ _ _ _) $$ Hrec X110 Hg1 X111 W1 X210 HO
  iintro %r X110 X111 Hg1 W1 X210 HO
  obtain ⟨a44_0, a44_1⟩ := r
  dsimp only
  iapply (part45 (A := A) (B := B) (K := K) c _ _ _ _) $$ Hrec X210 Hg2 X211 W2 X011 HO
  iintro %r X210 X211 Hg2 W2 X011 HO
  obtain ⟨a45_0, a45_1⟩ := r
  dsimp only
  iapply (part46 (A := A) (B := B) (K := K) c _ _ _ _) $$ Hrec X011 Hg0 W0 X111 Hg1 W1 HO
  iintro X011 Hg0 W0 X111 Hg1 W1 HO
  iapply (part47 (A := A) (B := B) (K := K) c _ _ _) $$ Hrec X211 Hg2 W2 HE0 HE1 HE2 HE3 HO
  iintro %r X211 Hg2 W2 HO
  obtain ⟨a47_0, a47_1⟩ := r
  simp only [semSignalWord, semWaitWord, Prog.lift, Prog.bind_op, Prog.bind_ret, Prog.pure_eq_ret]
  iapply (s_unit1 (A := A) (B := B) (K := K) c 4 rfl (v43 c).2.2.2.2.1 rfl rfl) $$ [$Hrec $HE4 $HO]
  iintro HO
  iapply (s_unit1 (A := A) (B := B) (K := K) c 5 rfl (v43 c).2.2.2.2.2 rfl rfl) $$ [$Hrec $HE5 $HO]
  iintro HO
  iapply (wp_units A B K true 48 (fun i h => absurd i.isLt (by omega)) c rfl rfl) $$ [$Hrec $Hat' $Hcr' $HO]
  iintro ⟨Hsem', -, HO⟩
  unfold wpc; beta_reduce; rw [wp_ret]; imodintro
  iapply Hk
  ihave S0 := (stream_out (A := A) (B := B) c 0) $$ [$X00 $X01 $X02 $X03 $X04 $X05 $D0 $X09 $X010 $X011 $Hs0 $Hr0 $Hg0]
  icases S0 with ⟨S0, B0⟩
  ihave S1 := (stream_out (A := A) (B := B) c 1) $$ [$X10 $X11 $X12 $X13 $X14 $X15 $D1 $X19 $X110 $X111 $Hs1 $Hr1 $Hg1]
  icases S1 with ⟨S1, B1⟩
  ihave S2 := (stream_out (A := A) (B := B) c 2) $$ [$X20 $X21 $X22 $X23 $X24 $X25 $D2 $X29 $X210 $X211 $Hs2 $Hr2 $Hg2]
  icases S2 with ⟨S2, B2⟩
  ihave HZ := (zw_out c) $$ [$Z0 $Z1 $Z2]
  ihave HW := (out_all (A := A) (B := B) c) $$ [$W0 $W1 $W2]
  isplitl [HOps]; · iexact HOps
  isplitl [HW]; · iexact HW
  isplitl [HZ]; · iexact HZ
  isplitl [B0 B1 B2]
  · rw [three]; unfold Bufs
    isplitl [B0]; · iexact B0
    isplitl [B1]; · iexact B1
    iexact B2
  isplitl [Hsem]; · iexact Hsem
  isplitl [Hsem']; · iexact Hsem'
  isplitl [S0 S1 S2]
  · iapply (done_all c)
    rw [three]
    isplitl [S0]; · iexact S0
    isplitl [S1]; · iexact S1
    iexact S2
  iexact HO

end

end Cert.GemmProof
-- ==== Proof.Deal.lean ====
/-
# Dealing the kernel's tokens

At launch every semaphore of every device gets its record, each duty's token goes to the device that will pay it, and
each cell's credit to the device that will wait there. The partner of a partner is the device itself, so handing a
token to its payer is a rearrangement of the devices.
-/
module

public import proofs.«01_k».proof.Proof.Whole

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (A : Dev nD → S1536x768.Idx → F .bf16) (B : Dev nD → S768x1536.Idx → F .bf16)

/-! ## The kernel's semaphores, and the tokens on them -/

theorem two (Φ : Bool → sProp 𝕄) : bigSep Finset.univ Φ = iprop(Φ false ∗ Φ true) :=
  bigSep_univ_eq_bigSepL [false, true] (by decide) (by decide) Φ

/-- Over all semaphores of a device: barrier, exit, the sends, the landings. -/
theorem ki_split (Φ : KI → sProp 𝕄) : bigSep Finset.univ Φ
    = iprop((Φ (.inl false) ∗ Φ (.inl true)) ∗ (bigSep Finset.univ fun k : Tx => Φ (.inr (false, k))) ∗ (bigSep Finset.univ fun k : Tx => Φ (.inr (true, k)))) := by
  rw [bigSep_univ_sum, two, bigSep_univ_prod, two]; rfl

/-- A token: a partner's unit at the barrier or the exit, or a transfer's one at its send or landing. -/
abbrev TI : Type := (Bool × Fin 6) ⊕ (Bool × Tx)
def tokOf (x : Dev nD × TI) : GSem nD τ sig × ℕ × Fin 6 := match x.2 with
  | .inl (b, q) => (kc x.1 (.inl b), 0, q)
  | .inr y => (kc x.1 (.inr y), 0, 0)

theorem kc_inj {c c' : Dev nD} {k k' : KI} (h : kc c k = kc c' k') : c = c' ∧ k = k' :=
  ⟨congrArg (fun g : GSem nD τ sig => g.1.1) h, csem_inj (congrArg Prod.snd h)⟩

theorem tokOf_injective : Function.Injective tokOf := by
  rintro ⟨c, x⟩ ⟨c', x'⟩ h
  rcases x with ⟨b, q⟩ | y <;> rcases x' with ⟨b', q'⟩ | y'
  · obtain ⟨rfl, hk⟩ := kc_inj (congrArg Prod.fst h)
    have hq : q = q' := congrArg (fun z : GSem nD τ sig × ℕ × Fin 6 => z.2.2) h
    rw [Sum.inl.inj hk, hq]
  · exact absurd (kc_inj (congrArg Prod.fst h)).2 (by simp)
  · exact absurd (kc_inj (congrArg Prod.fst h)).2 (by simp)
  · obtain ⟨rfl, hk⟩ := kc_inj (congrArg Prod.fst h)
    rw [Sum.inr.inj hk]

def kcell (x : Dev nD × KI) : GSem nD τ sig := kc x.1 x.2
theorem kcell_injective : Function.Injective kcell := fun x y h => Prod.ext (kc_inj h).1 (kc_inj h).2

def allCells : Finset (GSem nD τ sig) := Finset.univ.map ⟨kcell, kcell_injective⟩
def allToks : Finset (GSem nD τ sig × ℕ × Fin 6) := Finset.univ.map ⟨tokOf, tokOf_injective⟩

/-- The tokens on device `c`'s own cells. -/
def toks (c : Dev nD) : sProp 𝕄 :=
  iprop((bigSep Finset.univ fun q : Fin 6 => dutyTok ER (kc c (.inl false)) 0 q) ∗ (bigSep Finset.univ fun q : Fin 6 => dutyTok ER (kc c (.inl true)) 0 q)
    ∗ (bigSep Finset.univ fun k : Tx => dutyTok ER (sndC c k.1 k.2) 0 0) ∗ (bigSep Finset.univ fun k : Tx => dutyTok ER (rcvC c k.1 k.2) 0 0))
/-- The tokens of the duties device `c` pays. -/
def payToks (c : Dev nD) : sProp 𝕄 :=
  iprop((bigSep Finset.univ fun q : Fin 6 => dutyTok ER (kc (pr (mask6 q) c) (.inl false)) 0 q)
    ∗ (bigSep Finset.univ fun q : Fin 6 => Unit1 c q)
    ∗ (bigSep Finset.univ fun k : Tx => dutyTok ER (sndC c k.1 k.2) 0 0) ∗ (bigSep Finset.univ fun k : Tx => dutyTok ER (rcvC (peer k.1 k.2 c) k.1 k.2) 0 0))

/-- A partner's partner is oneself. -/
def swap (q : Fin 6) : Dev nD ≃ Dev nD := ⟨pr (mask6 q), pr (mask6 q), pr_pr q, pr_pr q⟩

theorem across (b : Bool) : (bigSep Finset.univ fun c : Dev nD => (bigSep Finset.univ fun q : Fin 6 => dutyTok ER (kc c (.inl b)) 0 q : sProp 𝕄))
    = bigSep Finset.univ fun c : Dev nD => bigSep Finset.univ fun q : Fin 6 => dutyTok ER (kc (pr (mask6 q) c) (.inl b)) 0 q := by
  rw [bigSep_univ_comm, bigSep_univ_comm (fun (c : Dev nD) (q : Fin 6) => (dutyTok ER (kc (pr (mask6 q) c) (.inl b)) 0 q : sProp 𝕄))]
  exact bigSep_congr fun q _ => bigSep_univ_equiv (swap q) (fun c : Dev nD => (dutyTok ER (kc c (.inl b)) 0 q : sProp 𝕄))

theorem across_recv : (bigSep Finset.univ fun c : Dev nD => (bigSep Finset.univ fun k : Tx => dutyTok ER (rcvC c k.1 k.2) 0 0 : sProp 𝕄))
    = bigSep Finset.univ fun c : Dev nD => bigSep Finset.univ fun k : Tx => dutyTok ER (rcvC (peer k.1 k.2 c) k.1 k.2) 0 0 := by
  rw [bigSep_univ_comm, bigSep_univ_comm (fun (c : Dev nD) (k : Tx) => (dutyTok ER (rcvC (peer k.1 k.2 c) k.1 k.2) 0 0 : sProp 𝕄))]
  refine bigSep_congr fun k _ => ?_
  rw [bigSep_univ_equiv (swap (mq k.1 k.2)) (fun c : Dev nD => (dutyTok ER (rcvC c k.1 k.2) 0 0 : sProp 𝕄))]
  refine bigSep_congr fun c _ => ?_
  rw [peer_eq]; rfl

theorem toks_across : (bigSep Finset.univ fun c : Dev nD => (toks c : sProp 𝕄)) ⊢ bigSep Finset.univ fun c : Dev nD => payToks c := by
  unfold toks payToks Unit1
  rw [bigSep_sep', bigSep_sep', bigSep_sep', bigSep_sep', bigSep_sep', bigSep_sep', across, across, across_recv]

/-! ## What is made of the launch -/

/-- Device `c`'s share of the launch's element. -/
def G (c : Dev nD) : sProp 𝕄 :=
  iprop((bigSep Finset.univ fun k : KI => roundState ER (Rd A B) (kc c k) 0)
    ∗ (bigSep Finset.univ fun k : KI => iprop(atPos ER (kc c k) 0 ∅ 0 ∗ reached ER (kc c k) 0)) ∗ toks c)

/-- The records, before the order of the cells is known. -/
def records0 (K : Dev nD × KI → ℕ) : sProp 𝕄 :=
  iprop((bigSep Finset.univ fun ck : Dev nD × KI => cellInv ER (Rd A B) (K ck) (kc ck.1 ck.2))
    ∗ (bigSep Finset.univ fun ck : Dev nD × KI => reached ER (kc ck.1 ck.2) 0))
instance (K : Dev nD × KI → ℕ) : BI.Persistent (records0 A B K) := by unfold records0; infer_instance

/-- What device `c` has after the deal. -/
def G' (c : Dev nD) : sProp 𝕄 :=
  iprop((∃ K, records0 A B K) ∗ (bigSep Finset.univ fun k : KI => atPos ER (kc c k) 0 ∅ 0) ∗ payToks c)

theorem fund_all : BI.own (ER (initOf allCells allToks)) ⊢ (|==> bigSep Finset.univ (G A B) : sProp 𝕄) := by
  have hX (Φ : GSem nD τ sig → sProp 𝕄) : bigSep allCells Φ = bigSep Finset.univ fun c : Dev nD => bigSep Finset.univ fun k : KI => Φ (kc c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, bigSep_univ_prod, two, bigSep_univ_prod, two]
    exact equiv_iff.mp ⟨BI.sep_assoc, BI.sep_assoc'⟩
  iintro HX
  imod (Rounds.fund ER (Rd A B) allCells allToks) $$ HX with ⟨Hst, Hr, Hat, Htok⟩
  imodintro
  ihave Hst' := (ent_of_eq (hX fun g => roundState ER (Rd A B) g 0)) $$ Hst
  ihave Hat' := (ent_of_eq (hX fun g => atPos ER g 0 ∅ 0)) $$ Hat
  ihave Hr' := (ent_of_eq (hX fun g => reached ER g 0)) $$ Hr
  ihave Htok' := (ent_of_eq hT) $$ Htok
  unfold G; simp only [bigSep_sep']
  iframe Hst' Hat' Hr' Htok'

/-! ## The semaphores at zero -/

/-- The kernel's own semaphores: exit, and the transfers'. -/
def osem : Unit ⊕ (Bool × Tx) → SemLoc sig
  | .inl _ => csem (.inl true)
  | .inr x => csem (.inr x)

theorem ownSems0_eq (c : Dev nD) : (Pipeline.ownSems0 (Ix := Unit) (Name := ℕ) (U := UU) (Lvl := ℕ) (Val := Elt F) (τ := τ) osem c : sProp 𝕄)
    = iprop(semVal (kc c (.inl true)) 0 ∗ (bigSep Finset.univ fun k : Tx => ZS c k.1 k.2) ∗ (bigSep Finset.univ fun k : Tx => ZR c k.1 k.2)) := by
  unfold Pipeline.ownSems0
  rw [bigSep_univ_sum, bigSep_univ_prod, two, bigSep_univ_of_subsingleton (i := ())]
  rfl

theorem unscopedSems0_eq (c : Dev nD) : (unscopedSems0 c : sProp 𝕄) = semVal (kc c (.inl false)) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kc c k) 0 : sProp 𝕄) := by
  rw [ownSems0_eq, unscopedSems0_eq, ki_split]
  unfold ZS ZR
  iintro ⟨⟨HE, HS, HR⟩, HB⟩
  iframe HB HE HS HR

/-! ## The records made -/

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k => iprop(∃ κ : ℕ, cellInv ER (Rd A B) κ (kc c k)))
          ∗ (bigSep Finset.univ fun k => iprop(atPos ER (kc c k) 0 ∅ 0 ∗ reached ER (kc c k) 0)) ∗ toks c) := by
  unfold G
  iintro ⟨Hos, Hus, Hst, Hat, Htok⟩
  ihave Hv := (sems0_eq (F := F) c) $$ [$Hos $Hus]
  imod (show iprop((bigSep Finset.univ fun k : KI => semVal (kc c k) 0) ∗ bigSep Finset.univ fun k : KI => roundState ER (Rd A B) (kc c k) 0)
      ⊢ (|={Set.univ}=> bigSep Finset.univ fun k => iprop(∃ κ : ℕ, cellInv ER (Rd A B) κ (kc c k)) : sProp 𝕄) from by
        rw [← bigSep_sep']
        exact (bigSep_mono fun k _ => (Rounds.body_intro ER (Rd A B) (kc c k)).trans inv_alloc).trans (bigSep_fupd _ _)) $$ [Hv Hst] with Hinv
  · isplitl [Hv] <;> iassumption
  imodintro
  iframe Hinv Hat Htok

theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : KI => iprop(∃ κ : ℕ, cellInv ER (Rd A B) κ (kc c k)))
          ∗ (bigSep Finset.univ fun k : KI => iprop(atPos ER (kc c k) 0 ∅ 0 ∗ reached ER (kc c k) 0)) ∗ toks c) : sProp 𝕄)
      ⊢ bigSep Finset.univ (G' A B) := by
  rw [bigSep_sep', bigSep_sep', ← bigSep_univ_prod (fun ck : Dev nD × KI => iprop(∃ κ : ℕ, cellInv ER (Rd A B) κ (kc ck.1 ck.2))),
    bigSep_congr (s := Finset.univ) (fun (c : Dev nD) _ => bigSep_sep' Finset.univ (fun k : KI => (atPos ER (kc c k) 0 ∅ 0 : sProp 𝕄)) (fun k => reached ER (kc c k) 0)),
    bigSep_sep', ← bigSep_univ_prod (fun ck : Dev nD × KI => (reached ER (kc ck.1 ck.2) 0 : sProp 𝕄))]
  iintro ⟨HI, ⟨Hat, #HR⟩, Htok⟩
  ihave HK := (BI.bigSep_exists_pi Finset.univ (fun (ck : Dev nD × KI) (κ : ℕ) => (cellInv ER (Rd A B) κ (kc ck.1 ck.2) : sProp 𝕄))) $$ HI
  icases HK with ⟨%K, #HI⟩
  ihave Htk := (toks_across (F := F)) $$ Htok
  iapply (with_all (R := records0 A B K) (Φ := fun c : Dev nD => iprop((bigSep Finset.univ fun k : KI => atPos ER (kc c k) 0 ∅ 0) ∗ payToks c)) fun c _ => by
    unfold G'
    iintro ⟨#H, H1, H2⟩
    iframe H1 H2
    iexists K; iexact H)
  isplitr
  · unfold records0; isplitl; · iexact HI
    iexact HR
  · rw [bigSep_sep']
    iframe Hat Htk

/-- The semaphores of all devices at once. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

/-! ## The credit -/

/-- How many units, over all devices' debts, are due on a semaphore. -/
theorem due_count : ∀ k : KI, (Finset.univ.filter fun i : Fin 48 => iki i = k).card
    = match k with | .inl _ => 6 | .inr (b, _) => if b then 1 else 0 := by decide +kernel

/-- What is due on a cell, one debt at a time: of all devices just the partner owes it. -/
theorem due_one (c : Dev nD) (k : KI) (i : Fin 48) :
    (∑ d : Dev nD, (tallyAt (icell d i) () (kamt (some (iki i))) : CellTallies nD τ sig Unit) (kc c k) ()) = if iki i = k then kamt (some k) else 0 := by
  rw [Finset.sum_eq_single (pr (mask6 (iq i)) c) (fun d _ hd => ?_) (fun h => absurd (Finset.mem_univ _) h)]
  · rw [tallyAt_apply, icell, pr_pr]
    by_cases h : iki i = k
    · subst h; rw [if_pos ⟨rfl, rfl⟩, if_pos rfl]
    · rw [if_neg h, if_neg (fun h' => h (kc_inj h'.1).2.symm)]
  · rw [tallyAt_apply, icell, if_neg]
    rintro ⟨h, -⟩
    exact hd (by rw [(kc_inj h).1, pr_pr])

theorem due_all (c : Dev nD) (k : KI) : (∑ d : Dev nD, owedFrom 0 d (kc c k) ())
    = (Finset.univ.filter fun i : Fin 48 => iki i = k).card * kamt (some k) := by
  have h : ∀ d : Dev nD, owedFrom 0 d (kc c k) () = ∑ i : Fin 48, (tallyAt (icell d i) () (kamt (some (iki i))) : CellTallies nD τ sig Unit) (kc c k) () := fun d => by
    unfold owedFrom
    rw [Finset.filter_true_of_mem (fun i _ => Nat.zero_le _), Finset.sum_apply, Finsupp.finsetSum_apply]
  rw [Finset.sum_congr rfl fun d _ => h d, Finset.sum_comm, Finset.sum_congr rfl fun i _ => due_one c k i, ← Finset.sum_filter, Finset.sum_const, smul_eq_mul]

theorem launch_k (c : Dev nD) (k : KI) :
    tallyOn (kc c k) (launchCredit (Pipeline.owing (owedFrom 0)) 0 (kc c k))
      = (tallyAt (kc c k) () ((Finset.univ.filter fun i : Fin 48 => iki i = k).card * kamt (some k)) : CellTallies nD τ sig Unit) := by
  unfold tallyAt; refine congrArg _ (Finsupp.ext fun u => ?_); cases u
  rw [Pipeline.launchCredit_owing, Finsupp.single_eq_same, due_all]

theorem creds (c : Dev nD) :
    (Pipeline.launchCred (owedFrom 0) c : sProp 𝕄) ⊢ iprop((cred (tallyAt (kc c (.inl false)) () 6) ∗ cred (tallyAt (kc c (.inl true)) () 6))
      ∗ bigSep Finset.univ fun k : Tx => cred (tallyAt (rcvC c k.1 k.2) () (amt k.2))) := by
  unfold Pipeline.launchCred
  refine (bigSep_subset (Finset.subset_univ (Finset.univ.map ⟨csem, csem_inj⟩))).trans ?_
  rw [bigSep_map]
  have e : ∀ k : KI, (cred (tallyOn ((c : Thread nD τ), csem k) (launchCredit (Pipeline.owing (owedFrom 0)) 0 ((c : Thread nD τ), csem k))) : sProp 𝕄)
      = cred (tallyAt (kc c k) () ((match k with | .inl _ => 6 | .inr (b, _) => if b then 1 else 0) * kamt (some k))) := fun k => by
    rw [← due_count k]; exact congrArg _ (launch_k c k)
  refine (ent_of_eq (bigSep_congr fun k _ => e k)).trans ?_
  rw [ki_split]
  iintro ⟨⟨H1, H2⟩, -, H3⟩
  have e3 : (bigSep Finset.univ fun k : Tx => (cred (tallyAt (kc c (.inr (true, k))) () ((if true = true then 1 else 0) * kamt (some (.inr (true, k))))) : sProp 𝕄))
      = bigSep Finset.univ fun k : Tx => cred (tallyAt (rcvC c k.1 k.2) () (amt k.2)) := bigSep_congr fun k _ => by
    rw [if_pos rfl, one_mul]; rfl
  ihave H3 := (ent_of_eq e3) $$ H3
  iframe H3
  isplitl [H1]
  · iexact H1
  · iexact H2

end

end Cert.GemmProof
-- ==== Proof.Run.lean ====
/-
# The whole run

The pipeline stages both operand blocks, calls the kernel once, and writes its result back. Here the launch is put
together: what each device starts with comes from the deal and from its buffers, the kernel's run does the rest, and
what it ends with gives the semaphores back at zero. The run is stated for any float values.
-/
module

public import proofs.«01_k».proof.Proof.Deal
public import proofs.«01_k».proof.Proof.Gen.KernelIdeal.Points
public import Idealize.ShloMosaic.Lib.Pipeline.CollectiveSegs

@[expose] public section

set_option maxRecDepth 65536

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Buffers held whole -/

theorem any_in {s : Shape} {e : EltTy} {b : Memref sig .tc .vmem s e} (hb : b.IsWhole) (c : Dev nD) :
    (iprop(∃ f : Buf (Elt F) (b.view.loc (c : Thread nD τ)), b.view.loc (c : Thread nD τ) ↦{fullShare} f) : sProp 𝕄) ⊢ Any b c Finset.univ := by
  iintro ⟨%f, H⟩
  ihave H := (own_whole hb f) $$ H
  iapply (any_of); iexact H

theorem any_out {s : Shape} {e : EltTy} {b : Memref sig .tc .vmem s e} (hb : b.IsWhole) (c : Dev nD) :
    (Any b c Finset.univ : sProp 𝕄) ⊢ iprop(∃ f : Buf (Elt F) (b.view.loc (c : Thread nD τ)), b.view.loc (c : Thread nD τ) ↦{fullShare} f) := by
  unfold Any
  iintro ⟨%g, H⟩
  ihave H := (own_whole_out hb) $$ H
  icases H with ⟨%f, %hf, H⟩
  iexists f; iexact H

theorem whole_z : ∀ t, (zbM t).IsWhole := fun t => by fin_cases t <;> exact Memref.isWhole_whole _
theorem whole_r : ∀ t, (rsM t).IsWhole := fun t => by fin_cases t <;> exact Memref.isWhole_whole _
theorem whole_a : ∀ t, (agM t).IsWhole := fun t => by fin_cases t <;> exact Memref.isWhole_whole _

/-- A buffer at some contents. -/
def Sm {s : Shape} {e : EltTy} (b : Memref sig .tc .vmem s e) (c : Dev nD) : sProp 𝕄 :=
  iprop(∃ f : Buf (Elt F) (b.view.loc (c : Thread nD τ)), b.view.loc (c : Thread nD τ) ↦{fullShare} f)

theorem rest_eq (c : Dev nD) :
    (Pipeline.scopedRest (Ix := Unit) (Name := ℕ) (U := UU) (Lvl := ℕ) (Val := Elt F) spec0 c : sProp 𝕄)
      = iprop(Sm zM c ∗ Sm (zbM 0) c ∗ Sm (rsM 0) c ∗ Sm (agM 0) c ∗ Sm (zbM 1) c ∗ Sm (rsM 1) c ∗ Sm (agM 1) c
        ∗ Sm (zbM 2) c ∗ Sm (rsM 2) c ∗ Sm (agM 2) c) := by
  rw [scopedRest0_eq]; rfl

theorem rest_in (c : Dev nD) :
    (Pipeline.scopedRest (Ix := Unit) (Name := ℕ) (U := UU) (Lvl := ℕ) (Val := Elt F) spec0 c : sProp 𝕄)
      ⊢ iprop(Any zM c Finset.univ ∗ bigSep Finset.univ fun t : Fin 3 => Bufs c t) := by
  rw [rest_eq, three]
  unfold Bufs Sm
  iintro ⟨H0, H1, H2, H3, H4, H5, H6, H7, H8, H9⟩
  ihave H0 := (any_in (Memref.isWhole_whole _) c) $$ H0
  ihave H1 := (any_in (whole_z 0) c) $$ H1
  ihave H2 := (any_in (whole_r 0) c) $$ H2
  ihave H3 := (any_in (whole_a 0) c) $$ H3
  ihave H4 := (any_in (whole_z 1) c) $$ H4
  ihave H5 := (any_in (whole_r 1) c) $$ H5
  ihave H6 := (any_in (whole_a 1) c) $$ H6
  ihave H7 := (any_in (whole_z 2) c) $$ H7
  ihave H8 := (any_in (whole_r 2) c) $$ H8
  ihave H9 := (any_in (whole_a 2) c) $$ H9
  iframe H0 H1 H2 H3 H4 H5 H6 H7 H8 H9

theorem rest_out (c : Dev nD) :
    (iprop(Any zM c Finset.univ ∗ bigSep Finset.univ fun t : Fin 3 => Bufs c t) : sProp 𝕄)
      ⊢ Pipeline.scopedRest (Ix := Unit) (Name := ℕ) (U := UU) (Lvl := ℕ) (Val := Elt F) spec0 c := by
  rw [rest_eq, three]
  unfold Bufs Sm
  iintro ⟨H0, ⟨H1, H2, H3⟩, ⟨H4, H5, H6⟩, ⟨H7, H8, H9⟩⟩
  ihave H0 := (any_out (Memref.isWhole_whole _) c) $$ H0
  ihave H1 := (any_out (whole_z 0) c) $$ H1
  ihave H2 := (any_out (whole_r 0) c) $$ H2
  ihave H3 := (any_out (whole_a 0) c) $$ H3
  ihave H4 := (any_out (whole_z 1) c) $$ H4
  ihave H5 := (any_out (whole_r 1) c) $$ H5
  ihave H6 := (any_out (whole_a 1) c) $$ H6
  ihave H7 := (any_out (whole_z 2) c) $$ H7
  ihave H8 := (any_out (whole_r 2) c) $$ H8
  ihave H9 := (any_out (whole_a 2) c) $$ H9
  iframe H0 H1 H2 H3 H4 H5 H6 H7 H8 H9

/-! ## The pipeline's data -/

variable (m : (ℓ : Loc nD τ sig) → Buf (Elt F) ℓ) (ρ : Dev nD → PrngReg)

def s₀ : MemSt nD τ sig (Elt F) := ⟨m, fun _ => 0, ρ⟩

/-- The operand blocks, as staged. -/
def Ain (c : Dev nD) : S1536x768.Idx → F .bf16 := (win0_0.blk (0 : Fin 1)).view.read (Elt F) (m ((c : Thread nD τ).loc main_arg0))
def Bin (c : Dev nD) : S768x1536.Idx → F .bf16 := (win0_1.blk (0 : Fin 1)).view.read (Elt F) (m ((c : Thread nD τ).loc main_arg1))

/-- What device `c` starts with beside its buffers and debts. -/
def start (c : Dev nD) : sProp 𝕄 :=
  iprop((∃ K, records (Ain m) (Bin m) K)
    ∗ (bigSep Finset.univ fun q : Fin 6 => dutyTok ER (kc (pr (mask6 q) c) (.inl false)) 0 q) ∗ (bigSep Finset.univ fun q : Fin 6 => Unit1 c q)
    ∗ (atPos ER (kc c (.inl false)) 0 ∅ 0 ∗ cred (tallyAt (kc c (.inl false)) () 6))
    ∗ (atPos ER (kc c (.inl true)) 0 ∅ 0 ∗ cred (tallyAt (kc c (.inl true)) () 6))
    ∗ (bigSep Finset.univ fun k : Tx => Kit0 c k))

def Φ₀ (c : Dev nD) : sProp 𝕄 := iprop(start m c ∗ Any zM c Finset.univ ∗ bigSep Finset.univ fun t : Fin 3 => Bufs c t)
def Φ₁ (c : Dev nD) : sProp 𝕄 :=
  iprop((Any zM c Finset.univ ∗ bigSep Finset.univ fun t : Fin 3 => Bufs c t) ∗ semVal (kc c (.inl false)) 0 ∗ semVal (kc c (.inl true)) 0
    ∗ (bigSep Finset.univ fun k : Tx => Done c k.1 k.2))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Ain m c
    | ⟨1, _⟩ => Bin m c
    | ⟨2, _⟩ => outF (Ain m) (Bin m)
  Φ t := match t with
    | ⟨0, _⟩ => Φ₀ m c
    | ⟨_ + 1, _⟩ => Φ₁ c
  q _ := fullShare
  owed t := match t with
    | ⟨0, _⟩ => owedFrom 0 c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_in {s : Shape} {e : EltTy} (b : Ref sig .tc) (c : Dev nD) (bM : Memref sig .tc .vmem s e) (hb : bM.IsWhole)
    (X : Buf (Elt F) (bM.view.loc (c : Thread nD τ))) (g : s.Idx → Elt F e) (hg : bM.view.read (Elt F) X = g) :
    (bM.view.loc (c : Thread nD τ) ↦{fullShare} X : sProp 𝕄) ⊢ Own bM c Finset.univ fullShare g := by
  subst hg; exact own_whole hb X

def t₀ : Fin cfg0.N := t0_0
theorem fin_N (t : Fin cfg0.N) : t = t₀ := fin_N0 t

def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (Ain m c) ∗ stg c cc0_stg1_0 (Bin m c)
    ∗ stg c cc0_stg2_0 (outF (Ain m) (Bin m)))

theorem own_stg (b : Ref sig .tc) (c : Dev nD) {s : Shape} {e : EltTy} {bM : Memref sig .tc .vmem s e} (hb : bM.IsWhole) {g : s.Idx → Elt F e} :
    (Own bM c Finset.univ fullShare g : sProp 𝕄)
      ⊢ iprop(∃ f : Buf (Elt F) (bM.view.loc (c : Thread nD τ)), ⌜bM.view.read (Elt F) f = g⌝ ∗ (bM.view.loc (c : Thread nD τ) ↦{fullShare} f)) :=
  own_whole_out hb

set_option maxHeartbeats 800000 in
theorem body_sound (c : Dev nD) :
    bodyPre m ρ c ⊢ wpc c (onBufs (cc0_body (F := F))) (fun _ => bodyPost m ρ c) := by
  rw [cc0_body_eq_skeleton]; unfold onBufs cc0_body_skel wpc
  rw [wp_bind]
  unfold bodyPre Φ₀ start
  iintro ⟨⟨⟨⟨%K, #Hrec⟩, HT, HE, Hb, Hx, HK⟩, HZ, HB⟩, Ho, ⟨%d0, %g0, %h0, H0⟩, ⟨%d1, %g1, %h1, H1⟩, ⟨%d2, %g2, %h2, H2⟩⟩
  have e0 : g0 = Ain m c := by rw [h0]; unfold Dat.before; rw [if_pos (fetch0_0 t₀)]; rfl
  have e1 : g1 = Bin m c := by rw [h1]; unfold Dat.before; rw [if_pos (fetch0_1 t₀)]; rfl
  subst e0 e1
  unfold Dat.owesAt Pipeline.owesWithin
  icases Ho with ⟨%W, %hW, HO⟩
  ihave H0 := (stg_in cc0_stg0_0 c aM (Memref.isWhole_whole _) _ (Ain m c) (View.read_whole _ _)) $$ H0
  ihave H1 := (stg_in cc0_stg1_0 c bM (Memref.isWhole_whole _) _ (Bin m c) (View.read_whole _ _)) $$ H1
  ihave H2 := (own_whole (m := oM) (Memref.isWhole_whole _) g2) $$ H2
  ihave H2 := (any_of) $$ H2
  iapply (body_run (A := Ain m) (B := Bin m) (K := K) c) $$ Hrec [HT HE Hb Hx HK HZ HB HO H0 H1 H2]
  · unfold Start Ops Ow
    iframe H0 H1 H2 HZ HB HT HE Hb Hx HK
    iexists W; iexact HO
  unfold End Ops Ow
  iintro ⟨⟨H0, H1⟩, H2, HZ, HB, Hb, Hx, HD, ⟨%W', HO⟩⟩
  rw [Prog.pure_eq_ret, wp_ret]; imodintro
  ihave H0 := (own_stg cc0_stg0_0 c (Memref.isWhole_whole _)) $$ H0
  icases H0 with ⟨%f0, %e0, H0⟩
  ihave H1 := (own_stg cc0_stg1_0 c (Memref.isWhole_whole _)) $$ H1
  icases H1 with ⟨%f1, %e1, H1⟩
  ihave H2 := (own_stg cc0_stg2_0 c (Memref.isWhole_whole _)) $$ H2
  icases H2 with ⟨%f2, %e2, H2⟩
  unfold bodyPost Φ₁ Dat.owesAt Pipeline.owesWithin
  rw [show (dats m ρ 0 c).owed t₀.succ = 0 from rfl, ← owed_done c]
  isplitl [HZ HB Hb Hx HD]
  · iframe HZ HB Hb Hx HD
  isplitl [HO]
  · iexists W'
    isplitr; · ipureintro; exact fun _ _ => Or.inl trivial
    iexact HO
  isplitl [H0]
  · iexists f0; isplitr; · ipureintro; exact e0
    iexact H0
  isplitl [H1]
  · iexists f1; isplitr; · ipureintro; exact e1
    iexact H1
  iexists f2; isplitr; · ipureintro; exact e2
  iexact H2

/-- The kernel's one call, as the pipeline asks for it. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact body_sound m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred (owedFrom 0) c ∗ prngReg c (ρ c) ∗ G' (Ain m) (Bin m) c)
      ⊢ |={Set.univ}=> iprop(start m c ∗ emp) := by
  unfold G' payToks records0
  rw [ki_split]
  iintro ⟨-, #Hlev, Hcr, -, ⟨%K, #HI, #HR⟩, ⟨⟨Hab, Hax⟩, Has, Har⟩, Ht, Hu, Hts, Htr⟩
  ihave Hc := (creds (F := F) c) $$ Hcr
  icases Hc with ⟨⟨Hcb, Hcx⟩, Hcr⟩
  imodintro
  isplitl
  · unfold start Kit0
    simp only [bigSep_sep']
    isplitr
    · iexists K
      unfold records
      isplitr; · iexact HI
      isplitr; · iexact HR
      iexact Hlev
    iframe Ht Hu Hab Hcb Hax Hcx Has Har Hts Htr Hcr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  ihave Hr := (rest_in c) $$ Hr
  iframe Hs Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁ Done
  rw [bigSep_sep']
  iintro ⟨Hr, Hb, Hx, HS, HR⟩
  ihave Hr := (rest_out c) $$ Hr
  iframe Hb Hx HS HR Hr

theorem wait_stage (c : Dev nD) (q : DmaSem sig) (hq : q.val < 3) (O : CellTallies nD τ sig Unit) (hO : O = owedFrom 0 c ∨ O = 0) :
    (levAts L lv : sProp 𝕄) ⊢ MayWait (c : Thread nD τ) (.dma q) () O := by
  rcases hO with rfl | rfl
  · refine mayWait_at c (.dma q) 0 0 ?_ (fun i _ => ?_)
    · show klev (if q.val < 3 then none else _) ≤ 0
      rw [if_pos hq]; exact Nat.le_refl 0
    · rw [ilev]
      split
      · omega
      · split <;> omega
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    wait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every run ends, with each array as the pipeline leaves it and every counter at
    zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => block_pos0 w) (harr := arr_whole0) (hstage := stage_whole0) (hshare := share_eq m ρ)
    (hdistinct := winFacts0.arr_inj)
    (O₀ := owedFrom 0) (howed₀ := fun _ => rfl) (howedN := fun _ => rfl)
    (L := L) (lv := lv) (hL := L_of_ne) (hwaits := waits m ρ)
    (G := G (Ain m) (Bin m)) (G' := G' (Ain m) (Bin m)) (u₀ := u₀)
    (hu₀ := by
      unfold u₀
      iintro Hu
      ihave H := (ownU_pair _ _) $$ Hu
      icases H with ⟨HP, HX⟩
      imod (fund_all (Ain m) (Bin m)) $$ HX with HG
      imodintro
      isplitl [HP] <;> iassumption)
    (hglob := glob (Ain m) (Bin m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands after the run are as they were. -/
theorem finalA_a (c : Dev nD) : finalA m ρ c (0 : Fin 3) = m ((c : Thread nD τ).loc main_arg0) :=
  (dats (F := F) m ρ 0 c).arrAt_in (0 : Fin 3) rfl _
theorem finalA_b (c : Dev nD) : finalA m ρ c (1 : Fin 3) = m ((c : Thread nD τ).loc main_arg1) :=
  (dats (F := F) m ρ 0 c).arrAt_in (1 : Fin 3) rfl _

end Cert.GemmProof
-- ==== Proof.Same.lean ====
/-
# The two programs have one text

The kernel and its reading over the extended reals are printed from the same module without a rewrite: their bodies
and their tables are the same terms.
-/
module

public import proofs.«01_k».proof.Defs
public import proofs.«01_k».proof.Proof.Gen.Kernel
public import proofs.«01_k».proof.Proof.Gen.KernelIdeal

@[expose] public section

set_option maxRecDepth 65536

noncomputable section

namespace Cert.Proof

open Idealize.ShloMosaic Idealize.SL.Sem

theorem main_same : Cert.Kernel.main (F := Bits) = Cert.KernelIdeal.main (F := Bits) := rfl

theorem bodies_same : Cert.Kernel.defs₀ (F := Bits) = Cert.KernelIdeal.defs₀ (F := Bits) :=
  congrArg Defs.onTc (funext fun ℓ => funext fun p => by
    match ℓ, p with
    | 0, (t, s) => exact rfl
    | ⟨_ + 1, h⟩, _ => exact absurd h (Nat.not_lt.2 (Nat.le_add_left _ _)))

theorem defs_same : Cert.Kernel.defs (F := Bits) = Cert.KernelIdeal.defs (F := Bits) :=
  congrArg (Pipeline.defs (Cert.Kernel.pcfgs (F := Bits))) bodies_same

end Cert.Proof

end
-- ==== Proof.Total.lean ====
/-
# The value, over the extended reals

A change of format is the identity there and a sum may be taken in any order, so the sum a device ends with is the sum
of all thirty-two devices' products, which is the whole contraction; and the kernel's silu is the reference's.
-/
module

public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.KernelVsHost
public import Idealize.ShloMosaic.Lib.IdealHost
public import Idealize.ShloMosaic.Lib.Layout
public import Idealize.ShloMosaic.Lib.Pipeline.ValueKit.Geometry

@[expose] public section

set_option maxRecDepth 65536

noncomputable section

namespace Cert.GemmProof

open Cert.KernelIdeal Cert.KernelIdeal.Gen
open Idealize.ShloMosaic Idealize.ShloMosaic.TcCoe Idealize.ShloMosaic.ValueIdx
open scoped BigOperators

/-! ## Whose products a sum holds -/

/-- The devices whose products are in `c`'s sum after `s` halvings. -/
def Who (t : Fin 3) : ℕ → Dev nD → List (Dev nD)
  | 0, c => [c]
  | s + 1, c => Who t s c ++ Who t s (peer t (sx s) c)

/-- The devices whose products are in the full sum. -/
def Everyone (t : Fin 3) (c : Dev nD) : List (Dev nD) := Who t 3 c ++ Who t 3 (pr 4 c) ++ Who t 3 (pr 16 c) ++ Who t 3 (pr 20 c)

/-- They are all the devices, each once. -/
theorem everyone : ∀ (t : Fin 3) (c : Dev nD), (Everyone t c).Perm (List.finRange 32) := by decide +kernel

section Sums

variable (A : Dev nD → S1536x768.Idx → Ideal .bf16) (B : Dev nD → S768x1536.Idx → Ideal .bf16)

theorem acc_sum (t : Fin 3) (i : S1536x512.Idx) : ∀ (s : ℕ) (c : Dev nD),
    (Acc A B t s c i : EReal) = ((Who t s c).map fun d => (prod0 A B t d i : EReal)).sum
  | 0, c => by
    show (prod0 A B t c i : EReal) = _
    rw [Who, List.map_singleton, List.sum_singleton]
  | s + 1, c => by
    show (Acc A B t s c i : EReal) + (Acc A B t s (peer t (sx s) c) i : EReal) = _
    rw [acc_sum t i s, acc_sum t i s, Who, List.map_append, List.sum_append]

theorem tot_sum (t : Fin 3) (c : Dev nD) (i : S1536x512.Idx) :
    (Tot A B t c i : EReal) = ∑ d : Fin 32, (prod0 A B t d i : EReal) := by
  show (Acc A B t 3 c i : EReal) + (Acc A B t 3 (pr 4 c) i : EReal) + (Acc A B t 3 (pr 16 c) i : EReal)
    + (Acc A B t 3 (pr 20 c) i : EReal) = _
  rw [acc_sum A B, acc_sum A B, acc_sum A B, acc_sum A B, ← List.sum_append, ← List.sum_append, ← List.sum_append,
    ← List.map_append, ← List.map_append, ← List.map_append, Fin.sum_univ_def]
  exact ((everyone t c).map _).sum_eq

/-- One device's product at an index: a contraction of length 768. -/
theorem prod_sum (t : Fin 3) (c : Dev nD) (i : S1536x512.Idx) :
    (prod0 A B t c i : EReal) = ∑ k : Fin 768, (A c (ax (row (n := 1536) (w := 512) i) k.val) : EReal)
      * (B c (bx k.val (512 * t.val + col (n := 1536) (w := 512) i)) : EReal) := by
  have hr := row_lt (n := 1536) (w := 512) i
  have hc := col_lt (n := 1536) (w := 512) i
  have e : hx (row (n := 1536) (w := 512) i % 768) (col (n := 1536) (w := 512) i)
      = ix2 (⟨row (n := 1536) (w := 512) i % 768, by omega⟩ : Fin 768) (⟨col (n := 1536) (w := 512) i, hc⟩ : Fin 512) :=
    idx2_ext (n := 768) (w := 512) (Nat.mod_mod _ _) (Nat.mod_eq_of_lt hc)
  unfold prod0 k0_pay1
  rw [shapeCast_self, shapeCast_self, shapeCast_self, e]
  refine (Ideal.matmul_plain_apply (M := 768) (K := 768) (N := 512) none _ _ _ _ _).trans ?_
  refine (congrArg (· + _) (show (constant S768x512 .f32 0x00000000#32 : FVec Ideal S768x512 .f32) _ = (0 : EReal) from Ideal.ofBits_zero_f32)).trans
    ((zero_add _).trans (Finset.sum_congr rfl fun k _ => ?_))
  refine congrArg₂ (· * ·) (congrArg (A c) ?_) rfl
  refine congrArg (fun r => ax r k.val) ?_
  show 768 * (row (n := 1536) (w := 512) i / 768) + row (n := 1536) (w := 512) i % 768 = _
  omega

end Sums

/-! ## The silu -/

theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

/-- The product with a reciprocal is the quotient: the denominator is at least one. -/
theorem silu_eq (z : Ideal .f32) :
    (sl z : EReal) = Ideal.div z (Ideal.ofBits .f32 0x3F800000#32 + Ideal.exp (-(z : EReal))) := by
  show (z : EReal) * Ideal.div (Ideal.ofBits .f32 0x3F800000#32)
    (Ideal.ofBits .f32 0x3F800000#32 + Ideal.exp (Ideal.ofBits .f32 0x00000000#32 - (z : EReal))) = _
  rw [Ideal.ofBits_zero_f32, zero_sub, Ideal.ofBits_one_f32]
  have h : (1 : EReal) + Ideal.exp (-(z : EReal)) ≠ 0 := by
    have h1 : (1 : EReal) ≤ 1 + Ideal.exp (-(z : EReal)) := le_add_of_nonneg_right (exp_nonneg _)
    exact (lt_of_lt_of_le zero_lt_one h1).ne'
  unfold Ideal.div
  rw [if_neg h, if_neg h, one_mul]

/-! ## The arrays -/

section Arrays
variable {F : FTy → Type} [FloatOps F] (m : (ℓ : Loc nD τ sig) → Buf (Elt F) ℓ) (ρ : Dev nD → PrngReg)

/-- Each operand is staged whole. -/
theorem Ain_eq (c : Dev nD) : Ain m c = m ((c : Thread nD τ).loc main_arg0) := by
  funext i
  show m ((c : Thread nD τ).loc main_arg0) ((win0_0.blk (0 : Fin 1)).view.emb i) = _
  refine congrArg (m ((c : Thread nD τ).loc main_arg0)) (idx2_ext (n := 1536) (w := 768) ?_ ?_)
  · exact win0_0.rect_emb_val_of_index_zero (⟨0, by decide⟩ : Fin grid0.N) (0 : Fin 2) (by decide +kernel) i
  · exact win0_0.rect_emb_val_of_index_zero (⟨0, by decide⟩ : Fin grid0.N) (1 : Fin 2) (by decide +kernel) i
theorem Bin_eq (c : Dev nD) : Bin m c = m ((c : Thread nD τ).loc main_arg1) := by
  funext i
  show m ((c : Thread nD τ).loc main_arg1) ((win0_1.blk (0 : Fin 1)).view.emb i) = _
  refine congrArg (m ((c : Thread nD τ).loc main_arg1)) (idx2_ext (n := 768) (w := 1536) ?_ ?_)
  · exact win0_1.rect_emb_val_of_index_zero (⟨0, by decide⟩ : Fin grid0.N) (0 : Fin 2) (by decide +kernel) i
  · exact win0_1.rect_emb_val_of_index_zero (⟨0, by decide⟩ : Fin grid0.N) (1 : Fin 2) (by decide +kernel) i

/-- The result is written back whole. -/
theorem finalA_o (c : Dev nD) : finalA m ρ c (2 : Fin 3) = outF (Ain m) (Bin m) := by
  refine (dats (F := F) m ρ 0 c).arrAt_eq_of_after_last (2 : Fin 3) (⟨0, by decide⟩ : Fin grid0.N)
    (show win0_2.WholeAt (⟨0, by decide⟩ : Fin grid0.N) by decide +kernel) _ fun j => ?_
  rfl

end Arrays

/-! ## The whole value -/

section Value

/-- The sum over the devices of their contractions is the whole contraction. -/
theorem whole_sum (f : Fin 24576 → EReal) :
    (∑ d : Fin 32, ∑ k : Fin 768, f ⟨768 * d.val + k.val, by omega⟩) = ∑ k : Fin 24576, f k := by
  rw [← Fintype.sum_prod_type', ← Equiv.sum_comp (finProdFinEquiv (m := 32) (n := 768)) (fun k : Fin (32 * 768) => f k)]
  refine Finset.sum_congr rfl fun x _ => congrArg f (Fin.ext ?_)
  exact Nat.add_comm _ _

variable (A : Dev nD → S1536x768.Idx → Ideal .bf16) (B : Dev nD → S768x1536.Idx → Ideal .bf16)
  (X : Cert.ReferenceIdeal.S1536x24576.Idx → Ideal .bf16) (Y : Cert.ReferenceIdeal.S24576x1536.Idx → Ideal .bf16)

/-- Of operands that are the blocks of two whole arrays, the full sum is an entry of the whole product. -/
theorem tot_dot (hA : ∀ c, A c = Layout.block ⟨2, ![1536, 768]⟩ ⟨2, ![1536, 24576]⟩ 1 32 c X)
    (hB : ∀ c, B c = Layout.block ⟨2, ![768, 1536]⟩ ⟨2, ![24576, 1536]⟩ 0 32 c Y) (c : Dev nD) (i : S1536x1536.Idx) :
    (Tot A B (strm (col (n := 1536) (w := 1536) i)) c (ix (row (n := 1536) (w := 1536) i) (col (n := 1536) (w := 1536) i)) : EReal)
      = ∑ k : Fin 24576, (X (ix2 (i 0) k) : EReal) * (Y (ix2 k (i 1)) : EReal) := by
  have hr := row_lt (n := 1536) (w := 1536) i
  have hc := col_lt (n := 1536) (w := 1536) i
  rw [tot_sum, ← whole_sum]
  refine Finset.sum_congr rfl fun d _ => ?_
  rw [prod_sum, row_ix, col_ix, hA, hB]
  refine Finset.sum_congr rfl fun k _ => congrArg₂ (· * ·) (congrArg X ?_) (congrArg Y ?_)
  · refine idx2_ext (n := 1536) (w := 24576) ?_ ?_
    · show row (n := 1536) (w := 1536) i % 1536 % 1536 = _
      rw [Nat.mod_mod, Nat.mod_eq_of_lt hr]
    · show d.val * 768 + k.val % 768 = 768 * d.val + k.val
      rw [Nat.mod_eq_of_lt k.isLt, Nat.mul_comm]
  · refine idx2_ext (n := 24576) (w := 1536) ?_ ?_
    · show d.val * 768 + k.val % 768 = 768 * d.val + k.val
      rw [Nat.mod_eq_of_lt k.isLt, Nat.mul_comm]
    · show (512 * (col (n := 1536) (w := 1536) i / 512 % 3) + col (n := 1536) (w := 1536) i % 512) % 1536 = col (n := 1536) (w := 1536) i
      omega

/-- What the reference computes of two whole arrays. -/
def refF : FVec Ideal Cert.ReferenceIdeal.S1536x1536 .f32 :=
  Host.divf (Host.dotGeneral Cert.ReferenceIdeal.dot_S1536x24576_S24576x1536_S1536x1536_1_0_0_1_n_n none X Y)
    (addf (broadcastInDim Cert.ReferenceIdeal.S1536x1536 ![] Cert.ReferenceIdeal.Facts₀.bcast_S_S1536x1536 (constant Cert.ReferenceIdeal.S_ .f32 0x3F800000#32))
      (Host.exp (Host.negf (Host.dotGeneral Cert.ReferenceIdeal.dot_S1536x24576_S24576x1536_S1536x1536_1_0_0_1_n_n none X Y))))

/-- The kernel's result is the reference's. -/
theorem value_eq (hA : ∀ c, A c = Layout.block ⟨2, ![1536, 768]⟩ ⟨2, ![1536, 24576]⟩ 1 32 c X)
    (hB : ∀ c, B c = Layout.block ⟨2, ![768, 1536]⟩ ⟨2, ![24576, 1536]⟩ 0 32 c Y) : outF A B = refF X Y := by
  funext i
  have hd : (Host.dotGeneral Cert.ReferenceIdeal.dot_S1536x24576_S24576x1536_S1536x1536_1_0_0_1_n_n none X Y i : EReal)
      = ∑ k : Fin 24576, (X (ix2 (i 0) k) : EReal) * (Y (ix2 k (i 1)) : EReal) := by
    conv_lhs => rw [eq_ix2 i]
    exact StackMember.dotGeneral_plain_apply (m := 1536) (n := 1536) (k := 24576) none X Y (i 0) (i 1)
  refine (silu_eq _).trans ?_
  rw [tot_dot A B X Y hA hB _ i, ← hd]
  rfl

end Value

end Cert.GemmProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Total
public import Idealize.ShloMosaic.Adequacy
public import Idealize.ShloMosaic.Init

@[expose] public section

noncomputable section

namespace Cert.Proof

open Idealize.ShloMosaic Idealize.SL.Sem Cert.Kernel

/-- The kernel's frame: its run, with the values dropped. -/
theorem frame_kernel : Cert.quiescent_Kernel := fun m ρ _ => by
  rw [defs_same, main_same]
  exact (θ_run (Cert.KernelIdeal.defs (F := Bits)) _ _).mono
    (fun _ h => ⟨fun c => ⟨(h.1 c (0 : Fin 3)).trans (Cert.GemmProof.finalA_a m ρ c), (h.1 c (1 : Fin 3)).trans (Cert.GemmProof.finalA_b m ρ c)⟩, h.2⟩)
    (Cert.GemmProof.run_main (F := Bits) m ρ)

/-- The same run over the extended reals. -/
theorem frame_ideal : Cert.quiescent_KernelIdeal := fun m ρ _ =>
  (θ_run Cert.KernelIdeal.defs _ _).mono
    (fun _ h => ⟨fun c => ⟨(h.1 c (0 : Fin 3)).trans (Cert.GemmProof.finalA_a m ρ c), (h.1 c (1 : Fin 3)).trans (Cert.GemmProof.finalA_b m ρ c)⟩, h.2⟩)
    (Cert.GemmProof.run_main (F := Ideal) m ρ)

/-- The reference's frame: it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The value: every device ends with the reference's result. -/
theorem value : Cert.algebraic_KernelIdeal_ReferenceIdeal := fun m ρ m' ρ' _ hm =>
  ⟨Cert.GemmProof.refF (m' ((0 : Dev Cert.ReferenceIdeal.nD).tc.loc Cert.ReferenceIdeal.main_arg0))
      (m' ((0 : Dev Cert.ReferenceIdeal.nD).tc.loc Cert.ReferenceIdeal.main_arg1)),
    (θ_run (Cert.KernelIdeal.defs (F := Ideal)) _ _).mono
      (fun _ h c => ⟨((h.1 c (2 : Fin 3)).trans (Cert.GemmProof.finalA_o m ρ c)).trans
          (Cert.GemmProof.value_eq _ _ _ _ (fun d => (Cert.GemmProof.Ain_eq m d).trans (hm d).1)
            (fun d => (Cert.GemmProof.Bin_eq m d).trans (hm d).2)),
        (h.1 c (0 : Fin 3)).trans (Cert.GemmProof.finalA_a m ρ c), (h.1 c (1 : Fin 3)).trans (Cert.GemmProof.finalA_b m ρ c)⟩)
      (Cert.GemmProof.run_main (F := Ideal) m ρ),
    (θ_run (Cert.ReferenceIdeal.defs (F := Ideal)) _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
